-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_table_KernelIdeal [hPre_ids_in_table_KernelIdeal : Cert.Pre_ids_in_table_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_table_ReferenceIdeal [hPre_ids_in_table_ReferenceIdeal : Cert.Pre_ids_in_table_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_table_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_table_KernelIdeal [hKernelIdeal : Cert.KernelIdeal.Facts] [hPre_ids_in_table_KernelIdeal : Cert.Pre_ids_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_table_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_table_ReferenceIdeal [hReferenceIdeal : Cert.ReferenceIdeal.Facts] [hPre_ids_in_table_ReferenceIdeal : Cert.Pre_ids_in_table_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_table_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_table_KernelIdeal [hKernelIdeal : Cert.KernelIdeal.Facts] [hReferenceIdeal : Cert.ReferenceIdeal.Facts] [hPre_ids_in_table_KernelIdeal : Cert.Pre_ids_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_table_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![65536, 256]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_table_KernelIdeal : Cert.Pre_ids_in_table_KernelIdeal.Facts) (hPre_ids_in_table_ReferenceIdeal : Cert.Pre_ids_in_table_ReferenceIdeal.Facts),
    quiescent_Kernel (hKernel := hKernel)
    ∧ quiescent_KernelIdeal (hKernelIdeal := hKernelIdeal)
    ∧ quiescent_KernelIdeal_pre_ids_in_table_KernelIdeal (hKernelIdeal := hKernelIdeal) (hPre_ids_in_table_KernelIdeal := hPre_ids_in_table_KernelIdeal)
    ∧ quiescent_ReferenceIdeal (hReferenceIdeal := hReferenceIdeal)
    ∧ quiescent_ReferenceIdeal_pre_ids_in_table_ReferenceIdeal (hReferenceIdeal := hReferenceIdeal) (hPre_ids_in_table_ReferenceIdeal := hPre_ids_in_table_ReferenceIdeal)
    ∧ preserves_Kernel_KernelIdeal
    ∧ algebraic_KernelIdeal_ReferenceIdeal_pre_ids_in_table_KernelIdeal (hKernelIdeal := hKernelIdeal) (hReferenceIdeal := hReferenceIdeal) (hPre_ids_in_table_KernelIdeal := hPre_ids_in_table_KernelIdeal)
-- ==== Pre_ids_in_table_KernelIdeal.lean ====
abbrev S2048x256 : Shape := ⟨2, ![2048, 256]⟩
abbrev S1024x1 : Shape := ⟨2, ![1024, 1]⟩
abbrev S_ : Shape := ⟨0, ![]⟩
abbrev S512x1 : Shape := ⟨2, ![512, 1]⟩

class Facts : Prop where
  bcast_S_S1024x1 : S_.BroadcastsInDim S1024x1 (![] : Fin 0 → Fin S1024x1.rank)
  reducesTo_S1024x1_S_d0_1 : S1024x1.ReducesTo [0, 1] S_
  h_S_ : 0 < S_.numel
  slices_S1024x1_S512x1_0_0 : S1024x1.Slices ![0, 0] S512x1
  slices_S1024x1_S512x1_512_0 : S1024x1.Slices ![512, 0] S512x1
  reducesTo_S512x1_S_d0_1 : S512x1.ReducesTo [0, 1] S_

variable [Facts]

def fn {F : FTy → Type} [FloatOps F] (main_arg0 : FVec F S2048x256 .f32) (main_arg1 : IVec S1024x1 32) : IVec S_ 1 :=
  let main_c : IVec S_ 32 := constantI S_ 32 0#32
  let main_v0 : IVec S1024x1 32 := broadcastInDim S1024x1 ![] bcast_S_S1024x1 main_c
  let main_v1 : IVec S1024x1 1 := cmpi .sge main_arg1 main_v0
  let main_c_0 : IVec S_ 32 := constantI S_ 32 65536#32
  let main_v2 : IVec S1024x1 32 := broadcastInDim S1024x1 ![] bcast_S_S1024x1 main_c_0
  let main_v3 : IVec S1024x1 1 := cmpi .slt main_arg1 main_v2
  let main_v4 : IVec S1024x1 1 := andi main_v1 main_v3
  let main_c_1 : IVec S_ 1 := constantI S_ 1 1#1
  let main_v5 : IVec S_ 1 := (fun x v => Host.reduce IntOp.andi x v reducesTo_S1024x1_S_d0_1 h_S_) main_v4 main_c_1
  let main_v6 : IVec S512x1 32 := (extractStridedSlice S512x1 ![0, 0] · slices_S1024x1_S512x1_0_0) main_arg1
  let main_v7 : IVec S512x1 32 := (extractStridedSlice S512x1 ![512, 0] · slices_S1024x1_S512x1_512_0) main_arg1
  let main_v8 : IVec S512x1 1 := cmpi .eq main_v6 main_v7
  let main_c_2 : IVec S_ 1 := constantI S_ 1 1#1
  let main_v9 : IVec S_ 1 := (fun x v => Host.reduce IntOp.andi x v reducesTo_S512x1_S_d0_1 h_S_) main_v8 main_c_2
  let main_v10 : IVec S_ 1 := andi main_v5 main_v9
  main_v10
-- ==== Pre_ids_in_table_ReferenceIdeal.lean ====
abbrev S65536x256 : Shape := ⟨2, ![65536, 256]⟩
abbrev S1024x1 : Shape := ⟨2, ![1024, 1]⟩
abbrev S_ : Shape := ⟨0, ![]⟩
abbrev S512x1 : Shape := ⟨2, ![512, 1]⟩

class Facts : Prop where
  bcast_S_S1024x1 : S_.BroadcastsInDim S1024x1 (![] : Fin 0 → Fin S1024x1.rank)
  reducesTo_S1024x1_S_d0_1 : S1024x1.ReducesTo [0, 1] S_
  h_S_ : 0 < S_.numel
  slices_S1024x1_S512x1_0_0 : S1024x1.Slices ![0, 0] S512x1
  slices_S1024x1_S512x1_512_0 : S1024x1.Slices ![512, 0] S512x1
  reducesTo_S512x1_S_d0_1 : S512x1.ReducesTo [0, 1] S_

variable [Facts]

def fn {F : FTy → Type} [FloatOps F] (main_arg0 : FVec F S65536x256 .f32) (main_arg1 : IVec S1024x1 32) : IVec S_ 1 :=
  let main_c : IVec S_ 32 := constantI S_ 32 0#32
  let main_v0 : IVec S1024x1 32 := broadcastInDim S1024x1 ![] bcast_S_S1024x1 main_c
  let main_v1 : IVec S1024x1 1 := cmpi .sge main_arg1 main_v0
  let main_c_0 : IVec S_ 32 := constantI S_ 32 65536#32
  let main_v2 : IVec S1024x1 32 := broadcastInDim S1024x1 ![] bcast_S_S1024x1 main_c_0
  let main_v3 : IVec S1024x1 1 := cmpi .slt main_arg1 main_v2
  let main_v4 : IVec S1024x1 1 := andi main_v1 main_v3
  let main_c_1 : IVec S_ 1 := constantI S_ 1 1#1
  let main_v5 : IVec S_ 1 := (fun x v => Host.reduce IntOp.andi x v reducesTo_S1024x1_S_d0_1 h_S_) main_v4 main_c_1
  let main_v6 : IVec S512x1 32 := (extractStridedSlice S512x1 ![0, 0] · slices_S1024x1_S512x1_0_0) main_arg1
  let main_v7 : IVec S512x1 32 := (extractStridedSlice S512x1 ![512, 0] · slices_S1024x1_S512x1_512_0) main_arg1
  let main_v8 : IVec S512x1 1 := cmpi .eq main_v6 main_v7
  let main_c_2 : IVec S_ 1 := constantI S_ 1 1#1
  let main_v9 : IVec S_ 1 := (fun x v => Host.reduce IntOp.andi x v reducesTo_S512x1_S_d0_1 h_S_) main_v8 main_c_2
  let main_v10 : IVec S_ 1 := andi main_v5 main_v9
  main_v10
-- ==== Kernel.lean ====
abbrev S2048x256 : Shape := ⟨2, ![2048, 256]⟩
abbrev S1024x1 : Shape := ⟨2, ![1024, 1]⟩
abbrev S512x256 : Shape := ⟨2, ![512, 256]⟩
abbrev S32x16x256 : Shape := ⟨3, ![32, 16, 256]⟩
abbrev S32 : Shape := ⟨1, ![32]⟩
abbrev S1 : Shape := ⟨1, ![1]⟩
abbrev S_ : Shape := ⟨0, ![]⟩
abbrev S128x2048 : Shape := ⟨2, ![128, 2048]⟩
abbrev S128x1 : Shape := ⟨2, ![128, 1]⟩
abbrev S128x256 : Shape := ⟨2, ![128, 256]⟩
abbrev S1x16x256 : Shape := ⟨3, ![1, 16, 256]⟩
abbrev S16x256 : Shape := ⟨2, ![16, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S1024x1, .i32⟩
  | .hbm, ⟨2, _⟩ => ⟨S512x256, .f32⟩
  | .local _ .vmem, ⟨0, _⟩ => ⟨S2048x256, .f32⟩
  | .local _ .vmem, ⟨1, _⟩ => ⟨S1024x1, .i32⟩
  | .local _ .vmem, ⟨2, _⟩ => ⟨S512x256, .f32⟩
  | .local _ .vmem, ⟨3, _⟩ => ⟨S512x256, .f32⟩
  | .local _ .vmem, ⟨4, _⟩ => ⟨S32x16x256, .f32⟩
  | _, _ => ⟨S2048x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => false
  | _ => false

abbrev dmaSemScoped : Fin 131 → Bool
  | ⟨i, _⟩ => dmaSemScopedAt i

abbrev sig : RefSig :=
  (ofTc nBuf bufTy 33 131 bufScoped semScoped dmaSemScoped tileCredit tileCredit_eq_zero tileCredit_pos).withBarriers [(0, 32)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 32

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_9 : BitVec 32 := 1#32
  let v17 : BitVec 32 := Scalar.muli v14 c1_i32_9
  let v18 : BitVec 32 := Scalar.addi c0_i32_10 v17
  v18.toNat
def k0_dev2 (d0 : Dev nD) : Nat :=
  let c0_i32_21 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_11 : BitVec 32 := 32#32
  let v19 : BitVec 32 := Scalar.addi v2 c32_i32_11
  let c2_i32 : BitVec 32 := 2#32
  let v20 : BitVec 32 := Scalar.subi v19 c2_i32
  let c32_i32_12 : BitVec 32 := 32#32
  let c0_i32_13 : BitVec 32 := 0#32
  let v21 : BitVec 1 := Scalar.cmpi .eq c32_i32_12 c0_i32_13
  let c1_i32_14 : BitVec 32 := 1#32
  let v22 : BitVec 32 := Scalar.select v21 c1_i32_14 c32_i32_12
  let v23 : BitVec 32 := Scalar.remsi v20 v22
  let c0_i32_16 : BitVec 32 := 0#32
  let v25 : BitVec 1 := Scalar.cmpi .slt v23 c0_i32_16
  let c0_i32_17 : BitVec 32 := 0#32
  let v26 : BitVec 1 := Scalar.cmpi .slt v22 c0_i32_17
  let v27 : BitVec 1 := Scalar.xori v25 v26
  let c0_i32_15 : BitVec 32 := 0#32
  let v24 : BitVec 1 := Scalar.cmpi .ne v23 c0_i32_15
  let v28 : BitVec 1 := Scalar.andi v27 v24
  let v29 : BitVec 32 := Scalar.addi v23 v22
  let v30 : BitVec 32 := Scalar.select v28 v29 v23
  let c1_i32_20 : BitVec 32 := 1#32
  let v33 : BitVec 32 := Scalar.muli v30 c1_i32_20
  let v34 : BitVec 32 := Scalar.addi c0_i32_21 v33
  v34.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_22 : BitVec 32 := 32#32
  let v35 : BitVec 32 := Scalar.addi v2 c32_i32_22
  let c3_i32 : BitVec 32 := 3#32
  let v36 : BitVec 32 := Scalar.subi v35 c3_i32
  let c32_i32_23 : BitVec 32 := 32#32
  let c0_i32_24 : BitVec 32 := 0#32
  let v37 : BitVec 1 := Scalar.cmpi .eq c32_i32_23 c0_i32_24
  let c1_i32_25 : BitVec 32 := 1#32
  let v38 : BitVec 32 := Scalar.select v37 c1_i32_25 c32_i32_23
  let v39 : BitVec 32 := Scalar.remsi v36 v38
  let c0_i32_27 : BitVec 32 := 0#32
  let v41 : BitVec 1 := Scalar.cmpi .slt v39 c0_i32_27
  let c0_i32_28 : BitVec 32 := 0#32
  let v42 : BitVec 1 := Scalar.cmpi .slt v38 c0_i32_28
  let v43 : BitVec 1 := Scalar.xori v41 v42
  let c0_i32_26 : BitVec 32 := 0#32
  let v40 : BitVec 1 := Scalar.cmpi .ne v39 c0_i32_26
  let v44 : BitVec 1 := Scalar.andi v43 v40
  let v45 : BitVec 32 := Scalar.addi v39 v38
  let v46 : BitVec 32 := Scalar.select v44 v45 v39
  let c1_i32_31 : BitVec 32 := 1#32
  let v49 : BitVec 32 := Scalar.muli v46 c1_i32_31
  let v50 : BitVec 32 := Scalar.addi c0_i32_32 v49
  v50.toNat
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_33 : BitVec 32 := 32#32
  let v51 : BitVec 32 := Scalar.addi v2 c32_i32_33
  let c4_i32 : BitVec 32 := 4#32
  let v52 : BitVec 32 := Scalar.subi v51 c4_i32
  let c32_i32_34 : BitVec 32 := 32#32
  let c0_i32_35 : BitVec 32 := 0#32
  let v53 : BitVec 1 := Scalar.cmpi .eq c32_i32_34 c0_i32_35
  let c1_i32_36 : BitVec 32 := 1#32
  let v54 : BitVec 32 := Scalar.select v53 c1_i32_36 c32_i32_34
  let v55 : BitVec 32 := Scalar.remsi v52 v54
  let c0_i32_38 : BitVec 32 := 0#32
  let v57 : BitVec 1 := Scalar.cmpi .slt v55 c0_i32_38
  let c0_i32_39 : BitVec 32 := 0#32
  let v58 : BitVec 1 := Scalar.cmpi .slt v54 c0_i32_39
  let v59 : BitVec 1 := Scalar.xori v57 v58
  let c0_i32_37 : BitVec 32 := 0#32
  let v56 : BitVec 1 := Scalar.cmpi .ne v55 c0_i32_37
  let v60 : BitVec 1 := Scalar.andi v59 v56
  let v61 : BitVec 32 := Scalar.addi v55 v54
  let v62 : BitVec 32 := Scalar.select v60 v61 v55
  let c1_i32_42 : BitVec 32 := 1#32
  let v65 : BitVec 32 := Scalar.muli v62 c1_i32_42
  let v66 : BitVec 32 := Scalar.addi c0_i32_43 v65
  v66.toNat
def k0_dev5 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_44 : BitVec 32 := 32#32
  let v67 : BitVec 32 := Scalar.addi v2 c32_i32_44
  let c5_i32 : BitVec 32 := 5#32
  let v68 : BitVec 32 := Scalar.subi v67 c5_i32
  let c32_i32_45 : BitVec 32 := 32#32
  let c0_i32_46 : BitVec 32 := 0#32
  let v69 : BitVec 1 := Scalar.cmpi .eq c32_i32_45 c0_i32_46
  let c1_i32_47 : BitVec 32 := 1#32
  let v70 : BitVec 32 := Scalar.select v69 c1_i32_47 c32_i32_45
  let v71 : BitVec 32 := Scalar.remsi v68 v70
  let c0_i32_49 : BitVec 32 := 0#32
  let v73 : BitVec 1 := Scalar.cmpi .slt v71 c0_i32_49
  let c0_i32_50 : BitVec 32 := 0#32
  let v74 : BitVec 1 := Scalar.cmpi .slt v70 c0_i32_50
  let v75 : BitVec 1 := Scalar.xori v73 v74
  let c0_i32_48 : BitVec 32 := 0#32
  let v72 : BitVec 1 := Scalar.cmpi .ne v71 c0_i32_48
  let v76 : BitVec 1 := Scalar.andi v75 v72
  let v77 : BitVec 32 := Scalar.addi v71 v70
  let v78 : BitVec 32 := Scalar.select v76 v77 v71
  let c1_i32_53 : BitVec 32 := 1#32
  let v81 : BitVec 32 := Scalar.muli v78 c1_i32_53
  let v82 : BitVec 32 := Scalar.addi c0_i32_54 v81
  v82.toNat
def k0_dev6 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_55 : BitVec 32 := 32#32
  let v83 : BitVec 32 := Scalar.addi v2 c32_i32_55
  let c6_i32 : BitVec 32 := 6#32
  let v84 : BitVec 32 := Scalar.subi v83 c6_i32
  let c32_i32_56 : BitVec 32 := 32#32
  let c0_i32_57 : BitVec 32 := 0#32
  let v85 : BitVec 1 := Scalar.cmpi .eq c32_i32_56 c0_i32_57
  let c1_i32_58 : BitVec 32 := 1#32
  let v86 : BitVec 32 := Scalar.select v85 c1_i32_58 c32_i32_56
  let v87 : BitVec 32 := Scalar.remsi v84 v86
  let c0_i32_60 : BitVec 32 := 0#32
  let v89 : BitVec 1 := Scalar.cmpi .slt v87 c0_i32_60
  let c0_i32_61 : BitVec 32 := 0#32
  let v90 : BitVec 1 := Scalar.cmpi .slt v86 c0_i32_61
  let v91 : BitVec 1 := Scalar.xori v89 v90
  let c0_i32_59 : BitVec 32 := 0#32
  let v88 : BitVec 1 := Scalar.cmpi .ne v87 c0_i32_59
  let v92 : BitVec 1 := Scalar.andi v91 v88
  let v93 : BitVec 32 := Scalar.addi v87 v86
  let v94 : BitVec 32 := Scalar.select v92 v93 v87
  let c1_i32_64 : BitVec 32 := 1#32
  let v97 : BitVec 32 := Scalar.muli v94 c1_i32_64
  let v98 : BitVec 32 := Scalar.addi c0_i32_65 v97
  v98.toNat
def k0_dev7 (d0 : Dev nD) : Nat :=
  let c0_i32_76 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_66 : BitVec 32 := 32#32
  let v99 : BitVec 32 := Scalar.addi v2 c32_i32_66
  let c7_i32 : BitVec 32 := 7#32
  let v100 : BitVec 32 := Scalar.subi v99 c7_i32
  let c32_i32_67 : BitVec 32 := 32#32
  let c0_i32_68 : BitVec 32 := 0#32
  let v101 : BitVec 1 := Scalar.cmpi .eq c32_i32_67 c0_i32_68
  let c1_i32_69 : BitVec 32 := 1#32
  let v102 : BitVec 32 := Scalar.select v101 c1_i32_69 c32_i32_67
  let v103 : BitVec 32 := Scalar.remsi v100 v102
  let c0_i32_71 : BitVec 32 := 0#32
  let v105 : BitVec 1 := Scalar.cmpi .slt v103 c0_i32_71
  let c0_i32_72 : BitVec 32 := 0#32
  let v106 : BitVec 1 := Scalar.cmpi .slt v102 c0_i32_72
  let v107 : BitVec 1 := Scalar.xori v105 v106
  let c0_i32_70 : BitVec 32 := 0#32
  let v104 : BitVec 1 := Scalar.cmpi .ne v103 c0_i32_70
  let v108 : BitVec 1 := Scalar.andi v107 v104
  let v109 : BitVec 32 := Scalar.addi v103 v102
  let v110 : BitVec 32 := Scalar.select v108 v109 v103
  let c1_i32_75 : BitVec 32 := 1#32
  let v113 : BitVec 32 := Scalar.muli v110 c1_i32_75
  let v114 : BitVec 32 := Scalar.addi c0_i32_76 v113
  v114.toNat
def k0_dev8 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_77 : BitVec 32 := 32#32
  let v115 : BitVec 32 := Scalar.addi v2 c32_i32_77
  let c8_i32 : BitVec 32 := 8#32
  let v116 : BitVec 32 := Scalar.subi v115 c8_i32
  let c32_i32_78 : BitVec 32 := 32#32
  let c0_i32_79 : BitVec 32 := 0#32
  let v117 : BitVec 1 := Scalar.cmpi .eq c32_i32_78 c0_i32_79
  let c1_i32_80 : BitVec 32 := 1#32
  let v118 : BitVec 32 := Scalar.select v117 c1_i32_80 c32_i32_78
  let v119 : BitVec 32 := Scalar.remsi v116 v118
  let c0_i32_82 : BitVec 32 := 0#32
  let v121 : BitVec 1 := Scalar.cmpi .slt v119 c0_i32_82
  let c0_i32_83 : BitVec 32 := 0#32
  let v122 : BitVec 1 := Scalar.cmpi .slt v118 c0_i32_83
  let v123 : BitVec 1 := Scalar.xori v121 v122
  let c0_i32_81 : BitVec 32 := 0#32
  let v120 : BitVec 1 := Scalar.cmpi .ne v119 c0_i32_81
  let v124 : BitVec 1 := Scalar.andi v123 v120
  let v125 : BitVec 32 := Scalar.addi v119 v118
  let v126 : BitVec 32 := Scalar.select v124 v125 v119
  let c1_i32_86 : BitVec 32 := 1#32
  let v129 : BitVec 32 := Scalar.muli v126 c1_i32_86
  let v130 : BitVec 32 := Scalar.addi c0_i32_87 v129
  v130.toNat
def k0_dev9 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_88 : BitVec 32 := 32#32
  let v131 : BitVec 32 := Scalar.addi v2 c32_i32_88
  let c9_i32 : BitVec 32 := 9#32
  let v132 : BitVec 32 := Scalar.subi v131 c9_i32
  let c32_i32_89 : BitVec 32 := 32#32
  let c0_i32_90 : BitVec 32 := 0#32
  let v133 : BitVec 1 := Scalar.cmpi .eq c32_i32_89 c0_i32_90
  let c1_i32_91 : BitVec 32 := 1#32
  let v134 : BitVec 32 := Scalar.select v133 c1_i32_91 c32_i32_89
  let v135 : BitVec 32 := Scalar.remsi v132 v134
  let c0_i32_93 : BitVec 32 := 0#32
  let v137 : BitVec 1 := Scalar.cmpi .slt v135 c0_i32_93
  let c0_i32_94 : BitVec 32 := 0#32
  let v138 : BitVec 1 := Scalar.cmpi .slt v134 c0_i32_94
  let v139 : BitVec 1 := Scalar.xori v137 v138
  let c0_i32_92 : BitVec 32 := 0#32
  let v136 : BitVec 1 := Scalar.cmpi .ne v135 c0_i32_92
  let v140 : BitVec 1 := Scalar.andi v139 v136
  let v141 : BitVec 32 := Scalar.addi v135 v134
  let v142 : BitVec 32 := Scalar.select v140 v141 v135
  let c1_i32_97 : BitVec 32 := 1#32
  let v145 : BitVec 32 := Scalar.muli v142 c1_i32_97
  let v146 : BitVec 32 := Scalar.addi c0_i32_98 v145
  v146.toNat
def k0_dev10 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_99 : BitVec 32 := 32#32
  let v147 : BitVec 32 := Scalar.addi v2 c32_i32_99
  let c10_i32 : BitVec 32 := 10#32
  let v148 : BitVec 32 := Scalar.subi v147 c10_i32
  let c32_i32_100 : BitVec 32 := 32#32
  let c0_i32_101 : BitVec 32 := 0#32
  let v149 : BitVec 1 := Scalar.cmpi .eq c32_i32_100 c0_i32_101
  let c1_i32_102 : BitVec 32 := 1#32
  let v150 : BitVec 32 := Scalar.select v149 c1_i32_102 c32_i32_100
  let v151 : BitVec 32 := Scalar.remsi v148 v150
  let c0_i32_104 : BitVec 32 := 0#32
  let v153 : BitVec 1 := Scalar.cmpi .slt v151 c0_i32_104
  let c0_i32_105 : BitVec 32 := 0#32
  let v154 : BitVec 1 := Scalar.cmpi .slt v150 c0_i32_105
  let v155 : BitVec 1 := Scalar.xori v153 v154
  let c0_i32_103 : BitVec 32 := 0#32
  let v152 : BitVec 1 := Scalar.cmpi .ne v151 c0_i32_103
  let v156 : BitVec 1 := Scalar.andi v155 v152
  let v157 : BitVec 32 := Scalar.addi v151 v150
  let v158 : BitVec 32 := Scalar.select v156 v157 v151
  let c1_i32_108 : BitVec 32 := 1#32
  let v161 : BitVec 32 := Scalar.muli v158 c1_i32_108
  let v162 : BitVec 32 := Scalar.addi c0_i32_109 v161
  v162.toNat
def k0_dev11 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_110 : BitVec 32 := 32#32
  let v163 : BitVec 32 := Scalar.addi v2 c32_i32_110
  let c11_i32 : BitVec 32 := 11#32
  let v164 : BitVec 32 := Scalar.subi v163 c11_i32
  let c32_i32_111 : BitVec 32 := 32#32
  let c0_i32_112 : BitVec 32 := 0#32
  let v165 : BitVec 1 := Scalar.cmpi .eq c32_i32_111 c0_i32_112
  let c1_i32_113 : BitVec 32 := 1#32
  let v166 : BitVec 32 := Scalar.select v165 c1_i32_113 c32_i32_111
  let v167 : BitVec 32 := Scalar.remsi v164 v166
  let c0_i32_115 : BitVec 32 := 0#32
  let v169 : BitVec 1 := Scalar.cmpi .slt v167 c0_i32_115
  let c0_i32_116 : BitVec 32 := 0#32
  let v170 : BitVec 1 := Scalar.cmpi .slt v166 c0_i32_116
  let v171 : BitVec 1 := Scalar.xori v169 v170
  let c0_i32_114 : BitVec 32 := 0#32
  let v168 : BitVec 1 := Scalar.cmpi .ne v167 c0_i32_114
  let v172 : BitVec 1 := Scalar.andi v171 v168
  let v173 : BitVec 32 := Scalar.addi v167 v166
  let v174 : BitVec 32 := Scalar.select v172 v173 v167
  let c1_i32_119 : BitVec 32 := 1#32
  let v177 : BitVec 32 := Scalar.muli v174 c1_i32_119
  let v178 : BitVec 32 := Scalar.addi c0_i32_120 v177
  v178.toNat
def k0_dev12 (d0 : Dev nD) : Nat :=
  let c0_i32_131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_121 : BitVec 32 := 32#32
  let v179 : BitVec 32 := Scalar.addi v2 c32_i32_121
  let c12_i32 : BitVec 32 := 12#32
  let v180 : BitVec 32 := Scalar.subi v179 c12_i32
  let c32_i32_122 : BitVec 32 := 32#32
  let c0_i32_123 : BitVec 32 := 0#32
  let v181 : BitVec 1 := Scalar.cmpi .eq c32_i32_122 c0_i32_123
  let c1_i32_124 : BitVec 32 := 1#32
  let v182 : BitVec 32 := Scalar.select v181 c1_i32_124 c32_i32_122
  let v183 : BitVec 32 := Scalar.remsi v180 v182
  let c0_i32_126 : BitVec 32 := 0#32
  let v185 : BitVec 1 := Scalar.cmpi .slt v183 c0_i32_126
  let c0_i32_127 : BitVec 32 := 0#32
  let v186 : BitVec 1 := Scalar.cmpi .slt v182 c0_i32_127
  let v187 : BitVec 1 := Scalar.xori v185 v186
  let c0_i32_125 : BitVec 32 := 0#32
  let v184 : BitVec 1 := Scalar.cmpi .ne v183 c0_i32_125
  let v188 : BitVec 1 := Scalar.andi v187 v184
  let v189 : BitVec 32 := Scalar.addi v183 v182
  let v190 : BitVec 32 := Scalar.select v188 v189 v183
  let c1_i32_130 : BitVec 32 := 1#32
  let v193 : BitVec 32 := Scalar.muli v190 c1_i32_130
  let v194 : BitVec 32 := Scalar.addi c0_i32_131 v193
  v194.toNat
def k0_dev13 (d0 : Dev nD) : Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_132 : BitVec 32 := 32#32
  let v195 : BitVec 32 := Scalar.addi v2 c32_i32_132
  let c13_i32 : BitVec 32 := 13#32
  let v196 : BitVec 32 := Scalar.subi v195 c13_i32
  let c32_i32_133 : BitVec 32 := 32#32
  let c0_i32_134 : BitVec 32 := 0#32
  let v197 : BitVec 1 := Scalar.cmpi .eq c32_i32_133 c0_i32_134
  let c1_i32_135 : BitVec 32 := 1#32
  let v198 : BitVec 32 := Scalar.select v197 c1_i32_135 c32_i32_133
  let v199 : BitVec 32 := Scalar.remsi v196 v198
  let c0_i32_137 : BitVec 32 := 0#32
  let v201 : BitVec 1 := Scalar.cmpi .slt v199 c0_i32_137
  let c0_i32_138 : BitVec 32 := 0#32
  let v202 : BitVec 1 := Scalar.cmpi .slt v198 c0_i32_138
  let v203 : BitVec 1 := Scalar.xori v201 v202
  let c0_i32_136 : BitVec 32 := 0#32
  let v200 : BitVec 1 := Scalar.cmpi .ne v199 c0_i32_136
  let v204 : BitVec 1 := Scalar.andi v203 v200
  let v205 : BitVec 32 := Scalar.addi v199 v198
  let v206 : BitVec 32 := Scalar.select v204 v205 v199
  let c1_i32_141 : BitVec 32 := 1#32
  let v209 : BitVec 32 := Scalar.muli v206 c1_i32_141
  let v210 : BitVec 32 := Scalar.addi c0_i32_142 v209
  v210.toNat
def k0_dev14 (d0 : Dev nD) : Nat :=
  let c0_i32_153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_143 : BitVec 32 := 32#32
  let v211 : BitVec 32 := Scalar.addi v2 c32_i32_143
  let c14_i32 : BitVec 32 := 14#32
  let v212 : BitVec 32 := Scalar.subi v211 c14_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_152 : BitVec 32 := 1#32
  let v225 : BitVec 32 := Scalar.muli v222 c1_i32_152
  let v226 : BitVec 32 := Scalar.addi c0_i32_153 v225
  v226.toNat
def k0_dev15 (d0 : Dev nD) : Nat :=
  let c0_i32_164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_154 : BitVec 32 := 32#32
  let v227 : BitVec 32 := Scalar.addi v2 c32_i32_154
  let c15_i32 : BitVec 32 := 15#32
  let v228 : BitVec 32 := Scalar.subi v227 c15_i32
  let c32_i32_155 : BitVec 32 := 32#32
  let c0_i32_156 : BitVec 32 := 0#32
  let v229 : BitVec 1 := Scalar.cmpi .eq c32_i32_155 c0_i32_156
  let c1_i32_157 : BitVec 32 := 1#32
  let v230 : BitVec 32 := Scalar.select v229 c1_i32_157 c32_i32_155
  let v231 : BitVec 32 := Scalar.remsi v228 v230
  let c0_i32_159 : BitVec 32 := 0#32
  let v233 : BitVec 1 := Scalar.cmpi .slt v231 c0_i32_159
  let c0_i32_160 : BitVec 32 := 0#32
  let v234 : BitVec 1 := Scalar.cmpi .slt v230 c0_i32_160
  let v235 : BitVec 1 := Scalar.xori v233 v234
  let c0_i32_158 : BitVec 32 := 0#32
  let v232 : BitVec 1 := Scalar.cmpi .ne v231 c0_i32_158
  let v236 : BitVec 1 := Scalar.andi v235 v232
  let v237 : BitVec 32 := Scalar.addi v231 v230
  let v238 : BitVec 32 := Scalar.select v236 v237 v231
  let c1_i32_163 : BitVec 32 := 1#32
  let v241 : BitVec 32 := Scalar.muli v238 c1_i32_163
  let v242 : BitVec 32 := Scalar.addi c0_i32_164 v241
  v242.toNat
def k0_dev16 (d0 : Dev nD) : Nat :=
  let c0_i32_175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_165 : BitVec 32 := 32#32
  let v243 : BitVec 32 := Scalar.addi v2 c32_i32_165
  let c16_i32 : BitVec 32 := 16#32
  let v244 : BitVec 32 := Scalar.subi v243 c16_i32
  let c32_i32_166 : BitVec 32 := 32#32
  let c0_i32_167 : BitVec 32 := 0#32
  let v245 : BitVec 1 := Scalar.cmpi .eq c32_i32_166 c0_i32_167
  let c1_i32_168 : BitVec 32 := 1#32
  let v246 : BitVec 32 := Scalar.select v245 c1_i32_168 c32_i32_166
  let v247 : BitVec 32 := Scalar.remsi v244 v246
  let c0_i32_170 : BitVec 32 := 0#32
  let v249 : BitVec 1 := Scalar.cmpi .slt v247 c0_i32_170
  let c0_i32_171 : BitVec 32 := 0#32
  let v250 : BitVec 1 := Scalar.cmpi .slt v246 c0_i32_171
  let v251 : BitVec 1 := Scalar.xori v249 v250
  let c0_i32_169 : BitVec 32 := 0#32
  let v248 : BitVec 1 := Scalar.cmpi .ne v247 c0_i32_169
  let v252 : BitVec 1 := Scalar.andi v251 v248
  let v253 : BitVec 32 := Scalar.addi v247 v246
  let v254 : BitVec 32 := Scalar.select v252 v253 v247
  let c1_i32_174 : BitVec 32 := 1#32
  let v257 : BitVec 32 := Scalar.muli v254 c1_i32_174
  let v258 : BitVec 32 := Scalar.addi c0_i32_175 v257
  v258.toNat
def k0_dev17 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_176 : BitVec 32 := 32#32
  let v259 : BitVec 32 := Scalar.addi v2 c32_i32_176
  let c17_i32 : BitVec 32 := 17#32
  let v260 : BitVec 32 := Scalar.subi v259 c17_i32
  let c32_i32_177 : BitVec 32 := 32#32
  let c0_i32_178 : BitVec 32 := 0#32
  let v261 : BitVec 1 := Scalar.cmpi .eq c32_i32_177 c0_i32_178
  let c1_i32_179 : BitVec 32 := 1#32
  let v262 : BitVec 32 := Scalar.select v261 c1_i32_179 c32_i32_177
  let v263 : BitVec 32 := Scalar.remsi v260 v262
  let c0_i32_181 : BitVec 32 := 0#32
  let v265 : BitVec 1 := Scalar.cmpi .slt v263 c0_i32_181
  let c0_i32_182 : BitVec 32 := 0#32
  let v266 : BitVec 1 := Scalar.cmpi .slt v262 c0_i32_182
  let v267 : BitVec 1 := Scalar.xori v265 v266
  let c0_i32_180 : BitVec 32 := 0#32
  let v264 : BitVec 1 := Scalar.cmpi .ne v263 c0_i32_180
  let v268 : BitVec 1 := Scalar.andi v267 v264
  let v269 : BitVec 32 := Scalar.addi v263 v262
  let v270 : BitVec 32 := Scalar.select v268 v269 v263
  let c1_i32_185 : BitVec 32 := 1#32
  let v273 : BitVec 32 := Scalar.muli v270 c1_i32_185
  let v274 : BitVec 32 := Scalar.addi c0_i32_186 v273
  v274.toNat
def k0_dev18 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_187 : BitVec 32 := 32#32
  let v275 : BitVec 32 := Scalar.addi v2 c32_i32_187
  let c18_i32 : BitVec 32 := 18#32
  let v276 : BitVec 32 := Scalar.subi v275 c18_i32
  let c32_i32_188 : BitVec 32 := 32#32
  let c0_i32_189 : BitVec 32 := 0#32
  let v277 : BitVec 1 := Scalar.cmpi .eq c32_i32_188 c0_i32_189
  let c1_i32_190 : BitVec 32 := 1#32
  let v278 : BitVec 32 := Scalar.select v277 c1_i32_190 c32_i32_188
  let v279 : BitVec 32 := Scalar.remsi v276 v278
  let c0_i32_192 : BitVec 32 := 0#32
  let v281 : BitVec 1 := Scalar.cmpi .slt v279 c0_i32_192
  let c0_i32_193 : BitVec 32 := 0#32
  let v282 : BitVec 1 := Scalar.cmpi .slt v278 c0_i32_193
  let v283 : BitVec 1 := Scalar.xori v281 v282
  let c0_i32_191 : BitVec 32 := 0#32
  let v280 : BitVec 1 := Scalar.cmpi .ne v279 c0_i32_191
  let v284 : BitVec 1 := Scalar.andi v283 v280
  let v285 : BitVec 32 := Scalar.addi v279 v278
  let v286 : BitVec 32 := Scalar.select v284 v285 v279
  let c1_i32_196 : BitVec 32 := 1#32
  let v289 : BitVec 32 := Scalar.muli v286 c1_i32_196
  let v290 : BitVec 32 := Scalar.addi c0_i32_197 v289
  v290.toNat
def k0_dev19 (d0 : Dev nD) : Nat :=
  let c0_i32_208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_198 : BitVec 32 := 32#32
  let v291 : BitVec 32 := Scalar.addi v2 c32_i32_198
  let c19_i32 : BitVec 32 := 19#32
  let v292 : BitVec 32 := Scalar.subi v291 c19_i32
  let c32_i32_199 : BitVec 32 := 32#32
  let c0_i32_200 : BitVec 32 := 0#32
  let v293 : BitVec 1 := Scalar.cmpi .eq c32_i32_199 c0_i32_200
  let c1_i32_201 : BitVec 32 := 1#32
  let v294 : BitVec 32 := Scalar.select v293 c1_i32_201 c32_i32_199
  let v295 : BitVec 32 := Scalar.remsi v292 v294
  let c0_i32_203 : BitVec 32 := 0#32
  let v297 : BitVec 1 := Scalar.cmpi .slt v295 c0_i32_203
  let c0_i32_204 : BitVec 32 := 0#32
  let v298 : BitVec 1 := Scalar.cmpi .slt v294 c0_i32_204
  let v299 : BitVec 1 := Scalar.xori v297 v298
  let c0_i32_202 : BitVec 32 := 0#32
  let v296 : BitVec 1 := Scalar.cmpi .ne v295 c0_i32_202
  let v300 : BitVec 1 := Scalar.andi v299 v296
  let v301 : BitVec 32 := Scalar.addi v295 v294
  let v302 : BitVec 32 := Scalar.select v300 v301 v295
  let c1_i32_207 : BitVec 32 := 1#32
  let v305 : BitVec 32 := Scalar.muli v302 c1_i32_207
  let v306 : BitVec 32 := Scalar.addi c0_i32_208 v305
  v306.toNat
def k0_dev20 (d0 : Dev nD) : Nat :=
  let c0_i32_219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_209 : BitVec 32 := 32#32
  let v307 : BitVec 32 := Scalar.addi v2 c32_i32_209
  let c20_i32 : BitVec 32 := 20#32
  let v308 : BitVec 32 := Scalar.subi v307 c20_i32
  let c32_i32_210 : BitVec 32 := 32#32
  let c0_i32_211 : BitVec 32 := 0#32
  let v309 : BitVec 1 := Scalar.cmpi .eq c32_i32_210 c0_i32_211
  let c1_i32_212 : BitVec 32 := 1#32
  let v310 : BitVec 32 := Scalar.select v309 c1_i32_212 c32_i32_210
  let v311 : BitVec 32 := Scalar.remsi v308 v310
  let c0_i32_214 : BitVec 32 := 0#32
  let v313 : BitVec 1 := Scalar.cmpi .slt v311 c0_i32_214
  let c0_i32_215 : BitVec 32 := 0#32
  let v314 : BitVec 1 := Scalar.cmpi .slt v310 c0_i32_215
  let v315 : BitVec 1 := Scalar.xori v313 v314
  let c0_i32_213 : BitVec 32 := 0#32
  let v312 : BitVec 1 := Scalar.cmpi .ne v311 c0_i32_213
  let v316 : BitVec 1 := Scalar.andi v315 v312
  let v317 : BitVec 32 := Scalar.addi v311 v310
  let v318 : BitVec 32 := Scalar.select v316 v317 v311
  let c1_i32_218 : BitVec 32 := 1#32
  let v321 : BitVec 32 := Scalar.muli v318 c1_i32_218
  let v322 : BitVec 32 := Scalar.addi c0_i32_219 v321
  v322.toNat
def k0_dev21 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_220 : BitVec 32 := 32#32
  let v323 : BitVec 32 := Scalar.addi v2 c32_i32_220
  let c21_i32 : BitVec 32 := 21#32
  let v324 : BitVec 32 := Scalar.subi v323 c21_i32
  let c32_i32_221 : BitVec 32 := 32#32
  let c0_i32_222 : BitVec 32 := 0#32
  let v325 : BitVec 1 := Scalar.cmpi .eq c32_i32_221 c0_i32_222
  let c1_i32_223 : BitVec 32 := 1#32
  let v326 : BitVec 32 := Scalar.select v325 c1_i32_223 c32_i32_221
  let v327 : BitVec 32 := Scalar.remsi v324 v326
  let c0_i32_225 : BitVec 32 := 0#32
  let v329 : BitVec 1 := Scalar.cmpi .slt v327 c0_i32_225
  let c0_i32_226 : BitVec 32 := 0#32
  let v330 : BitVec 1 := Scalar.cmpi .slt v326 c0_i32_226
  let v331 : BitVec 1 := Scalar.xori v329 v330
  let c0_i32_224 : BitVec 32 := 0#32
  let v328 : BitVec 1 := Scalar.cmpi .ne v327 c0_i32_224
  let v332 : BitVec 1 := Scalar.andi v331 v328
  let v333 : BitVec 32 := Scalar.addi v327 v326
  let v334 : BitVec 32 := Scalar.select v332 v333 v327
  let c1_i32_229 : BitVec 32 := 1#32
  let v337 : BitVec 32 := Scalar.muli v334 c1_i32_229
  let v338 : BitVec 32 := Scalar.addi c0_i32_230 v337
  v338.toNat
def k0_dev22 (d0 : Dev nD) : Nat :=
  let c0_i32_241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_231 : BitVec 32 := 32#32
  let v339 : BitVec 32 := Scalar.addi v2 c32_i32_231
  let c22_i32 : BitVec 32 := 22#32
  let v340 : BitVec 32 := Scalar.subi v339 c22_i32
  let c32_i32_232 : BitVec 32 := 32#32
  let c0_i32_233 : BitVec 32 := 0#32
  let v341 : BitVec 1 := Scalar.cmpi .eq c32_i32_232 c0_i32_233
  let c1_i32_234 : BitVec 32 := 1#32
  let v342 : BitVec 32 := Scalar.select v341 c1_i32_234 c32_i32_232
  let v343 : BitVec 32 := Scalar.remsi v340 v342
  let c0_i32_236 : BitVec 32 := 0#32
  let v345 : BitVec 1 := Scalar.cmpi .slt v343 c0_i32_236
  let c0_i32_237 : BitVec 32 := 0#32
  let v346 : BitVec 1 := Scalar.cmpi .slt v342 c0_i32_237
  let v347 : BitVec 1 := Scalar.xori v345 v346
  let c0_i32_235 : BitVec 32 := 0#32
  let v344 : BitVec 1 := Scalar.cmpi .ne v343 c0_i32_235
  let v348 : BitVec 1 := Scalar.andi v347 v344
  let v349 : BitVec 32 := Scalar.addi v343 v342
  let v350 : BitVec 32 := Scalar.select v348 v349 v343
  let c1_i32_240 : BitVec 32 := 1#32
  let v353 : BitVec 32 := Scalar.muli v350 c1_i32_240
  let v354 : BitVec 32 := Scalar.addi c0_i32_241 v353
  v354.toNat
def k0_dev23 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_242 : BitVec 32 := 32#32
  let v355 : BitVec 32 := Scalar.addi v2 c32_i32_242
  let c23_i32 : BitVec 32 := 23#32
  let v356 : BitVec 32 := Scalar.subi v355 c23_i32
  let c32_i32_243 : BitVec 32 := 32#32
  let c0_i32_244 : BitVec 32 := 0#32
  let v357 : BitVec 1 := Scalar.cmpi .eq c32_i32_243 c0_i32_244
  let c1_i32_245 : BitVec 32 := 1#32
  let v358 : BitVec 32 := Scalar.select v357 c1_i32_245 c32_i32_243
  let v359 : BitVec 32 := Scalar.remsi v356 v358
  let c0_i32_247 : BitVec 32 := 0#32
  let v361 : BitVec 1 := Scalar.cmpi .slt v359 c0_i32_247
  let c0_i32_248 : BitVec 32 := 0#32
  let v362 : BitVec 1 := Scalar.cmpi .slt v358 c0_i32_248
  let v363 : BitVec 1 := Scalar.xori v361 v362
  let c0_i32_246 : BitVec 32 := 0#32
  let v360 : BitVec 1 := Scalar.cmpi .ne v359 c0_i32_246
  let v364 : BitVec 1 := Scalar.andi v363 v360
  let v365 : BitVec 32 := Scalar.addi v359 v358
  let v366 : BitVec 32 := Scalar.select v364 v365 v359
  let c1_i32_251 : BitVec 32 := 1#32
  let v369 : BitVec 32 := Scalar.muli v366 c1_i32_251
  let v370 : BitVec 32 := Scalar.addi c0_i32_252 v369
  v370.toNat
def k0_dev24 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_253 : BitVec 32 := 32#32
  let v371 : BitVec 32 := Scalar.addi v2 c32_i32_253
  let c24_i32 : BitVec 32 := 24#32
  let v372 : BitVec 32 := Scalar.subi v371 c24_i32
  let c32_i32_254 : BitVec 32 := 32#32
  let c0_i32_255 : BitVec 32 := 0#32
  let v373 : BitVec 1 := Scalar.cmpi .eq c32_i32_254 c0_i32_255
  let c1_i32_256 : BitVec 32 := 1#32
  let v374 : BitVec 32 := Scalar.select v373 c1_i32_256 c32_i32_254
  let v375 : BitVec 32 := Scalar.remsi v372 v374
  let c0_i32_258 : BitVec 32 := 0#32
  let v377 : BitVec 1 := Scalar.cmpi .slt v375 c0_i32_258
  let c0_i32_259 : BitVec 32 := 0#32
  let v378 : BitVec 1 := Scalar.cmpi .slt v374 c0_i32_259
  let v379 : BitVec 1 := Scalar.xori v377 v378
  let c0_i32_257 : BitVec 32 := 0#32
  let v376 : BitVec 1 := Scalar.cmpi .ne v375 c0_i32_257
  let v380 : BitVec 1 := Scalar.andi v379 v376
  let v381 : BitVec 32 := Scalar.addi v375 v374
  let v382 : BitVec 32 := Scalar.select v380 v381 v375
  let c1_i32_262 : BitVec 32 := 1#32
  let v385 : BitVec 32 := Scalar.muli v382 c1_i32_262
  let v386 : BitVec 32 := Scalar.addi c0_i32_263 v385
  v386.toNat
def k0_dev25 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_264 : BitVec 32 := 32#32
  let v387 : BitVec 32 := Scalar.addi v2 c32_i32_264
  let c25_i32 : BitVec 32 := 25#32
  let v388 : BitVec 32 := Scalar.subi v387 c25_i32
  let c32_i32_265 : BitVec 32 := 32#32
  let c0_i32_266 : BitVec 32 := 0#32
  let v389 : BitVec 1 := Scalar.cmpi .eq c32_i32_265 c0_i32_266
  let c1_i32_267 : BitVec 32 := 1#32
  let v390 : BitVec 32 := Scalar.select v389 c1_i32_267 c32_i32_265
  let v391 : BitVec 32 := Scalar.remsi v388 v390
  let c0_i32_269 : BitVec 32 := 0#32
  let v393 : BitVec 1 := Scalar.cmpi .slt v391 c0_i32_269
  let c0_i32_270 : BitVec 32 := 0#32
  let v394 : BitVec 1 := Scalar.cmpi .slt v390 c0_i32_270
  let v395 : BitVec 1 := Scalar.xori v393 v394
  let c0_i32_268 : BitVec 32 := 0#32
  let v392 : BitVec 1 := Scalar.cmpi .ne v391 c0_i32_268
  let v396 : BitVec 1 := Scalar.andi v395 v392
  let v397 : BitVec 32 := Scalar.addi v391 v390
  let v398 : BitVec 32 := Scalar.select v396 v397 v391
  let c1_i32_273 : BitVec 32 := 1#32
  let v401 : BitVec 32 := Scalar.muli v398 c1_i32_273
  let v402 : BitVec 32 := Scalar.addi c0_i32_274 v401
  v402.toNat
def k0_dev26 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_275 : BitVec 32 := 32#32
  let v403 : BitVec 32 := Scalar.addi v2 c32_i32_275
  let c26_i32 : BitVec 32 := 26#32
  let v404 : BitVec 32 := Scalar.subi v403 c26_i32
  let c32_i32_276 : BitVec 32 := 32#32
  let c0_i32_277 : BitVec 32 := 0#32
  let v405 : BitVec 1 := Scalar.cmpi .eq c32_i32_276 c0_i32_277
  let c1_i32_278 : BitVec 32 := 1#32
  let v406 : BitVec 32 := Scalar.select v405 c1_i32_278 c32_i32_276
  let v407 : BitVec 32 := Scalar.remsi v404 v406
  let c0_i32_280 : BitVec 32 := 0#32
  let v409 : BitVec 1 := Scalar.cmpi .slt v407 c0_i32_280
  let c0_i32_281 : BitVec 32 := 0#32
  let v410 : BitVec 1 := Scalar.cmpi .slt v406 c0_i32_281
  let v411 : BitVec 1 := Scalar.xori v409 v410
  let c0_i32_279 : BitVec 32 := 0#32
  let v408 : BitVec 1 := Scalar.cmpi .ne v407 c0_i32_279
  let v412 : BitVec 1 := Scalar.andi v411 v408
  let v413 : BitVec 32 := Scalar.addi v407 v406
  let v414 : BitVec 32 := Scalar.select v412 v413 v407
  let c1_i32_284 : BitVec 32 := 1#32
  let v417 : BitVec 32 := Scalar.muli v414 c1_i32_284
  let v418 : BitVec 32 := Scalar.addi c0_i32_285 v417
  v418.toNat
def k0_dev27 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_286 : BitVec 32 := 32#32
  let v419 : BitVec 32 := Scalar.addi v2 c32_i32_286
  let c27_i32 : BitVec 32 := 27#32
  let v420 : BitVec 32 := Scalar.subi v419 c27_i32
  let c32_i32_287 : BitVec 32 := 32#32
  let c0_i32_288 : BitVec 32 := 0#32
  let v421 : BitVec 1 := Scalar.cmpi .eq c32_i32_287 c0_i32_288
  let c1_i32_289 : BitVec 32 := 1#32
  let v422 : BitVec 32 := Scalar.select v421 c1_i32_289 c32_i32_287
  let v423 : BitVec 32 := Scalar.remsi v420 v422
  let c0_i32_291 : BitVec 32 := 0#32
  let v425 : BitVec 1 := Scalar.cmpi .slt v423 c0_i32_291
  let c0_i32_292 : BitVec 32 := 0#32
  let v426 : BitVec 1 := Scalar.cmpi .slt v422 c0_i32_292
  let v427 : BitVec 1 := Scalar.xori v425 v426
  let c0_i32_290 : BitVec 32 := 0#32
  let v424 : BitVec 1 := Scalar.cmpi .ne v423 c0_i32_290
  let v428 : BitVec 1 := Scalar.andi v427 v424
  let v429 : BitVec 32 := Scalar.addi v423 v422
  let v430 : BitVec 32 := Scalar.select v428 v429 v423
  let c1_i32_295 : BitVec 32 := 1#32
  let v433 : BitVec 32 := Scalar.muli v430 c1_i32_295
  let v434 : BitVec 32 := Scalar.addi c0_i32_296 v433
  v434.toNat
def k0_dev28 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_297 : BitVec 32 := 32#32
  let v435 : BitVec 32 := Scalar.addi v2 c32_i32_297
  let c28_i32 : BitVec 32 := 28#32
  let v436 : BitVec 32 := Scalar.subi v435 c28_i32
  let c32_i32_298 : BitVec 32 := 32#32
  let c0_i32_299 : BitVec 32 := 0#32
  let v437 : BitVec 1 := Scalar.cmpi .eq c32_i32_298 c0_i32_299
  let c1_i32_300 : BitVec 32 := 1#32
  let v438 : BitVec 32 := Scalar.select v437 c1_i32_300 c32_i32_298
  let v439 : BitVec 32 := Scalar.remsi v436 v438
  let c0_i32_302 : BitVec 32 := 0#32
  let v441 : BitVec 1 := Scalar.cmpi .slt v439 c0_i32_302
  let c0_i32_303 : BitVec 32 := 0#32
  let v442 : BitVec 1 := Scalar.cmpi .slt v438 c0_i32_303
  let v443 : BitVec 1 := Scalar.xori v441 v442
  let c0_i32_301 : BitVec 32 := 0#32
  let v440 : BitVec 1 := Scalar.cmpi .ne v439 c0_i32_301
  let v444 : BitVec 1 := Scalar.andi v443 v440
  let v445 : BitVec 32 := Scalar.addi v439 v438
  let v446 : BitVec 32 := Scalar.select v444 v445 v439
  let c1_i32_306 : BitVec 32 := 1#32
  let v449 : BitVec 32 := Scalar.muli v446 c1_i32_306
  let v450 : BitVec 32 := Scalar.addi c0_i32_307 v449
  v450.toNat
def k0_dev29 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_308 : BitVec 32 := 32#32
  let v451 : BitVec 32 := Scalar.addi v2 c32_i32_308
  let c29_i32 : BitVec 32 := 29#32
  let v452 : BitVec 32 := Scalar.subi v451 c29_i32
  let c32_i32_309 : BitVec 32 := 32#32
  let c0_i32_310 : BitVec 32 := 0#32
  let v453 : BitVec 1 := Scalar.cmpi .eq c32_i32_309 c0_i32_310
  let c1_i32_311 : BitVec 32 := 1#32
  let v454 : BitVec 32 := Scalar.select v453 c1_i32_311 c32_i32_309
  let v455 : BitVec 32 := Scalar.remsi v452 v454
  let c0_i32_313 : BitVec 32 := 0#32
  let v457 : BitVec 1 := Scalar.cmpi .slt v455 c0_i32_313
  let c0_i32_314 : BitVec 32 := 0#32
  let v458 : BitVec 1 := Scalar.cmpi .slt v454 c0_i32_314
  let v459 : BitVec 1 := Scalar.xori v457 v458
  let c0_i32_312 : BitVec 32 := 0#32
  let v456 : BitVec 1 := Scalar.cmpi .ne v455 c0_i32_312
  let v460 : BitVec 1 := Scalar.andi v459 v456
  let v461 : BitVec 32 := Scalar.addi v455 v454
  let v462 : BitVec 32 := Scalar.select v460 v461 v455
  let c1_i32_317 : BitVec 32 := 1#32
  let v465 : BitVec 32 := Scalar.muli v462 c1_i32_317
  let v466 : BitVec 32 := Scalar.addi c0_i32_318 v465
  v466.toNat
def k0_dev30 (d0 : Dev nD) : Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_319 : BitVec 32 := 32#32
  let v467 : BitVec 32 := Scalar.addi v2 c32_i32_319
  let c30_i32 : BitVec 32 := 30#32
  let v468 : BitVec 32 := Scalar.subi v467 c30_i32
  let c32_i32_320 : BitVec 32 := 32#32
  let c0_i32_321 : BitVec 32 := 0#32
  let v469 : BitVec 1 := Scalar.cmpi .eq c32_i32_320 c0_i32_321
  let c1_i32_322 : BitVec 32 := 1#32
  let v470 : BitVec 32 := Scalar.select v469 c1_i32_322 c32_i32_320
  let v471 : BitVec 32 := Scalar.remsi v468 v470
  let c0_i32_324 : BitVec 32 := 0#32
  let v473 : BitVec 1 := Scalar.cmpi .slt v471 c0_i32_324
  let c0_i32_325 : BitVec 32 := 0#32
  let v474 : BitVec 1 := Scalar.cmpi .slt v470 c0_i32_325
  let v475 : BitVec 1 := Scalar.xori v473 v474
  let c0_i32_323 : BitVec 32 := 0#32
  let v472 : BitVec 1 := Scalar.cmpi .ne v471 c0_i32_323
  let v476 : BitVec 1 := Scalar.andi v475 v472
  let v477 : BitVec 32 := Scalar.addi v471 v470
  let v478 : BitVec 32 := Scalar.select v476 v477 v471
  let c1_i32_328 : BitVec 32 := 1#32
  let v481 : BitVec 32 := Scalar.muli v478 c1_i32_328
  let v482 : BitVec 32 := Scalar.addi c0_i32_329 v481
  v482.toNat
def k0_dev31 (d0 : Dev nD) : Nat :=
  let c0_i32_340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_330 : BitVec 32 := 32#32
  let v483 : BitVec 32 := Scalar.addi v2 c32_i32_330
  let c31_i32 : BitVec 32 := 31#32
  let v484 : BitVec 32 := Scalar.subi v483 c31_i32
  let c32_i32_331 : BitVec 32 := 32#32
  let c0_i32_332 : BitVec 32 := 0#32
  let v485 : BitVec 1 := Scalar.cmpi .eq c32_i32_331 c0_i32_332
  let c1_i32_333 : BitVec 32 := 1#32
  let v486 : BitVec 32 := Scalar.select v485 c1_i32_333 c32_i32_331
  let v487 : BitVec 32 := Scalar.remsi v484 v486
  let c0_i32_335 : BitVec 32 := 0#32
  let v489 : BitVec 1 := Scalar.cmpi .slt v487 c0_i32_335
  let c0_i32_336 : BitVec 32 := 0#32
  let v490 : BitVec 1 := Scalar.cmpi .slt v486 c0_i32_336
  let v491 : BitVec 1 := Scalar.xori v489 v490
  let c0_i32_334 : BitVec 32 := 0#32
  let v488 : BitVec 1 := Scalar.cmpi .ne v487 c0_i32_334
  let v492 : BitVec 1 := Scalar.andi v491 v488
  let v493 : BitVec 32 := Scalar.addi v487 v486
  let v494 : BitVec 32 := Scalar.select v492 v493 v487
  let c1_i32_339 : BitVec 32 := 1#32
  let v497 : BitVec 32 := Scalar.muli v494 c1_i32_339
  let v498 : BitVec 32 := Scalar.addi c0_i32_340 v497
  v498.toNat
def k0_dev32 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_341 : BitVec 32 := 1#32
  let v500 : BitVec 32 := Scalar.addi v2 c1_i32_341
  let c32_i32_342 : BitVec 32 := 32#32
  let c0_i32_343 : BitVec 32 := 0#32
  let v501 : BitVec 1 := Scalar.cmpi .eq c32_i32_342 c0_i32_343
  let c1_i32_344 : BitVec 32 := 1#32
  let v502 : BitVec 32 := Scalar.select v501 c1_i32_344 c32_i32_342
  let v503 : BitVec 32 := Scalar.remsi v500 v502
  let c0_i32_346 : BitVec 32 := 0#32
  let v505 : BitVec 1 := Scalar.cmpi .slt v503 c0_i32_346
  let c0_i32_347 : BitVec 32 := 0#32
  let v506 : BitVec 1 := Scalar.cmpi .slt v502 c0_i32_347
  let v507 : BitVec 1 := Scalar.xori v505 v506
  let c0_i32_345 : BitVec 32 := 0#32
  let v504 : BitVec 1 := Scalar.cmpi .ne v503 c0_i32_345
  let v508 : BitVec 1 := Scalar.andi v507 v504
  let v509 : BitVec 32 := Scalar.addi v503 v502
  let v510 : BitVec 32 := Scalar.select v508 v509 v503
  let c1_i32_357 : BitVec 32 := 1#32
  let v523 : BitVec 32 := Scalar.muli v510 c1_i32_357
  let v524 : BitVec 32 := Scalar.addi c0_i32_358 v523
  v524.toNat
def k0_dev33 (d0 : Dev nD) : Nat :=
  let c0_i32_361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_348 : BitVec 32 := 32#32
  let v511 : BitVec 32 := Scalar.addi v2 c32_i32_348
  let c1_i32_349 : BitVec 32 := 1#32
  let v512 : BitVec 32 := Scalar.subi v511 c1_i32_349
  let c32_i32_350 : BitVec 32 := 32#32
  let c0_i32_351 : BitVec 32 := 0#32
  let v513 : BitVec 1 := Scalar.cmpi .eq c32_i32_350 c0_i32_351
  let c1_i32_352 : BitVec 32 := 1#32
  let v514 : BitVec 32 := Scalar.select v513 c1_i32_352 c32_i32_350
  let v515 : BitVec 32 := Scalar.remsi v512 v514
  let c0_i32_354 : BitVec 32 := 0#32
  let v517 : BitVec 1 := Scalar.cmpi .slt v515 c0_i32_354
  let c0_i32_355 : BitVec 32 := 0#32
  let v518 : BitVec 1 := Scalar.cmpi .slt v514 c0_i32_355
  let v519 : BitVec 1 := Scalar.xori v517 v518
  let c0_i32_353 : BitVec 32 := 0#32
  let v516 : BitVec 1 := Scalar.cmpi .ne v515 c0_i32_353
  let v520 : BitVec 1 := Scalar.andi v519 v516
  let v521 : BitVec 32 := Scalar.addi v515 v514
  let v522 : BitVec 32 := Scalar.select v520 v521 v515
  let c1_i32_360 : BitVec 32 := 1#32
  let v525 : BitVec 32 := Scalar.muli v522 c1_i32_360
  let v526 : BitVec 32 := Scalar.addi c0_i32_361 v525
  v526.toNat
def k0_off1 (d0 : Dev nD) (c0_i32_364 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_363 : BitVec 32 := 16#32
  let v530 : BitVec 32 := Scalar.muli v2 c16_i32_363
  let v532 : BitVec 32 := Scalar.addi v530 c0_i32_364
  let v533 : Index := Scalar.indexCast v532
  let c0_365 : Index := 0#32
  ![v533.toNat, 0]
def k0_dev34 (d0 : Dev nD) : Nat :=
  let c0_i32_385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_374 : BitVec 32 := 7#32
  let v557 : BitVec 32 := Scalar.addi v2 c7_i32_374
  let c32_i32_375 : BitVec 32 := 32#32
  let c0_i32_376 : BitVec 32 := 0#32
  let v558 : BitVec 1 := Scalar.cmpi .eq c32_i32_375 c0_i32_376
  let c1_i32_377 : BitVec 32 := 1#32
  let v559 : BitVec 32 := Scalar.select v558 c1_i32_377 c32_i32_375
  let v560 : BitVec 32 := Scalar.remsi v557 v559
  let c0_i32_379 : BitVec 32 := 0#32
  let v562 : BitVec 1 := Scalar.cmpi .slt v560 c0_i32_379
  let c0_i32_380 : BitVec 32 := 0#32
  let v563 : BitVec 1 := Scalar.cmpi .slt v559 c0_i32_380
  let v564 : BitVec 1 := Scalar.xori v562 v563
  let c0_i32_378 : BitVec 32 := 0#32
  let v561 : BitVec 1 := Scalar.cmpi .ne v560 c0_i32_378
  let v565 : BitVec 1 := Scalar.andi v564 v561
  let v566 : BitVec 32 := Scalar.addi v560 v559
  let v567 : BitVec 32 := Scalar.select v565 v566 v560
  let c1_i32_384 : BitVec 32 := 1#32
  let v568 : BitVec 32 := Scalar.muli v567 c1_i32_384
  let v569 : BitVec 32 := Scalar.addi c0_i32_385 v568
  v569.toNat
def k0_dev35 (d0 : Dev nD) : Nat :=
  let c0_i32_403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_392 : BitVec 32 := 6#32
  let v579 : BitVec 32 := Scalar.addi v2 c6_i32_392
  let c32_i32_393 : BitVec 32 := 32#32
  let c0_i32_394 : BitVec 32 := 0#32
  let v580 : BitVec 1 := Scalar.cmpi .eq c32_i32_393 c0_i32_394
  let c1_i32_395 : BitVec 32 := 1#32
  let v581 : BitVec 32 := Scalar.select v580 c1_i32_395 c32_i32_393
  let v582 : BitVec 32 := Scalar.remsi v579 v581
  let c0_i32_397 : BitVec 32 := 0#32
  let v584 : BitVec 1 := Scalar.cmpi .slt v582 c0_i32_397
  let c0_i32_398 : BitVec 32 := 0#32
  let v585 : BitVec 1 := Scalar.cmpi .slt v581 c0_i32_398
  let v586 : BitVec 1 := Scalar.xori v584 v585
  let c0_i32_396 : BitVec 32 := 0#32
  let v583 : BitVec 1 := Scalar.cmpi .ne v582 c0_i32_396
  let v587 : BitVec 1 := Scalar.andi v586 v583
  let v588 : BitVec 32 := Scalar.addi v582 v581
  let v589 : BitVec 32 := Scalar.select v587 v588 v582
  let c1_i32_402 : BitVec 32 := 1#32
  let v590 : BitVec 32 := Scalar.muli v589 c1_i32_402
  let v591 : BitVec 32 := Scalar.addi c0_i32_403 v590
  v591.toNat
def k0_dev36 (d0 : Dev nD) : Nat :=
  let c0_i32_421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_410 : BitVec 32 := 5#32
  let v601 : BitVec 32 := Scalar.addi v2 c5_i32_410
  let c32_i32_411 : BitVec 32 := 32#32
  let c0_i32_412 : BitVec 32 := 0#32
  let v602 : BitVec 1 := Scalar.cmpi .eq c32_i32_411 c0_i32_412
  let c1_i32_413 : BitVec 32 := 1#32
  let v603 : BitVec 32 := Scalar.select v602 c1_i32_413 c32_i32_411
  let v604 : BitVec 32 := Scalar.remsi v601 v603
  let c0_i32_415 : BitVec 32 := 0#32
  let v606 : BitVec 1 := Scalar.cmpi .slt v604 c0_i32_415
  let c0_i32_416 : BitVec 32 := 0#32
  let v607 : BitVec 1 := Scalar.cmpi .slt v603 c0_i32_416
  let v608 : BitVec 1 := Scalar.xori v606 v607
  let c0_i32_414 : BitVec 32 := 0#32
  let v605 : BitVec 1 := Scalar.cmpi .ne v604 c0_i32_414
  let v609 : BitVec 1 := Scalar.andi v608 v605
  let v610 : BitVec 32 := Scalar.addi v604 v603
  let v611 : BitVec 32 := Scalar.select v609 v610 v604
  let c1_i32_420 : BitVec 32 := 1#32
  let v612 : BitVec 32 := Scalar.muli v611 c1_i32_420
  let v613 : BitVec 32 := Scalar.addi c0_i32_421 v612
  v613.toNat
def k0_dev37 (d0 : Dev nD) : Nat :=
  let c0_i32_439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_428 : BitVec 32 := 4#32
  let v623 : BitVec 32 := Scalar.addi v2 c4_i32_428
  let c32_i32_429 : BitVec 32 := 32#32
  let c0_i32_430 : BitVec 32 := 0#32
  let v624 : BitVec 1 := Scalar.cmpi .eq c32_i32_429 c0_i32_430
  let c1_i32_431 : BitVec 32 := 1#32
  let v625 : BitVec 32 := Scalar.select v624 c1_i32_431 c32_i32_429
  let v626 : BitVec 32 := Scalar.remsi v623 v625
  let c0_i32_433 : BitVec 32 := 0#32
  let v628 : BitVec 1 := Scalar.cmpi .slt v626 c0_i32_433
  let c0_i32_434 : BitVec 32 := 0#32
  let v629 : BitVec 1 := Scalar.cmpi .slt v625 c0_i32_434
  let v630 : BitVec 1 := Scalar.xori v628 v629
  let c0_i32_432 : BitVec 32 := 0#32
  let v627 : BitVec 1 := Scalar.cmpi .ne v626 c0_i32_432
  let v631 : BitVec 1 := Scalar.andi v630 v627
  let v632 : BitVec 32 := Scalar.addi v626 v625
  let v633 : BitVec 32 := Scalar.select v631 v632 v626
  let c1_i32_438 : BitVec 32 := 1#32
  let v634 : BitVec 32 := Scalar.muli v633 c1_i32_438
  let v635 : BitVec 32 := Scalar.addi c0_i32_439 v634
  v635.toNat
def k0_dev38 (d0 : Dev nD) : Nat :=
  let c0_i32_457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_446 : BitVec 32 := 3#32
  let v645 : BitVec 32 := Scalar.addi v2 c3_i32_446
  let c32_i32_447 : BitVec 32 := 32#32
  let c0_i32_448 : BitVec 32 := 0#32
  let v646 : BitVec 1 := Scalar.cmpi .eq c32_i32_447 c0_i32_448
  let c1_i32_449 : BitVec 32 := 1#32
  let v647 : BitVec 32 := Scalar.select v646 c1_i32_449 c32_i32_447
  let v648 : BitVec 32 := Scalar.remsi v645 v647
  let c0_i32_451 : BitVec 32 := 0#32
  let v650 : BitVec 1 := Scalar.cmpi .slt v648 c0_i32_451
  let c0_i32_452 : BitVec 32 := 0#32
  let v651 : BitVec 1 := Scalar.cmpi .slt v647 c0_i32_452
  let v652 : BitVec 1 := Scalar.xori v650 v651
  let c0_i32_450 : BitVec 32 := 0#32
  let v649 : BitVec 1 := Scalar.cmpi .ne v648 c0_i32_450
  let v653 : BitVec 1 := Scalar.andi v652 v649
  let v654 : BitVec 32 := Scalar.addi v648 v647
  let v655 : BitVec 32 := Scalar.select v653 v654 v648
  let c1_i32_456 : BitVec 32 := 1#32
  let v656 : BitVec 32 := Scalar.muli v655 c1_i32_456
  let v657 : BitVec 32 := Scalar.addi c0_i32_457 v656
  v657.toNat
def k0_dev39 (d0 : Dev nD) : Nat :=
  let c0_i32_475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_464 : BitVec 32 := 2#32
  let v667 : BitVec 32 := Scalar.addi v2 c2_i32_464
  let c32_i32_465 : BitVec 32 := 32#32
  let c0_i32_466 : BitVec 32 := 0#32
  let v668 : BitVec 1 := Scalar.cmpi .eq c32_i32_465 c0_i32_466
  let c1_i32_467 : BitVec 32 := 1#32
  let v669 : BitVec 32 := Scalar.select v668 c1_i32_467 c32_i32_465
  let v670 : BitVec 32 := Scalar.remsi v667 v669
  let c0_i32_469 : BitVec 32 := 0#32
  let v672 : BitVec 1 := Scalar.cmpi .slt v670 c0_i32_469
  let c0_i32_470 : BitVec 32 := 0#32
  let v673 : BitVec 1 := Scalar.cmpi .slt v669 c0_i32_470
  let v674 : BitVec 1 := Scalar.xori v672 v673
  let c0_i32_468 : BitVec 32 := 0#32
  let v671 : BitVec 1 := Scalar.cmpi .ne v670 c0_i32_468
  let v675 : BitVec 1 := Scalar.andi v674 v671
  let v676 : BitVec 32 := Scalar.addi v670 v669
  let v677 : BitVec 32 := Scalar.select v675 v676 v670
  let c1_i32_474 : BitVec 32 := 1#32
  let v678 : BitVec 32 := Scalar.muli v677 c1_i32_474
  let v679 : BitVec 32 := Scalar.addi c0_i32_475 v678
  v679.toNat
def k0_dev40 (d0 : Dev nD) : Nat :=
  let c0_i32_494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_483 : BitVec 32 := 1#32
  let v689 : BitVec 32 := Scalar.addi v2 c1_i32_483
  let c32_i32_484 : BitVec 32 := 32#32
  let c0_i32_485 : BitVec 32 := 0#32
  let v690 : BitVec 1 := Scalar.cmpi .eq c32_i32_484 c0_i32_485
  let c1_i32_486 : BitVec 32 := 1#32
  let v691 : BitVec 32 := Scalar.select v690 c1_i32_486 c32_i32_484
  let v692 : BitVec 32 := Scalar.remsi v689 v691
  let c0_i32_488 : BitVec 32 := 0#32
  let v694 : BitVec 1 := Scalar.cmpi .slt v692 c0_i32_488
  let c0_i32_489 : BitVec 32 := 0#32
  let v695 : BitVec 1 := Scalar.cmpi .slt v691 c0_i32_489
  let v696 : BitVec 1 := Scalar.xori v694 v695
  let c0_i32_487 : BitVec 32 := 0#32
  let v693 : BitVec 1 := Scalar.cmpi .ne v692 c0_i32_487
  let v697 : BitVec 1 := Scalar.andi v696 v693
  let v698 : BitVec 32 := Scalar.addi v692 v691
  let v699 : BitVec 32 := Scalar.select v697 v698 v692
  let c1_i32_493 : BitVec 32 := 1#32
  let v700 : BitVec 32 := Scalar.muli v699 c1_i32_493
  let v701 : BitVec 32 := Scalar.addi c0_i32_494 v700
  v701.toNat
def k0_dev41 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_508 : BitVec 32 := 15#32
  let v734 : BitVec 32 := Scalar.addi v2 c15_i32_508
  let c32_i32_509 : BitVec 32 := 32#32
  let c0_i32_510 : BitVec 32 := 0#32
  let v735 : BitVec 1 := Scalar.cmpi .eq c32_i32_509 c0_i32_510
  let c1_i32_511 : BitVec 32 := 1#32
  let v736 : BitVec 32 := Scalar.select v735 c1_i32_511 c32_i32_509
  let v737 : BitVec 32 := Scalar.remsi v734 v736
  let c0_i32_513 : BitVec 32 := 0#32
  let v739 : BitVec 1 := Scalar.cmpi .slt v737 c0_i32_513
  let c0_i32_514 : BitVec 32 := 0#32
  let v740 : BitVec 1 := Scalar.cmpi .slt v736 c0_i32_514
  let v741 : BitVec 1 := Scalar.xori v739 v740
  let c0_i32_512 : BitVec 32 := 0#32
  let v738 : BitVec 1 := Scalar.cmpi .ne v737 c0_i32_512
  let v742 : BitVec 1 := Scalar.andi v741 v738
  let v743 : BitVec 32 := Scalar.addi v737 v736
  let v744 : BitVec 32 := Scalar.select v742 v743 v737
  let c1_i32_518 : BitVec 32 := 1#32
  let v745 : BitVec 32 := Scalar.muli v744 c1_i32_518
  let v746 : BitVec 32 := Scalar.addi c0_i32_519 v745
  v746.toNat
def k0_dev42 (d0 : Dev nD) : Nat :=
  let c0_i32_537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_526 : BitVec 32 := 14#32
  let v756 : BitVec 32 := Scalar.addi v2 c14_i32_526
  let c32_i32_527 : BitVec 32 := 32#32
  let c0_i32_528 : BitVec 32 := 0#32
  let v757 : BitVec 1 := Scalar.cmpi .eq c32_i32_527 c0_i32_528
  let c1_i32_529 : BitVec 32 := 1#32
  let v758 : BitVec 32 := Scalar.select v757 c1_i32_529 c32_i32_527
  let v759 : BitVec 32 := Scalar.remsi v756 v758
  let c0_i32_531 : BitVec 32 := 0#32
  let v761 : BitVec 1 := Scalar.cmpi .slt v759 c0_i32_531
  let c0_i32_532 : BitVec 32 := 0#32
  let v762 : BitVec 1 := Scalar.cmpi .slt v758 c0_i32_532
  let v763 : BitVec 1 := Scalar.xori v761 v762
  let c0_i32_530 : BitVec 32 := 0#32
  let v760 : BitVec 1 := Scalar.cmpi .ne v759 c0_i32_530
  let v764 : BitVec 1 := Scalar.andi v763 v760
  let v765 : BitVec 32 := Scalar.addi v759 v758
  let v766 : BitVec 32 := Scalar.select v764 v765 v759
  let c1_i32_536 : BitVec 32 := 1#32
  let v767 : BitVec 32 := Scalar.muli v766 c1_i32_536
  let v768 : BitVec 32 := Scalar.addi c0_i32_537 v767
  v768.toNat
def k0_dev43 (d0 : Dev nD) : Nat :=
  let c0_i32_555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_544 : BitVec 32 := 13#32
  let v778 : BitVec 32 := Scalar.addi v2 c13_i32_544
  let c32_i32_545 : BitVec 32 := 32#32
  let c0_i32_546 : BitVec 32 := 0#32
  let v779 : BitVec 1 := Scalar.cmpi .eq c32_i32_545 c0_i32_546
  let c1_i32_547 : BitVec 32 := 1#32
  let v780 : BitVec 32 := Scalar.select v779 c1_i32_547 c32_i32_545
  let v781 : BitVec 32 := Scalar.remsi v778 v780
  let c0_i32_549 : BitVec 32 := 0#32
  let v783 : BitVec 1 := Scalar.cmpi .slt v781 c0_i32_549
  let c0_i32_550 : BitVec 32 := 0#32
  let v784 : BitVec 1 := Scalar.cmpi .slt v780 c0_i32_550
  let v785 : BitVec 1 := Scalar.xori v783 v784
  let c0_i32_548 : BitVec 32 := 0#32
  let v782 : BitVec 1 := Scalar.cmpi .ne v781 c0_i32_548
  let v786 : BitVec 1 := Scalar.andi v785 v782
  let v787 : BitVec 32 := Scalar.addi v781 v780
  let v788 : BitVec 32 := Scalar.select v786 v787 v781
  let c1_i32_554 : BitVec 32 := 1#32
  let v789 : BitVec 32 := Scalar.muli v788 c1_i32_554
  let v790 : BitVec 32 := Scalar.addi c0_i32_555 v789
  v790.toNat
def k0_dev44 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_562 : BitVec 32 := 12#32
  let v800 : BitVec 32 := Scalar.addi v2 c12_i32_562
  let c32_i32_563 : BitVec 32 := 32#32
  let c0_i32_564 : BitVec 32 := 0#32
  let v801 : BitVec 1 := Scalar.cmpi .eq c32_i32_563 c0_i32_564
  let c1_i32_565 : BitVec 32 := 1#32
  let v802 : BitVec 32 := Scalar.select v801 c1_i32_565 c32_i32_563
  let v803 : BitVec 32 := Scalar.remsi v800 v802
  let c0_i32_567 : BitVec 32 := 0#32
  let v805 : BitVec 1 := Scalar.cmpi .slt v803 c0_i32_567
  let c0_i32_568 : BitVec 32 := 0#32
  let v806 : BitVec 1 := Scalar.cmpi .slt v802 c0_i32_568
  let v807 : BitVec 1 := Scalar.xori v805 v806
  let c0_i32_566 : BitVec 32 := 0#32
  let v804 : BitVec 1 := Scalar.cmpi .ne v803 c0_i32_566
  let v808 : BitVec 1 := Scalar.andi v807 v804
  let v809 : BitVec 32 := Scalar.addi v803 v802
  let v810 : BitVec 32 := Scalar.select v808 v809 v803
  let c1_i32_572 : BitVec 32 := 1#32
  let v811 : BitVec 32 := Scalar.muli v810 c1_i32_572
  let v812 : BitVec 32 := Scalar.addi c0_i32_573 v811
  v812.toNat
def k0_dev45 (d0 : Dev nD) : Nat :=
  let c0_i32_591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_580 : BitVec 32 := 11#32
  let v822 : BitVec 32 := Scalar.addi v2 c11_i32_580
  let c32_i32_581 : BitVec 32 := 32#32
  let c0_i32_582 : BitVec 32 := 0#32
  let v823 : BitVec 1 := Scalar.cmpi .eq c32_i32_581 c0_i32_582
  let c1_i32_583 : BitVec 32 := 1#32
  let v824 : BitVec 32 := Scalar.select v823 c1_i32_583 c32_i32_581
  let v825 : BitVec 32 := Scalar.remsi v822 v824
  let c0_i32_585 : BitVec 32 := 0#32
  let v827 : BitVec 1 := Scalar.cmpi .slt v825 c0_i32_585
  let c0_i32_586 : BitVec 32 := 0#32
  let v828 : BitVec 1 := Scalar.cmpi .slt v824 c0_i32_586
  let v829 : BitVec 1 := Scalar.xori v827 v828
  let c0_i32_584 : BitVec 32 := 0#32
  let v826 : BitVec 1 := Scalar.cmpi .ne v825 c0_i32_584
  let v830 : BitVec 1 := Scalar.andi v829 v826
  let v831 : BitVec 32 := Scalar.addi v825 v824
  let v832 : BitVec 32 := Scalar.select v830 v831 v825
  let c1_i32_590 : BitVec 32 := 1#32
  let v833 : BitVec 32 := Scalar.muli v832 c1_i32_590
  let v834 : BitVec 32 := Scalar.addi c0_i32_591 v833
  v834.toNat
def k0_dev46 (d0 : Dev nD) : Nat :=
  let c0_i32_609 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_598 : BitVec 32 := 10#32
  let v844 : BitVec 32 := Scalar.addi v2 c10_i32_598
  let c32_i32_599 : BitVec 32 := 32#32
  let c0_i32_600 : BitVec 32 := 0#32
  let v845 : BitVec 1 := Scalar.cmpi .eq c32_i32_599 c0_i32_600
  let c1_i32_601 : BitVec 32 := 1#32
  let v846 : BitVec 32 := Scalar.select v845 c1_i32_601 c32_i32_599
  let v847 : BitVec 32 := Scalar.remsi v844 v846
  let c0_i32_603 : BitVec 32 := 0#32
  let v849 : BitVec 1 := Scalar.cmpi .slt v847 c0_i32_603
  let c0_i32_604 : BitVec 32 := 0#32
  let v850 : BitVec 1 := Scalar.cmpi .slt v846 c0_i32_604
  let v851 : BitVec 1 := Scalar.xori v849 v850
  let c0_i32_602 : BitVec 32 := 0#32
  let v848 : BitVec 1 := Scalar.cmpi .ne v847 c0_i32_602
  let v852 : BitVec 1 := Scalar.andi v851 v848
  let v853 : BitVec 32 := Scalar.addi v847 v846
  let v854 : BitVec 32 := Scalar.select v852 v853 v847
  let c1_i32_608 : BitVec 32 := 1#32
  let v855 : BitVec 32 := Scalar.muli v854 c1_i32_608
  let v856 : BitVec 32 := Scalar.addi c0_i32_609 v855
  v856.toNat
def k0_dev47 (d0 : Dev nD) : Nat :=
  let c0_i32_627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_616 : BitVec 32 := 9#32
  let v866 : BitVec 32 := Scalar.addi v2 c9_i32_616
  let c32_i32_617 : BitVec 32 := 32#32
  let c0_i32_618 : BitVec 32 := 0#32
  let v867 : BitVec 1 := Scalar.cmpi .eq c32_i32_617 c0_i32_618
  let c1_i32_619 : BitVec 32 := 1#32
  let v868 : BitVec 32 := Scalar.select v867 c1_i32_619 c32_i32_617
  let v869 : BitVec 32 := Scalar.remsi v866 v868
  let c0_i32_621 : BitVec 32 := 0#32
  let v871 : BitVec 1 := Scalar.cmpi .slt v869 c0_i32_621
  let c0_i32_622 : BitVec 32 := 0#32
  let v872 : BitVec 1 := Scalar.cmpi .slt v868 c0_i32_622
  let v873 : BitVec 1 := Scalar.xori v871 v872
  let c0_i32_620 : BitVec 32 := 0#32
  let v870 : BitVec 1 := Scalar.cmpi .ne v869 c0_i32_620
  let v874 : BitVec 1 := Scalar.andi v873 v870
  let v875 : BitVec 32 := Scalar.addi v869 v868
  let v876 : BitVec 32 := Scalar.select v874 v875 v869
  let c1_i32_626 : BitVec 32 := 1#32
  let v877 : BitVec 32 := Scalar.muli v876 c1_i32_626
  let v878 : BitVec 32 := Scalar.addi c0_i32_627 v877
  v878.toNat
def k0_dev48 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_634 : BitVec 32 := 8#32
  let v888 : BitVec 32 := Scalar.addi v2 c8_i32_634
  let c32_i32_635 : BitVec 32 := 32#32
  let c0_i32_636 : BitVec 32 := 0#32
  let v889 : BitVec 1 := Scalar.cmpi .eq c32_i32_635 c0_i32_636
  let c1_i32_637 : BitVec 32 := 1#32
  let v890 : BitVec 32 := Scalar.select v889 c1_i32_637 c32_i32_635
  let v891 : BitVec 32 := Scalar.remsi v888 v890
  let c0_i32_639 : BitVec 32 := 0#32
  let v893 : BitVec 1 := Scalar.cmpi .slt v891 c0_i32_639
  let c0_i32_640 : BitVec 32 := 0#32
  let v894 : BitVec 1 := Scalar.cmpi .slt v890 c0_i32_640
  let v895 : BitVec 1 := Scalar.xori v893 v894
  let c0_i32_638 : BitVec 32 := 0#32
  let v892 : BitVec 1 := Scalar.cmpi .ne v891 c0_i32_638
  let v896 : BitVec 1 := Scalar.andi v895 v892
  let v897 : BitVec 32 := Scalar.addi v891 v890
  let v898 : BitVec 32 := Scalar.select v896 v897 v891
  let c1_i32_644 : BitVec 32 := 1#32
  let v899 : BitVec 32 := Scalar.muli v898 c1_i32_644
  let v900 : BitVec 32 := Scalar.addi c0_i32_645 v899
  v900.toNat
def k0_dev49 (d0 : Dev nD) : Nat :=
  let c0_i32_670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_659 : BitVec 32 := 16#32
  let v933 : BitVec 32 := Scalar.addi v2 c16_i32_659
  let c32_i32_660 : BitVec 32 := 32#32
  let c0_i32_661 : BitVec 32 := 0#32
  let v934 : BitVec 1 := Scalar.cmpi .eq c32_i32_660 c0_i32_661
  let c1_i32_662 : BitVec 32 := 1#32
  let v935 : BitVec 32 := Scalar.select v934 c1_i32_662 c32_i32_660
  let v936 : BitVec 32 := Scalar.remsi v933 v935
  let c0_i32_664 : BitVec 32 := 0#32
  let v938 : BitVec 1 := Scalar.cmpi .slt v936 c0_i32_664
  let c0_i32_665 : BitVec 32 := 0#32
  let v939 : BitVec 1 := Scalar.cmpi .slt v935 c0_i32_665
  let v940 : BitVec 1 := Scalar.xori v938 v939
  let c0_i32_663 : BitVec 32 := 0#32
  let v937 : BitVec 1 := Scalar.cmpi .ne v936 c0_i32_663
  let v941 : BitVec 1 := Scalar.andi v940 v937
  let v942 : BitVec 32 := Scalar.addi v936 v935
  let v943 : BitVec 32 := Scalar.select v941 v942 v936
  let c1_i32_669 : BitVec 32 := 1#32
  let v944 : BitVec 32 := Scalar.muli v943 c1_i32_669
  let v945 : BitVec 32 := Scalar.addi c0_i32_670 v944
  v945.toNat
def k0_dev50 (d0 : Dev nD) : Nat :=
  let c0_i32_689 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_678 : BitVec 32 := 17#32
  let v955 : BitVec 32 := Scalar.addi v2 c17_i32_678
  let c32_i32_679 : BitVec 32 := 32#32
  let c0_i32_680 : BitVec 32 := 0#32
  let v956 : BitVec 1 := Scalar.cmpi .eq c32_i32_679 c0_i32_680
  let c1_i32_681 : BitVec 32 := 1#32
  let v957 : BitVec 32 := Scalar.select v956 c1_i32_681 c32_i32_679
  let v958 : BitVec 32 := Scalar.remsi v955 v957
  let c0_i32_683 : BitVec 32 := 0#32
  let v960 : BitVec 1 := Scalar.cmpi .slt v958 c0_i32_683
  let c0_i32_684 : BitVec 32 := 0#32
  let v961 : BitVec 1 := Scalar.cmpi .slt v957 c0_i32_684
  let v962 : BitVec 1 := Scalar.xori v960 v961
  let c0_i32_682 : BitVec 32 := 0#32
  let v959 : BitVec 1 := Scalar.cmpi .ne v958 c0_i32_682
  let v963 : BitVec 1 := Scalar.andi v962 v959
  let v964 : BitVec 32 := Scalar.addi v958 v957
  let v965 : BitVec 32 := Scalar.select v963 v964 v958
  let c1_i32_688 : BitVec 32 := 1#32
  let v966 : BitVec 32 := Scalar.muli v965 c1_i32_688
  let v967 : BitVec 32 := Scalar.addi c0_i32_689 v966
  v967.toNat
def k0_dev51 (d0 : Dev nD) : Nat :=
  let c0_i32_707 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_696 : BitVec 32 := 18#32
  let v977 : BitVec 32 := Scalar.addi v2 c18_i32_696
  let c32_i32_697 : BitVec 32 := 32#32
  let c0_i32_698 : BitVec 32 := 0#32
  let v978 : BitVec 1 := Scalar.cmpi .eq c32_i32_697 c0_i32_698
  let c1_i32_699 : BitVec 32 := 1#32
  let v979 : BitVec 32 := Scalar.select v978 c1_i32_699 c32_i32_697
  let v980 : BitVec 32 := Scalar.remsi v977 v979
  let c0_i32_701 : BitVec 32 := 0#32
  let v982 : BitVec 1 := Scalar.cmpi .slt v980 c0_i32_701
  let c0_i32_702 : BitVec 32 := 0#32
  let v983 : BitVec 1 := Scalar.cmpi .slt v979 c0_i32_702
  let v984 : BitVec 1 := Scalar.xori v982 v983
  let c0_i32_700 : BitVec 32 := 0#32
  let v981 : BitVec 1 := Scalar.cmpi .ne v980 c0_i32_700
  let v985 : BitVec 1 := Scalar.andi v984 v981
  let v986 : BitVec 32 := Scalar.addi v980 v979
  let v987 : BitVec 32 := Scalar.select v985 v986 v980
  let c1_i32_706 : BitVec 32 := 1#32
  let v988 : BitVec 32 := Scalar.muli v987 c1_i32_706
  let v989 : BitVec 32 := Scalar.addi c0_i32_707 v988
  v989.toNat
def k0_dev52 (d0 : Dev nD) : Nat :=
  let c0_i32_725 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_714 : BitVec 32 := 19#32
  let v999 : BitVec 32 := Scalar.addi v2 c19_i32_714
  let c32_i32_715 : BitVec 32 := 32#32
  let c0_i32_716 : BitVec 32 := 0#32
  let v1000 : BitVec 1 := Scalar.cmpi .eq c32_i32_715 c0_i32_716
  let c1_i32_717 : BitVec 32 := 1#32
  let v1001 : BitVec 32 := Scalar.select v1000 c1_i32_717 c32_i32_715
  let v1002 : BitVec 32 := Scalar.remsi v999 v1001
  let c0_i32_719 : BitVec 32 := 0#32
  let v1004 : BitVec 1 := Scalar.cmpi .slt v1002 c0_i32_719
  let c0_i32_720 : BitVec 32 := 0#32
  let v1005 : BitVec 1 := Scalar.cmpi .slt v1001 c0_i32_720
  let v1006 : BitVec 1 := Scalar.xori v1004 v1005
  let c0_i32_718 : BitVec 32 := 0#32
  let v1003 : BitVec 1 := Scalar.cmpi .ne v1002 c0_i32_718
  let v1007 : BitVec 1 := Scalar.andi v1006 v1003
  let v1008 : BitVec 32 := Scalar.addi v1002 v1001
  let v1009 : BitVec 32 := Scalar.select v1007 v1008 v1002
  let c1_i32_724 : BitVec 32 := 1#32
  let v1010 : BitVec 32 := Scalar.muli v1009 c1_i32_724
  let v1011 : BitVec 32 := Scalar.addi c0_i32_725 v1010
  v1011.toNat
def k0_dev53 (d0 : Dev nD) : Nat :=
  let c0_i32_743 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_732 : BitVec 32 := 20#32
  let v1021 : BitVec 32 := Scalar.addi v2 c20_i32_732
  let c32_i32_733 : BitVec 32 := 32#32
  let c0_i32_734 : BitVec 32 := 0#32
  let v1022 : BitVec 1 := Scalar.cmpi .eq c32_i32_733 c0_i32_734
  let c1_i32_735 : BitVec 32 := 1#32
  let v1023 : BitVec 32 := Scalar.select v1022 c1_i32_735 c32_i32_733
  let v1024 : BitVec 32 := Scalar.remsi v1021 v1023
  let c0_i32_737 : BitVec 32 := 0#32
  let v1026 : BitVec 1 := Scalar.cmpi .slt v1024 c0_i32_737
  let c0_i32_738 : BitVec 32 := 0#32
  let v1027 : BitVec 1 := Scalar.cmpi .slt v1023 c0_i32_738
  let v1028 : BitVec 1 := Scalar.xori v1026 v1027
  let c0_i32_736 : BitVec 32 := 0#32
  let v1025 : BitVec 1 := Scalar.cmpi .ne v1024 c0_i32_736
  let v1029 : BitVec 1 := Scalar.andi v1028 v1025
  let v1030 : BitVec 32 := Scalar.addi v1024 v1023
  let v1031 : BitVec 32 := Scalar.select v1029 v1030 v1024
  let c1_i32_742 : BitVec 32 := 1#32
  let v1032 : BitVec 32 := Scalar.muli v1031 c1_i32_742
  let v1033 : BitVec 32 := Scalar.addi c0_i32_743 v1032
  v1033.toNat
def k0_dev54 (d0 : Dev nD) : Nat :=
  let c0_i32_761 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_750 : BitVec 32 := 21#32
  let v1043 : BitVec 32 := Scalar.addi v2 c21_i32_750
  let c32_i32_751 : BitVec 32 := 32#32
  let c0_i32_752 : BitVec 32 := 0#32
  let v1044 : BitVec 1 := Scalar.cmpi .eq c32_i32_751 c0_i32_752
  let c1_i32_753 : BitVec 32 := 1#32
  let v1045 : BitVec 32 := Scalar.select v1044 c1_i32_753 c32_i32_751
  let v1046 : BitVec 32 := Scalar.remsi v1043 v1045
  let c0_i32_755 : BitVec 32 := 0#32
  let v1048 : BitVec 1 := Scalar.cmpi .slt v1046 c0_i32_755
  let c0_i32_756 : BitVec 32 := 0#32
  let v1049 : BitVec 1 := Scalar.cmpi .slt v1045 c0_i32_756
  let v1050 : BitVec 1 := Scalar.xori v1048 v1049
  let c0_i32_754 : BitVec 32 := 0#32
  let v1047 : BitVec 1 := Scalar.cmpi .ne v1046 c0_i32_754
  let v1051 : BitVec 1 := Scalar.andi v1050 v1047
  let v1052 : BitVec 32 := Scalar.addi v1046 v1045
  let v1053 : BitVec 32 := Scalar.select v1051 v1052 v1046
  let c1_i32_760 : BitVec 32 := 1#32
  let v1054 : BitVec 32 := Scalar.muli v1053 c1_i32_760
  let v1055 : BitVec 32 := Scalar.addi c0_i32_761 v1054
  v1055.toNat
def k0_dev55 (d0 : Dev nD) : Nat :=
  let c0_i32_779 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_768 : BitVec 32 := 22#32
  let v1065 : BitVec 32 := Scalar.addi v2 c22_i32_768
  let c32_i32_769 : BitVec 32 := 32#32
  let c0_i32_770 : BitVec 32 := 0#32
  let v1066 : BitVec 1 := Scalar.cmpi .eq c32_i32_769 c0_i32_770
  let c1_i32_771 : BitVec 32 := 1#32
  let v1067 : BitVec 32 := Scalar.select v1066 c1_i32_771 c32_i32_769
  let v1068 : BitVec 32 := Scalar.remsi v1065 v1067
  let c0_i32_773 : BitVec 32 := 0#32
  let v1070 : BitVec 1 := Scalar.cmpi .slt v1068 c0_i32_773
  let c0_i32_774 : BitVec 32 := 0#32
  let v1071 : BitVec 1 := Scalar.cmpi .slt v1067 c0_i32_774
  let v1072 : BitVec 1 := Scalar.xori v1070 v1071
  let c0_i32_772 : BitVec 32 := 0#32
  let v1069 : BitVec 1 := Scalar.cmpi .ne v1068 c0_i32_772
  let v1073 : BitVec 1 := Scalar.andi v1072 v1069
  let v1074 : BitVec 32 := Scalar.addi v1068 v1067
  let v1075 : BitVec 32 := Scalar.select v1073 v1074 v1068
  let c1_i32_778 : BitVec 32 := 1#32
  let v1076 : BitVec 32 := Scalar.muli v1075 c1_i32_778
  let v1077 : BitVec 32 := Scalar.addi c0_i32_779 v1076
  v1077.toNat
def k0_dev56 (d0 : Dev nD) : Nat :=
  let c0_i32_797 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_786 : BitVec 32 := 23#32
  let v1087 : BitVec 32 := Scalar.addi v2 c23_i32_786
  let c32_i32_787 : BitVec 32 := 32#32
  let c0_i32_788 : BitVec 32 := 0#32
  let v1088 : BitVec 1 := Scalar.cmpi .eq c32_i32_787 c0_i32_788
  let c1_i32_789 : BitVec 32 := 1#32
  let v1089 : BitVec 32 := Scalar.select v1088 c1_i32_789 c32_i32_787
  let v1090 : BitVec 32 := Scalar.remsi v1087 v1089
  let c0_i32_791 : BitVec 32 := 0#32
  let v1092 : BitVec 1 := Scalar.cmpi .slt v1090 c0_i32_791
  let c0_i32_792 : BitVec 32 := 0#32
  let v1093 : BitVec 1 := Scalar.cmpi .slt v1089 c0_i32_792
  let v1094 : BitVec 1 := Scalar.xori v1092 v1093
  let c0_i32_790 : BitVec 32 := 0#32
  let v1091 : BitVec 1 := Scalar.cmpi .ne v1090 c0_i32_790
  let v1095 : BitVec 1 := Scalar.andi v1094 v1091
  let v1096 : BitVec 32 := Scalar.addi v1090 v1089
  let v1097 : BitVec 32 := Scalar.select v1095 v1096 v1090
  let c1_i32_796 : BitVec 32 := 1#32
  let v1098 : BitVec 32 := Scalar.muli v1097 c1_i32_796
  let v1099 : BitVec 32 := Scalar.addi c0_i32_797 v1098
  v1099.toNat
def k0_dev57 (d0 : Dev nD) : Nat :=
  let c0_i32_821 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_810 : BitVec 32 := 24#32
  let v1132 : BitVec 32 := Scalar.addi v2 c24_i32_810
  let c32_i32_811 : BitVec 32 := 32#32
  let c0_i32_812 : BitVec 32 := 0#32
  let v1133 : BitVec 1 := Scalar.cmpi .eq c32_i32_811 c0_i32_812
  let c1_i32_813 : BitVec 32 := 1#32
  let v1134 : BitVec 32 := Scalar.select v1133 c1_i32_813 c32_i32_811
  let v1135 : BitVec 32 := Scalar.remsi v1132 v1134
  let c0_i32_815 : BitVec 32 := 0#32
  let v1137 : BitVec 1 := Scalar.cmpi .slt v1135 c0_i32_815
  let c0_i32_816 : BitVec 32 := 0#32
  let v1138 : BitVec 1 := Scalar.cmpi .slt v1134 c0_i32_816
  let v1139 : BitVec 1 := Scalar.xori v1137 v1138
  let c0_i32_814 : BitVec 32 := 0#32
  let v1136 : BitVec 1 := Scalar.cmpi .ne v1135 c0_i32_814
  let v1140 : BitVec 1 := Scalar.andi v1139 v1136
  let v1141 : BitVec 32 := Scalar.addi v1135 v1134
  let v1142 : BitVec 32 := Scalar.select v1140 v1141 v1135
  let c1_i32_820 : BitVec 32 := 1#32
  let v1143 : BitVec 32 := Scalar.muli v1142 c1_i32_820
  let v1144 : BitVec 32 := Scalar.addi c0_i32_821 v1143
  v1144.toNat
def k0_dev58 (d0 : Dev nD) : Nat :=
  let c0_i32_840 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_829 : BitVec 32 := 25#32
  let v1154 : BitVec 32 := Scalar.addi v2 c25_i32_829
  let c32_i32_830 : BitVec 32 := 32#32
  let c0_i32_831 : BitVec 32 := 0#32
  let v1155 : BitVec 1 := Scalar.cmpi .eq c32_i32_830 c0_i32_831
  let c1_i32_832 : BitVec 32 := 1#32
  let v1156 : BitVec 32 := Scalar.select v1155 c1_i32_832 c32_i32_830
  let v1157 : BitVec 32 := Scalar.remsi v1154 v1156
  let c0_i32_834 : BitVec 32 := 0#32
  let v1159 : BitVec 1 := Scalar.cmpi .slt v1157 c0_i32_834
  let c0_i32_835 : BitVec 32 := 0#32
  let v1160 : BitVec 1 := Scalar.cmpi .slt v1156 c0_i32_835
  let v1161 : BitVec 1 := Scalar.xori v1159 v1160
  let c0_i32_833 : BitVec 32 := 0#32
  let v1158 : BitVec 1 := Scalar.cmpi .ne v1157 c0_i32_833
  let v1162 : BitVec 1 := Scalar.andi v1161 v1158
  let v1163 : BitVec 32 := Scalar.addi v1157 v1156
  let v1164 : BitVec 32 := Scalar.select v1162 v1163 v1157
  let c1_i32_839 : BitVec 32 := 1#32
  let v1165 : BitVec 32 := Scalar.muli v1164 c1_i32_839
  let v1166 : BitVec 32 := Scalar.addi c0_i32_840 v1165
  v1166.toNat
def k0_dev59 (d0 : Dev nD) : Nat :=
  let c0_i32_858 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_847 : BitVec 32 := 26#32
  let v1176 : BitVec 32 := Scalar.addi v2 c26_i32_847
  let c32_i32_848 : BitVec 32 := 32#32
  let c0_i32_849 : BitVec 32 := 0#32
  let v1177 : BitVec 1 := Scalar.cmpi .eq c32_i32_848 c0_i32_849
  let c1_i32_850 : BitVec 32 := 1#32
  let v1178 : BitVec 32 := Scalar.select v1177 c1_i32_850 c32_i32_848
  let v1179 : BitVec 32 := Scalar.remsi v1176 v1178
  let c0_i32_852 : BitVec 32 := 0#32
  let v1181 : BitVec 1 := Scalar.cmpi .slt v1179 c0_i32_852
  let c0_i32_853 : BitVec 32 := 0#32
  let v1182 : BitVec 1 := Scalar.cmpi .slt v1178 c0_i32_853
  let v1183 : BitVec 1 := Scalar.xori v1181 v1182
  let c0_i32_851 : BitVec 32 := 0#32
  let v1180 : BitVec 1 := Scalar.cmpi .ne v1179 c0_i32_851
  let v1184 : BitVec 1 := Scalar.andi v1183 v1180
  let v1185 : BitVec 32 := Scalar.addi v1179 v1178
  let v1186 : BitVec 32 := Scalar.select v1184 v1185 v1179
  let c1_i32_857 : BitVec 32 := 1#32
  let v1187 : BitVec 32 := Scalar.muli v1186 c1_i32_857
  let v1188 : BitVec 32 := Scalar.addi c0_i32_858 v1187
  v1188.toNat
def k0_dev60 (d0 : Dev nD) : Nat :=
  let c0_i32_876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_865 : BitVec 32 := 27#32
  let v1198 : BitVec 32 := Scalar.addi v2 c27_i32_865
  let c32_i32_866 : BitVec 32 := 32#32
  let c0_i32_867 : BitVec 32 := 0#32
  let v1199 : BitVec 1 := Scalar.cmpi .eq c32_i32_866 c0_i32_867
  let c1_i32_868 : BitVec 32 := 1#32
  let v1200 : BitVec 32 := Scalar.select v1199 c1_i32_868 c32_i32_866
  let v1201 : BitVec 32 := Scalar.remsi v1198 v1200
  let c0_i32_870 : BitVec 32 := 0#32
  let v1203 : BitVec 1 := Scalar.cmpi .slt v1201 c0_i32_870
  let c0_i32_871 : BitVec 32 := 0#32
  let v1204 : BitVec 1 := Scalar.cmpi .slt v1200 c0_i32_871
  let v1205 : BitVec 1 := Scalar.xori v1203 v1204
  let c0_i32_869 : BitVec 32 := 0#32
  let v1202 : BitVec 1 := Scalar.cmpi .ne v1201 c0_i32_869
  let v1206 : BitVec 1 := Scalar.andi v1205 v1202
  let v1207 : BitVec 32 := Scalar.addi v1201 v1200
  let v1208 : BitVec 32 := Scalar.select v1206 v1207 v1201
  let c1_i32_875 : BitVec 32 := 1#32
  let v1209 : BitVec 32 := Scalar.muli v1208 c1_i32_875
  let v1210 : BitVec 32 := Scalar.addi c0_i32_876 v1209
  v1210.toNat
def k0_dev61 (d0 : Dev nD) : Nat :=
  let c0_i32_894 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_883 : BitVec 32 := 28#32
  let v1220 : BitVec 32 := Scalar.addi v2 c28_i32_883
  let c32_i32_884 : BitVec 32 := 32#32
  let c0_i32_885 : BitVec 32 := 0#32
  let v1221 : BitVec 1 := Scalar.cmpi .eq c32_i32_884 c0_i32_885
  let c1_i32_886 : BitVec 32 := 1#32
  let v1222 : BitVec 32 := Scalar.select v1221 c1_i32_886 c32_i32_884
  let v1223 : BitVec 32 := Scalar.remsi v1220 v1222
  let c0_i32_888 : BitVec 32 := 0#32
  let v1225 : BitVec 1 := Scalar.cmpi .slt v1223 c0_i32_888
  let c0_i32_889 : BitVec 32 := 0#32
  let v1226 : BitVec 1 := Scalar.cmpi .slt v1222 c0_i32_889
  let v1227 : BitVec 1 := Scalar.xori v1225 v1226
  let c0_i32_887 : BitVec 32 := 0#32
  let v1224 : BitVec 1 := Scalar.cmpi .ne v1223 c0_i32_887
  let v1228 : BitVec 1 := Scalar.andi v1227 v1224
  let v1229 : BitVec 32 := Scalar.addi v1223 v1222
  let v1230 : BitVec 32 := Scalar.select v1228 v1229 v1223
  let c1_i32_893 : BitVec 32 := 1#32
  let v1231 : BitVec 32 := Scalar.muli v1230 c1_i32_893
  let v1232 : BitVec 32 := Scalar.addi c0_i32_894 v1231
  v1232.toNat
def k0_dev62 (d0 : Dev nD) : Nat :=
  let c0_i32_912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_901 : BitVec 32 := 29#32
  let v1242 : BitVec 32 := Scalar.addi v2 c29_i32_901
  let c32_i32_902 : BitVec 32 := 32#32
  let c0_i32_903 : BitVec 32 := 0#32
  let v1243 : BitVec 1 := Scalar.cmpi .eq c32_i32_902 c0_i32_903
  let c1_i32_904 : BitVec 32 := 1#32
  let v1244 : BitVec 32 := Scalar.select v1243 c1_i32_904 c32_i32_902
  let v1245 : BitVec 32 := Scalar.remsi v1242 v1244
  let c0_i32_906 : BitVec 32 := 0#32
  let v1247 : BitVec 1 := Scalar.cmpi .slt v1245 c0_i32_906
  let c0_i32_907 : BitVec 32 := 0#32
  let v1248 : BitVec 1 := Scalar.cmpi .slt v1244 c0_i32_907
  let v1249 : BitVec 1 := Scalar.xori v1247 v1248
  let c0_i32_905 : BitVec 32 := 0#32
  let v1246 : BitVec 1 := Scalar.cmpi .ne v1245 c0_i32_905
  let v1250 : BitVec 1 := Scalar.andi v1249 v1246
  let v1251 : BitVec 32 := Scalar.addi v1245 v1244
  let v1252 : BitVec 32 := Scalar.select v1250 v1251 v1245
  let c1_i32_911 : BitVec 32 := 1#32
  let v1253 : BitVec 32 := Scalar.muli v1252 c1_i32_911
  let v1254 : BitVec 32 := Scalar.addi c0_i32_912 v1253
  v1254.toNat
def k0_dev63 (d0 : Dev nD) : Nat :=
  let c0_i32_930 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_919 : BitVec 32 := 30#32
  let v1264 : BitVec 32 := Scalar.addi v2 c30_i32_919
  let c32_i32_920 : BitVec 32 := 32#32
  let c0_i32_921 : BitVec 32 := 0#32
  let v1265 : BitVec 1 := Scalar.cmpi .eq c32_i32_920 c0_i32_921
  let c1_i32_922 : BitVec 32 := 1#32
  let v1266 : BitVec 32 := Scalar.select v1265 c1_i32_922 c32_i32_920
  let v1267 : BitVec 32 := Scalar.remsi v1264 v1266
  let c0_i32_924 : BitVec 32 := 0#32
  let v1269 : BitVec 1 := Scalar.cmpi .slt v1267 c0_i32_924
  let c0_i32_925 : BitVec 32 := 0#32
  let v1270 : BitVec 1 := Scalar.cmpi .slt v1266 c0_i32_925
  let v1271 : BitVec 1 := Scalar.xori v1269 v1270
  let c0_i32_923 : BitVec 32 := 0#32
  let v1268 : BitVec 1 := Scalar.cmpi .ne v1267 c0_i32_923
  let v1272 : BitVec 1 := Scalar.andi v1271 v1268
  let v1273 : BitVec 32 := Scalar.addi v1267 v1266
  let v1274 : BitVec 32 := Scalar.select v1272 v1273 v1267
  let c1_i32_929 : BitVec 32 := 1#32
  let v1275 : BitVec 32 := Scalar.muli v1274 c1_i32_929
  let v1276 : BitVec 32 := Scalar.addi c0_i32_930 v1275
  v1276.toNat
def k0_dev64 (d0 : Dev nD) : Nat :=
  let c0_i32_948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_937 : BitVec 32 := 31#32
  let v1286 : BitVec 32 := Scalar.addi v2 c31_i32_937
  let c32_i32_938 : BitVec 32 := 32#32
  let c0_i32_939 : BitVec 32 := 0#32
  let v1287 : BitVec 1 := Scalar.cmpi .eq c32_i32_938 c0_i32_939
  let c1_i32_940 : BitVec 32 := 1#32
  let v1288 : BitVec 32 := Scalar.select v1287 c1_i32_940 c32_i32_938
  let v1289 : BitVec 32 := Scalar.remsi v1286 v1288
  let c0_i32_942 : BitVec 32 := 0#32
  let v1291 : BitVec 1 := Scalar.cmpi .slt v1289 c0_i32_942
  let c0_i32_943 : BitVec 32 := 0#32
  let v1292 : BitVec 1 := Scalar.cmpi .slt v1288 c0_i32_943
  let v1293 : BitVec 1 := Scalar.xori v1291 v1292
  let c0_i32_941 : BitVec 32 := 0#32
  let v1290 : BitVec 1 := Scalar.cmpi .ne v1289 c0_i32_941
  let v1294 : BitVec 1 := Scalar.andi v1293 v1290
  let v1295 : BitVec 32 := Scalar.addi v1289 v1288
  let v1296 : BitVec 32 := Scalar.select v1294 v1295 v1289
  let c1_i32_947 : BitVec 32 := 1#32
  let v1297 : BitVec 32 := Scalar.muli v1296 c1_i32_947
  let v1298 : BitVec 32 := Scalar.addi c0_i32_948 v1297
  v1298.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1301 : BitVec 32 := 16#32
  let v1622 : BitVec 32 := Scalar.muli v2 c16_i32_1301
  let v1623 : Index := Scalar.indexCast v1622
  let c0_1302 : Index := 0#32
  ![v1623.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1304 : BitVec 32 := 16#32
  let v1626 : BitVec 32 := Scalar.muli v2 c16_i32_1304
  let c0_i32_1316 : BitVec 32 := 0#32
  ![v1626.toNat, 0]
def k0_dev65 (d0 : Dev nD) : Nat :=
  let c0_i32_1315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1305 : BitVec 32 := 16#32
  let v1627 : BitVec 32 := Scalar.addi v2 c16_i32_1305
  let c32_i32_1306 : BitVec 32 := 32#32
  let c0_i32_1307 : BitVec 32 := 0#32
  let v1628 : BitVec 1 := Scalar.cmpi .eq c32_i32_1306 c0_i32_1307
  let c1_i32_1308 : BitVec 32 := 1#32
  let v1629 : BitVec 32 := Scalar.select v1628 c1_i32_1308 c32_i32_1306
  let v1630 : BitVec 32 := Scalar.remsi v1627 v1629
  let c0_i32_1310 : BitVec 32 := 0#32
  let v1632 : BitVec 1 := Scalar.cmpi .slt v1630 c0_i32_1310
  let c0_i32_1311 : BitVec 32 := 0#32
  let v1633 : BitVec 1 := Scalar.cmpi .slt v1629 c0_i32_1311
  let v1634 : BitVec 1 := Scalar.xori v1632 v1633
  let c0_i32_1309 : BitVec 32 := 0#32
  let v1631 : BitVec 1 := Scalar.cmpi .ne v1630 c0_i32_1309
  let v1635 : BitVec 1 := Scalar.andi v1634 v1631
  let v1636 : BitVec 32 := Scalar.addi v1630 v1629
  let v1637 : BitVec 32 := Scalar.select v1635 v1636 v1630
  let c1_i32_1314 : BitVec 32 := 1#32
  let v1638 : BitVec 32 := Scalar.muli v1637 c1_i32_1314
  let v1639 : BitVec 32 := Scalar.addi c0_i32_1315 v1638
  v1639.toNat
def k0_dev66 (d0 : Dev nD) : Nat :=
  let c0_i32_1330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1320 : BitVec 32 := 15#32
  let v1648 : BitVec 32 := Scalar.addi v2 c15_i32_1320
  let c32_i32_1321 : BitVec 32 := 32#32
  let c0_i32_1322 : BitVec 32 := 0#32
  let v1649 : BitVec 1 := Scalar.cmpi .eq c32_i32_1321 c0_i32_1322
  let c1_i32_1323 : BitVec 32 := 1#32
  let v1650 : BitVec 32 := Scalar.select v1649 c1_i32_1323 c32_i32_1321
  let v1651 : BitVec 32 := Scalar.remsi v1648 v1650
  let c0_i32_1325 : BitVec 32 := 0#32
  let v1653 : BitVec 1 := Scalar.cmpi .slt v1651 c0_i32_1325
  let c0_i32_1326 : BitVec 32 := 0#32
  let v1654 : BitVec 1 := Scalar.cmpi .slt v1650 c0_i32_1326
  let v1655 : BitVec 1 := Scalar.xori v1653 v1654
  let c0_i32_1324 : BitVec 32 := 0#32
  let v1652 : BitVec 1 := Scalar.cmpi .ne v1651 c0_i32_1324
  let v1656 : BitVec 1 := Scalar.andi v1655 v1652
  let v1657 : BitVec 32 := Scalar.addi v1651 v1650
  let v1658 : BitVec 32 := Scalar.select v1656 v1657 v1651
  let c1_i32_1329 : BitVec 32 := 1#32
  let v1659 : BitVec 32 := Scalar.muli v1658 c1_i32_1329
  let v1660 : BitVec 32 := Scalar.addi c0_i32_1330 v1659
  v1660.toNat
def k0_dev67 (d0 : Dev nD) : Nat :=
  let c0_i32_1345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1335 : BitVec 32 := 17#32
  let v1669 : BitVec 32 := Scalar.addi v2 c17_i32_1335
  let c32_i32_1336 : BitVec 32 := 32#32
  let c0_i32_1337 : BitVec 32 := 0#32
  let v1670 : BitVec 1 := Scalar.cmpi .eq c32_i32_1336 c0_i32_1337
  let c1_i32_1338 : BitVec 32 := 1#32
  let v1671 : BitVec 32 := Scalar.select v1670 c1_i32_1338 c32_i32_1336
  let v1672 : BitVec 32 := Scalar.remsi v1669 v1671
  let c0_i32_1340 : BitVec 32 := 0#32
  let v1674 : BitVec 1 := Scalar.cmpi .slt v1672 c0_i32_1340
  let c0_i32_1341 : BitVec 32 := 0#32
  let v1675 : BitVec 1 := Scalar.cmpi .slt v1671 c0_i32_1341
  let v1676 : BitVec 1 := Scalar.xori v1674 v1675
  let c0_i32_1339 : BitVec 32 := 0#32
  let v1673 : BitVec 1 := Scalar.cmpi .ne v1672 c0_i32_1339
  let v1677 : BitVec 1 := Scalar.andi v1676 v1673
  let v1678 : BitVec 32 := Scalar.addi v1672 v1671
  let v1679 : BitVec 32 := Scalar.select v1677 v1678 v1672
  let c1_i32_1344 : BitVec 32 := 1#32
  let v1680 : BitVec 32 := Scalar.muli v1679 c1_i32_1344
  let v1681 : BitVec 32 := Scalar.addi c0_i32_1345 v1680
  v1681.toNat
def k0_dev68 (d0 : Dev nD) : Nat :=
  let c0_i32_1360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1350 : BitVec 32 := 14#32
  let v1690 : BitVec 32 := Scalar.addi v2 c14_i32_1350
  let c32_i32_1351 : BitVec 32 := 32#32
  let c0_i32_1352 : BitVec 32 := 0#32
  let v1691 : BitVec 1 := Scalar.cmpi .eq c32_i32_1351 c0_i32_1352
  let c1_i32_1353 : BitVec 32 := 1#32
  let v1692 : BitVec 32 := Scalar.select v1691 c1_i32_1353 c32_i32_1351
  let v1693 : BitVec 32 := Scalar.remsi v1690 v1692
  let c0_i32_1355 : BitVec 32 := 0#32
  let v1695 : BitVec 1 := Scalar.cmpi .slt v1693 c0_i32_1355
  let c0_i32_1356 : BitVec 32 := 0#32
  let v1696 : BitVec 1 := Scalar.cmpi .slt v1692 c0_i32_1356
  let v1697 : BitVec 1 := Scalar.xori v1695 v1696
  let c0_i32_1354 : BitVec 32 := 0#32
  let v1694 : BitVec 1 := Scalar.cmpi .ne v1693 c0_i32_1354
  let v1698 : BitVec 1 := Scalar.andi v1697 v1694
  let v1699 : BitVec 32 := Scalar.addi v1693 v1692
  let v1700 : BitVec 32 := Scalar.select v1698 v1699 v1693
  let c1_i32_1359 : BitVec 32 := 1#32
  let v1701 : BitVec 32 := Scalar.muli v1700 c1_i32_1359
  let v1702 : BitVec 32 := Scalar.addi c0_i32_1360 v1701
  v1702.toNat
def k0_dev69 (d0 : Dev nD) : Nat :=
  let c0_i32_1375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1365 : BitVec 32 := 18#32
  let v1711 : BitVec 32 := Scalar.addi v2 c18_i32_1365
  let c32_i32_1366 : BitVec 32 := 32#32
  let c0_i32_1367 : BitVec 32 := 0#32
  let v1712 : BitVec 1 := Scalar.cmpi .eq c32_i32_1366 c0_i32_1367
  let c1_i32_1368 : BitVec 32 := 1#32
  let v1713 : BitVec 32 := Scalar.select v1712 c1_i32_1368 c32_i32_1366
  let v1714 : BitVec 32 := Scalar.remsi v1711 v1713
  let c0_i32_1370 : BitVec 32 := 0#32
  let v1716 : BitVec 1 := Scalar.cmpi .slt v1714 c0_i32_1370
  let c0_i32_1371 : BitVec 32 := 0#32
  let v1717 : BitVec 1 := Scalar.cmpi .slt v1713 c0_i32_1371
  let v1718 : BitVec 1 := Scalar.xori v1716 v1717
  let c0_i32_1369 : BitVec 32 := 0#32
  let v1715 : BitVec 1 := Scalar.cmpi .ne v1714 c0_i32_1369
  let v1719 : BitVec 1 := Scalar.andi v1718 v1715
  let v1720 : BitVec 32 := Scalar.addi v1714 v1713
  let v1721 : BitVec 32 := Scalar.select v1719 v1720 v1714
  let c1_i32_1374 : BitVec 32 := 1#32
  let v1722 : BitVec 32 := Scalar.muli v1721 c1_i32_1374
  let v1723 : BitVec 32 := Scalar.addi c0_i32_1375 v1722
  v1723.toNat
def k0_dev70 (d0 : Dev nD) : Nat :=
  let c0_i32_1390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1380 : BitVec 32 := 13#32
  let v1732 : BitVec 32 := Scalar.addi v2 c13_i32_1380
  let c32_i32_1381 : BitVec 32 := 32#32
  let c0_i32_1382 : BitVec 32 := 0#32
  let v1733 : BitVec 1 := Scalar.cmpi .eq c32_i32_1381 c0_i32_1382
  let c1_i32_1383 : BitVec 32 := 1#32
  let v1734 : BitVec 32 := Scalar.select v1733 c1_i32_1383 c32_i32_1381
  let v1735 : BitVec 32 := Scalar.remsi v1732 v1734
  let c0_i32_1385 : BitVec 32 := 0#32
  let v1737 : BitVec 1 := Scalar.cmpi .slt v1735 c0_i32_1385
  let c0_i32_1386 : BitVec 32 := 0#32
  let v1738 : BitVec 1 := Scalar.cmpi .slt v1734 c0_i32_1386
  let v1739 : BitVec 1 := Scalar.xori v1737 v1738
  let c0_i32_1384 : BitVec 32 := 0#32
  let v1736 : BitVec 1 := Scalar.cmpi .ne v1735 c0_i32_1384
  let v1740 : BitVec 1 := Scalar.andi v1739 v1736
  let v1741 : BitVec 32 := Scalar.addi v1735 v1734
  let v1742 : BitVec 32 := Scalar.select v1740 v1741 v1735
  let c1_i32_1389 : BitVec 32 := 1#32
  let v1743 : BitVec 32 := Scalar.muli v1742 c1_i32_1389
  let v1744 : BitVec 32 := Scalar.addi c0_i32_1390 v1743
  v1744.toNat
def k0_dev71 (d0 : Dev nD) : Nat :=
  let c0_i32_1405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1395 : BitVec 32 := 19#32
  let v1753 : BitVec 32 := Scalar.addi v2 c19_i32_1395
  let c32_i32_1396 : BitVec 32 := 32#32
  let c0_i32_1397 : BitVec 32 := 0#32
  let v1754 : BitVec 1 := Scalar.cmpi .eq c32_i32_1396 c0_i32_1397
  let c1_i32_1398 : BitVec 32 := 1#32
  let v1755 : BitVec 32 := Scalar.select v1754 c1_i32_1398 c32_i32_1396
  let v1756 : BitVec 32 := Scalar.remsi v1753 v1755
  let c0_i32_1400 : BitVec 32 := 0#32
  let v1758 : BitVec 1 := Scalar.cmpi .slt v1756 c0_i32_1400
  let c0_i32_1401 : BitVec 32 := 0#32
  let v1759 : BitVec 1 := Scalar.cmpi .slt v1755 c0_i32_1401
  let v1760 : BitVec 1 := Scalar.xori v1758 v1759
  let c0_i32_1399 : BitVec 32 := 0#32
  let v1757 : BitVec 1 := Scalar.cmpi .ne v1756 c0_i32_1399
  let v1761 : BitVec 1 := Scalar.andi v1760 v1757
  let v1762 : BitVec 32 := Scalar.addi v1756 v1755
  let v1763 : BitVec 32 := Scalar.select v1761 v1762 v1756
  let c1_i32_1404 : BitVec 32 := 1#32
  let v1764 : BitVec 32 := Scalar.muli v1763 c1_i32_1404
  let v1765 : BitVec 32 := Scalar.addi c0_i32_1405 v1764
  v1765.toNat
def k0_dev72 (d0 : Dev nD) : Nat :=
  let c0_i32_1420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1410 : BitVec 32 := 12#32
  let v1774 : BitVec 32 := Scalar.addi v2 c12_i32_1410
  let c32_i32_1411 : BitVec 32 := 32#32
  let c0_i32_1412 : BitVec 32 := 0#32
  let v1775 : BitVec 1 := Scalar.cmpi .eq c32_i32_1411 c0_i32_1412
  let c1_i32_1413 : BitVec 32 := 1#32
  let v1776 : BitVec 32 := Scalar.select v1775 c1_i32_1413 c32_i32_1411
  let v1777 : BitVec 32 := Scalar.remsi v1774 v1776
  let c0_i32_1415 : BitVec 32 := 0#32
  let v1779 : BitVec 1 := Scalar.cmpi .slt v1777 c0_i32_1415
  let c0_i32_1416 : BitVec 32 := 0#32
  let v1780 : BitVec 1 := Scalar.cmpi .slt v1776 c0_i32_1416
  let v1781 : BitVec 1 := Scalar.xori v1779 v1780
  let c0_i32_1414 : BitVec 32 := 0#32
  let v1778 : BitVec 1 := Scalar.cmpi .ne v1777 c0_i32_1414
  let v1782 : BitVec 1 := Scalar.andi v1781 v1778
  let v1783 : BitVec 32 := Scalar.addi v1777 v1776
  let v1784 : BitVec 32 := Scalar.select v1782 v1783 v1777
  let c1_i32_1419 : BitVec 32 := 1#32
  let v1785 : BitVec 32 := Scalar.muli v1784 c1_i32_1419
  let v1786 : BitVec 32 := Scalar.addi c0_i32_1420 v1785
  v1786.toNat
def k0_dev73 (d0 : Dev nD) : Nat :=
  let c0_i32_1435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1425 : BitVec 32 := 20#32
  let v1795 : BitVec 32 := Scalar.addi v2 c20_i32_1425
  let c32_i32_1426 : BitVec 32 := 32#32
  let c0_i32_1427 : BitVec 32 := 0#32
  let v1796 : BitVec 1 := Scalar.cmpi .eq c32_i32_1426 c0_i32_1427
  let c1_i32_1428 : BitVec 32 := 1#32
  let v1797 : BitVec 32 := Scalar.select v1796 c1_i32_1428 c32_i32_1426
  let v1798 : BitVec 32 := Scalar.remsi v1795 v1797
  let c0_i32_1430 : BitVec 32 := 0#32
  let v1800 : BitVec 1 := Scalar.cmpi .slt v1798 c0_i32_1430
  let c0_i32_1431 : BitVec 32 := 0#32
  let v1801 : BitVec 1 := Scalar.cmpi .slt v1797 c0_i32_1431
  let v1802 : BitVec 1 := Scalar.xori v1800 v1801
  let c0_i32_1429 : BitVec 32 := 0#32
  let v1799 : BitVec 1 := Scalar.cmpi .ne v1798 c0_i32_1429
  let v1803 : BitVec 1 := Scalar.andi v1802 v1799
  let v1804 : BitVec 32 := Scalar.addi v1798 v1797
  let v1805 : BitVec 32 := Scalar.select v1803 v1804 v1798
  let c1_i32_1434 : BitVec 32 := 1#32
  let v1806 : BitVec 32 := Scalar.muli v1805 c1_i32_1434
  let v1807 : BitVec 32 := Scalar.addi c0_i32_1435 v1806
  v1807.toNat
def k0_dev74 (d0 : Dev nD) : Nat :=
  let c0_i32_1450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1440 : BitVec 32 := 11#32
  let v1816 : BitVec 32 := Scalar.addi v2 c11_i32_1440
  let c32_i32_1441 : BitVec 32 := 32#32
  let c0_i32_1442 : BitVec 32 := 0#32
  let v1817 : BitVec 1 := Scalar.cmpi .eq c32_i32_1441 c0_i32_1442
  let c1_i32_1443 : BitVec 32 := 1#32
  let v1818 : BitVec 32 := Scalar.select v1817 c1_i32_1443 c32_i32_1441
  let v1819 : BitVec 32 := Scalar.remsi v1816 v1818
  let c0_i32_1445 : BitVec 32 := 0#32
  let v1821 : BitVec 1 := Scalar.cmpi .slt v1819 c0_i32_1445
  let c0_i32_1446 : BitVec 32 := 0#32
  let v1822 : BitVec 1 := Scalar.cmpi .slt v1818 c0_i32_1446
  let v1823 : BitVec 1 := Scalar.xori v1821 v1822
  let c0_i32_1444 : BitVec 32 := 0#32
  let v1820 : BitVec 1 := Scalar.cmpi .ne v1819 c0_i32_1444
  let v1824 : BitVec 1 := Scalar.andi v1823 v1820
  let v1825 : BitVec 32 := Scalar.addi v1819 v1818
  let v1826 : BitVec 32 := Scalar.select v1824 v1825 v1819
  let c1_i32_1449 : BitVec 32 := 1#32
  let v1827 : BitVec 32 := Scalar.muli v1826 c1_i32_1449
  let v1828 : BitVec 32 := Scalar.addi c0_i32_1450 v1827
  v1828.toNat
def k0_dev75 (d0 : Dev nD) : Nat :=
  let c0_i32_1465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1455 : BitVec 32 := 21#32
  let v1837 : BitVec 32 := Scalar.addi v2 c21_i32_1455
  let c32_i32_1456 : BitVec 32 := 32#32
  let c0_i32_1457 : BitVec 32 := 0#32
  let v1838 : BitVec 1 := Scalar.cmpi .eq c32_i32_1456 c0_i32_1457
  let c1_i32_1458 : BitVec 32 := 1#32
  let v1839 : BitVec 32 := Scalar.select v1838 c1_i32_1458 c32_i32_1456
  let v1840 : BitVec 32 := Scalar.remsi v1837 v1839
  let c0_i32_1460 : BitVec 32 := 0#32
  let v1842 : BitVec 1 := Scalar.cmpi .slt v1840 c0_i32_1460
  let c0_i32_1461 : BitVec 32 := 0#32
  let v1843 : BitVec 1 := Scalar.cmpi .slt v1839 c0_i32_1461
  let v1844 : BitVec 1 := Scalar.xori v1842 v1843
  let c0_i32_1459 : BitVec 32 := 0#32
  let v1841 : BitVec 1 := Scalar.cmpi .ne v1840 c0_i32_1459
  let v1845 : BitVec 1 := Scalar.andi v1844 v1841
  let v1846 : BitVec 32 := Scalar.addi v1840 v1839
  let v1847 : BitVec 32 := Scalar.select v1845 v1846 v1840
  let c1_i32_1464 : BitVec 32 := 1#32
  let v1848 : BitVec 32 := Scalar.muli v1847 c1_i32_1464
  let v1849 : BitVec 32 := Scalar.addi c0_i32_1465 v1848
  v1849.toNat
def k0_dev76 (d0 : Dev nD) : Nat :=
  let c0_i32_1480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1470 : BitVec 32 := 10#32
  let v1858 : BitVec 32 := Scalar.addi v2 c10_i32_1470
  let c32_i32_1471 : BitVec 32 := 32#32
  let c0_i32_1472 : BitVec 32 := 0#32
  let v1859 : BitVec 1 := Scalar.cmpi .eq c32_i32_1471 c0_i32_1472
  let c1_i32_1473 : BitVec 32 := 1#32
  let v1860 : BitVec 32 := Scalar.select v1859 c1_i32_1473 c32_i32_1471
  let v1861 : BitVec 32 := Scalar.remsi v1858 v1860
  let c0_i32_1475 : BitVec 32 := 0#32
  let v1863 : BitVec 1 := Scalar.cmpi .slt v1861 c0_i32_1475
  let c0_i32_1476 : BitVec 32 := 0#32
  let v1864 : BitVec 1 := Scalar.cmpi .slt v1860 c0_i32_1476
  let v1865 : BitVec 1 := Scalar.xori v1863 v1864
  let c0_i32_1474 : BitVec 32 := 0#32
  let v1862 : BitVec 1 := Scalar.cmpi .ne v1861 c0_i32_1474
  let v1866 : BitVec 1 := Scalar.andi v1865 v1862
  let v1867 : BitVec 32 := Scalar.addi v1861 v1860
  let v1868 : BitVec 32 := Scalar.select v1866 v1867 v1861
  let c1_i32_1479 : BitVec 32 := 1#32
  let v1869 : BitVec 32 := Scalar.muli v1868 c1_i32_1479
  let v1870 : BitVec 32 := Scalar.addi c0_i32_1480 v1869
  v1870.toNat
def k0_dev77 (d0 : Dev nD) : Nat :=
  let c0_i32_1495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1485 : BitVec 32 := 22#32
  let v1879 : BitVec 32 := Scalar.addi v2 c22_i32_1485
  let c32_i32_1486 : BitVec 32 := 32#32
  let c0_i32_1487 : BitVec 32 := 0#32
  let v1880 : BitVec 1 := Scalar.cmpi .eq c32_i32_1486 c0_i32_1487
  let c1_i32_1488 : BitVec 32 := 1#32
  let v1881 : BitVec 32 := Scalar.select v1880 c1_i32_1488 c32_i32_1486
  let v1882 : BitVec 32 := Scalar.remsi v1879 v1881
  let c0_i32_1490 : BitVec 32 := 0#32
  let v1884 : BitVec 1 := Scalar.cmpi .slt v1882 c0_i32_1490
  let c0_i32_1491 : BitVec 32 := 0#32
  let v1885 : BitVec 1 := Scalar.cmpi .slt v1881 c0_i32_1491
  let v1886 : BitVec 1 := Scalar.xori v1884 v1885
  let c0_i32_1489 : BitVec 32 := 0#32
  let v1883 : BitVec 1 := Scalar.cmpi .ne v1882 c0_i32_1489
  let v1887 : BitVec 1 := Scalar.andi v1886 v1883
  let v1888 : BitVec 32 := Scalar.addi v1882 v1881
  let v1889 : BitVec 32 := Scalar.select v1887 v1888 v1882
  let c1_i32_1494 : BitVec 32 := 1#32
  let v1890 : BitVec 32 := Scalar.muli v1889 c1_i32_1494
  let v1891 : BitVec 32 := Scalar.addi c0_i32_1495 v1890
  v1891.toNat
def k0_dev78 (d0 : Dev nD) : Nat :=
  let c0_i32_1510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1500 : BitVec 32 := 9#32
  let v1900 : BitVec 32 := Scalar.addi v2 c9_i32_1500
  let c32_i32_1501 : BitVec 32 := 32#32
  let c0_i32_1502 : BitVec 32 := 0#32
  let v1901 : BitVec 1 := Scalar.cmpi .eq c32_i32_1501 c0_i32_1502
  let c1_i32_1503 : BitVec 32 := 1#32
  let v1902 : BitVec 32 := Scalar.select v1901 c1_i32_1503 c32_i32_1501
  let v1903 : BitVec 32 := Scalar.remsi v1900 v1902
  let c0_i32_1505 : BitVec 32 := 0#32
  let v1905 : BitVec 1 := Scalar.cmpi .slt v1903 c0_i32_1505
  let c0_i32_1506 : BitVec 32 := 0#32
  let v1906 : BitVec 1 := Scalar.cmpi .slt v1902 c0_i32_1506
  let v1907 : BitVec 1 := Scalar.xori v1905 v1906
  let c0_i32_1504 : BitVec 32 := 0#32
  let v1904 : BitVec 1 := Scalar.cmpi .ne v1903 c0_i32_1504
  let v1908 : BitVec 1 := Scalar.andi v1907 v1904
  let v1909 : BitVec 32 := Scalar.addi v1903 v1902
  let v1910 : BitVec 32 := Scalar.select v1908 v1909 v1903
  let c1_i32_1509 : BitVec 32 := 1#32
  let v1911 : BitVec 32 := Scalar.muli v1910 c1_i32_1509
  let v1912 : BitVec 32 := Scalar.addi c0_i32_1510 v1911
  v1912.toNat
def k0_dev79 (d0 : Dev nD) : Nat :=
  let c0_i32_1525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1515 : BitVec 32 := 23#32
  let v1921 : BitVec 32 := Scalar.addi v2 c23_i32_1515
  let c32_i32_1516 : BitVec 32 := 32#32
  let c0_i32_1517 : BitVec 32 := 0#32
  let v1922 : BitVec 1 := Scalar.cmpi .eq c32_i32_1516 c0_i32_1517
  let c1_i32_1518 : BitVec 32 := 1#32
  let v1923 : BitVec 32 := Scalar.select v1922 c1_i32_1518 c32_i32_1516
  let v1924 : BitVec 32 := Scalar.remsi v1921 v1923
  let c0_i32_1520 : BitVec 32 := 0#32
  let v1926 : BitVec 1 := Scalar.cmpi .slt v1924 c0_i32_1520
  let c0_i32_1521 : BitVec 32 := 0#32
  let v1927 : BitVec 1 := Scalar.cmpi .slt v1923 c0_i32_1521
  let v1928 : BitVec 1 := Scalar.xori v1926 v1927
  let c0_i32_1519 : BitVec 32 := 0#32
  let v1925 : BitVec 1 := Scalar.cmpi .ne v1924 c0_i32_1519
  let v1929 : BitVec 1 := Scalar.andi v1928 v1925
  let v1930 : BitVec 32 := Scalar.addi v1924 v1923
  let v1931 : BitVec 32 := Scalar.select v1929 v1930 v1924
  let c1_i32_1524 : BitVec 32 := 1#32
  let v1932 : BitVec 32 := Scalar.muli v1931 c1_i32_1524
  let v1933 : BitVec 32 := Scalar.addi c0_i32_1525 v1932
  v1933.toNat
def k0_dev80 (d0 : Dev nD) : Nat :=
  let c0_i32_1540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1530 : BitVec 32 := 8#32
  let v1942 : BitVec 32 := Scalar.addi v2 c8_i32_1530
  let c32_i32_1531 : BitVec 32 := 32#32
  let c0_i32_1532 : BitVec 32 := 0#32
  let v1943 : BitVec 1 := Scalar.cmpi .eq c32_i32_1531 c0_i32_1532
  let c1_i32_1533 : BitVec 32 := 1#32
  let v1944 : BitVec 32 := Scalar.select v1943 c1_i32_1533 c32_i32_1531
  let v1945 : BitVec 32 := Scalar.remsi v1942 v1944
  let c0_i32_1535 : BitVec 32 := 0#32
  let v1947 : BitVec 1 := Scalar.cmpi .slt v1945 c0_i32_1535
  let c0_i32_1536 : BitVec 32 := 0#32
  let v1948 : BitVec 1 := Scalar.cmpi .slt v1944 c0_i32_1536
  let v1949 : BitVec 1 := Scalar.xori v1947 v1948
  let c0_i32_1534 : BitVec 32 := 0#32
  let v1946 : BitVec 1 := Scalar.cmpi .ne v1945 c0_i32_1534
  let v1950 : BitVec 1 := Scalar.andi v1949 v1946
  let v1951 : BitVec 32 := Scalar.addi v1945 v1944
  let v1952 : BitVec 32 := Scalar.select v1950 v1951 v1945
  let c1_i32_1539 : BitVec 32 := 1#32
  let v1953 : BitVec 32 := Scalar.muli v1952 c1_i32_1539
  let v1954 : BitVec 32 := Scalar.addi c0_i32_1540 v1953
  v1954.toNat
def k0_dev81 (d0 : Dev nD) : Nat :=
  let c0_i32_1555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1545 : BitVec 32 := 24#32
  let v1963 : BitVec 32 := Scalar.addi v2 c24_i32_1545
  let c32_i32_1546 : BitVec 32 := 32#32
  let c0_i32_1547 : BitVec 32 := 0#32
  let v1964 : BitVec 1 := Scalar.cmpi .eq c32_i32_1546 c0_i32_1547
  let c1_i32_1548 : BitVec 32 := 1#32
  let v1965 : BitVec 32 := Scalar.select v1964 c1_i32_1548 c32_i32_1546
  let v1966 : BitVec 32 := Scalar.remsi v1963 v1965
  let c0_i32_1550 : BitVec 32 := 0#32
  let v1968 : BitVec 1 := Scalar.cmpi .slt v1966 c0_i32_1550
  let c0_i32_1551 : BitVec 32 := 0#32
  let v1969 : BitVec 1 := Scalar.cmpi .slt v1965 c0_i32_1551
  let v1970 : BitVec 1 := Scalar.xori v1968 v1969
  let c0_i32_1549 : BitVec 32 := 0#32
  let v1967 : BitVec 1 := Scalar.cmpi .ne v1966 c0_i32_1549
  let v1971 : BitVec 1 := Scalar.andi v1970 v1967
  let v1972 : BitVec 32 := Scalar.addi v1966 v1965
  let v1973 : BitVec 32 := Scalar.select v1971 v1972 v1966
  let c1_i32_1554 : BitVec 32 := 1#32
  let v1974 : BitVec 32 := Scalar.muli v1973 c1_i32_1554
  let v1975 : BitVec 32 := Scalar.addi c0_i32_1555 v1974
  v1975.toNat
def k0_dev82 (d0 : Dev nD) : Nat :=
  let c0_i32_1570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1560 : BitVec 32 := 7#32
  let v1984 : BitVec 32 := Scalar.addi v2 c7_i32_1560
  let c32_i32_1561 : BitVec 32 := 32#32
  let c0_i32_1562 : BitVec 32 := 0#32
  let v1985 : BitVec 1 := Scalar.cmpi .eq c32_i32_1561 c0_i32_1562
  let c1_i32_1563 : BitVec 32 := 1#32
  let v1986 : BitVec 32 := Scalar.select v1985 c1_i32_1563 c32_i32_1561
  let v1987 : BitVec 32 := Scalar.remsi v1984 v1986
  let c0_i32_1565 : BitVec 32 := 0#32
  let v1989 : BitVec 1 := Scalar.cmpi .slt v1987 c0_i32_1565
  let c0_i32_1566 : BitVec 32 := 0#32
  let v1990 : BitVec 1 := Scalar.cmpi .slt v1986 c0_i32_1566
  let v1991 : BitVec 1 := Scalar.xori v1989 v1990
  let c0_i32_1564 : BitVec 32 := 0#32
  let v1988 : BitVec 1 := Scalar.cmpi .ne v1987 c0_i32_1564
  let v1992 : BitVec 1 := Scalar.andi v1991 v1988
  let v1993 : BitVec 32 := Scalar.addi v1987 v1986
  let v1994 : BitVec 32 := Scalar.select v1992 v1993 v1987
  let c1_i32_1569 : BitVec 32 := 1#32
  let v1995 : BitVec 32 := Scalar.muli v1994 c1_i32_1569
  let v1996 : BitVec 32 := Scalar.addi c0_i32_1570 v1995
  v1996.toNat
def k0_dev83 (d0 : Dev nD) : Nat :=
  let c0_i32_1585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1575 : BitVec 32 := 25#32
  let v2005 : BitVec 32 := Scalar.addi v2 c25_i32_1575
  let c32_i32_1576 : BitVec 32 := 32#32
  let c0_i32_1577 : BitVec 32 := 0#32
  let v2006 : BitVec 1 := Scalar.cmpi .eq c32_i32_1576 c0_i32_1577
  let c1_i32_1578 : BitVec 32 := 1#32
  let v2007 : BitVec 32 := Scalar.select v2006 c1_i32_1578 c32_i32_1576
  let v2008 : BitVec 32 := Scalar.remsi v2005 v2007
  let c0_i32_1580 : BitVec 32 := 0#32
  let v2010 : BitVec 1 := Scalar.cmpi .slt v2008 c0_i32_1580
  let c0_i32_1581 : BitVec 32 := 0#32
  let v2011 : BitVec 1 := Scalar.cmpi .slt v2007 c0_i32_1581
  let v2012 : BitVec 1 := Scalar.xori v2010 v2011
  let c0_i32_1579 : BitVec 32 := 0#32
  let v2009 : BitVec 1 := Scalar.cmpi .ne v2008 c0_i32_1579
  let v2013 : BitVec 1 := Scalar.andi v2012 v2009
  let v2014 : BitVec 32 := Scalar.addi v2008 v2007
  let v2015 : BitVec 32 := Scalar.select v2013 v2014 v2008
  let c1_i32_1584 : BitVec 32 := 1#32
  let v2016 : BitVec 32 := Scalar.muli v2015 c1_i32_1584
  let v2017 : BitVec 32 := Scalar.addi c0_i32_1585 v2016
  v2017.toNat
def k0_dev84 (d0 : Dev nD) : Nat :=
  let c0_i32_1600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1590 : BitVec 32 := 6#32
  let v2026 : BitVec 32 := Scalar.addi v2 c6_i32_1590
  let c32_i32_1591 : BitVec 32 := 32#32
  let c0_i32_1592 : BitVec 32 := 0#32
  let v2027 : BitVec 1 := Scalar.cmpi .eq c32_i32_1591 c0_i32_1592
  let c1_i32_1593 : BitVec 32 := 1#32
  let v2028 : BitVec 32 := Scalar.select v2027 c1_i32_1593 c32_i32_1591
  let v2029 : BitVec 32 := Scalar.remsi v2026 v2028
  let c0_i32_1595 : BitVec 32 := 0#32
  let v2031 : BitVec 1 := Scalar.cmpi .slt v2029 c0_i32_1595
  let c0_i32_1596 : BitVec 32 := 0#32
  let v2032 : BitVec 1 := Scalar.cmpi .slt v2028 c0_i32_1596
  let v2033 : BitVec 1 := Scalar.xori v2031 v2032
  let c0_i32_1594 : BitVec 32 := 0#32
  let v2030 : BitVec 1 := Scalar.cmpi .ne v2029 c0_i32_1594
  let v2034 : BitVec 1 := Scalar.andi v2033 v2030
  let v2035 : BitVec 32 := Scalar.addi v2029 v2028
  let v2036 : BitVec 32 := Scalar.select v2034 v2035 v2029
  let c1_i32_1599 : BitVec 32 := 1#32
  let v2037 : BitVec 32 := Scalar.muli v2036 c1_i32_1599
  let v2038 : BitVec 32 := Scalar.addi c0_i32_1600 v2037
  v2038.toNat
def k0_dev85 (d0 : Dev nD) : Nat :=
  let c0_i32_1615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1605 : BitVec 32 := 26#32
  let v2047 : BitVec 32 := Scalar.addi v2 c26_i32_1605
  let c32_i32_1606 : BitVec 32 := 32#32
  let c0_i32_1607 : BitVec 32 := 0#32
  let v2048 : BitVec 1 := Scalar.cmpi .eq c32_i32_1606 c0_i32_1607
  let c1_i32_1608 : BitVec 32 := 1#32
  let v2049 : BitVec 32 := Scalar.select v2048 c1_i32_1608 c32_i32_1606
  let v2050 : BitVec 32 := Scalar.remsi v2047 v2049
  let c0_i32_1610 : BitVec 32 := 0#32
  let v2052 : BitVec 1 := Scalar.cmpi .slt v2050 c0_i32_1610
  let c0_i32_1611 : BitVec 32 := 0#32
  let v2053 : BitVec 1 := Scalar.cmpi .slt v2049 c0_i32_1611
  let v2054 : BitVec 1 := Scalar.xori v2052 v2053
  let c0_i32_1609 : BitVec 32 := 0#32
  let v2051 : BitVec 1 := Scalar.cmpi .ne v2050 c0_i32_1609
  let v2055 : BitVec 1 := Scalar.andi v2054 v2051
  let v2056 : BitVec 32 := Scalar.addi v2050 v2049
  let v2057 : BitVec 32 := Scalar.select v2055 v2056 v2050
  let c1_i32_1614 : BitVec 32 := 1#32
  let v2058 : BitVec 32 := Scalar.muli v2057 c1_i32_1614
  let v2059 : BitVec 32 := Scalar.addi c0_i32_1615 v2058
  v2059.toNat
def k0_dev86 (d0 : Dev nD) : Nat :=
  let c0_i32_1630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1620 : BitVec 32 := 5#32
  let v2068 : BitVec 32 := Scalar.addi v2 c5_i32_1620
  let c32_i32_1621 : BitVec 32 := 32#32
  let c0_i32_1622 : BitVec 32 := 0#32
  let v2069 : BitVec 1 := Scalar.cmpi .eq c32_i32_1621 c0_i32_1622
  let c1_i32_1623 : BitVec 32 := 1#32
  let v2070 : BitVec 32 := Scalar.select v2069 c1_i32_1623 c32_i32_1621
  let v2071 : BitVec 32 := Scalar.remsi v2068 v2070
  let c0_i32_1625 : BitVec 32 := 0#32
  let v2073 : BitVec 1 := Scalar.cmpi .slt v2071 c0_i32_1625
  let c0_i32_1626 : BitVec 32 := 0#32
  let v2074 : BitVec 1 := Scalar.cmpi .slt v2070 c0_i32_1626
  let v2075 : BitVec 1 := Scalar.xori v2073 v2074
  let c0_i32_1624 : BitVec 32 := 0#32
  let v2072 : BitVec 1 := Scalar.cmpi .ne v2071 c0_i32_1624
  let v2076 : BitVec 1 := Scalar.andi v2075 v2072
  let v2077 : BitVec 32 := Scalar.addi v2071 v2070
  let v2078 : BitVec 32 := Scalar.select v2076 v2077 v2071
  let c1_i32_1629 : BitVec 32 := 1#32
  let v2079 : BitVec 32 := Scalar.muli v2078 c1_i32_1629
  let v2080 : BitVec 32 := Scalar.addi c0_i32_1630 v2079
  v2080.toNat
def k0_dev87 (d0 : Dev nD) : Nat :=
  let c0_i32_1645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1635 : BitVec 32 := 27#32
  let v2089 : BitVec 32 := Scalar.addi v2 c27_i32_1635
  let c32_i32_1636 : BitVec 32 := 32#32
  let c0_i32_1637 : BitVec 32 := 0#32
  let v2090 : BitVec 1 := Scalar.cmpi .eq c32_i32_1636 c0_i32_1637
  let c1_i32_1638 : BitVec 32 := 1#32
  let v2091 : BitVec 32 := Scalar.select v2090 c1_i32_1638 c32_i32_1636
  let v2092 : BitVec 32 := Scalar.remsi v2089 v2091
  let c0_i32_1640 : BitVec 32 := 0#32
  let v2094 : BitVec 1 := Scalar.cmpi .slt v2092 c0_i32_1640
  let c0_i32_1641 : BitVec 32 := 0#32
  let v2095 : BitVec 1 := Scalar.cmpi .slt v2091 c0_i32_1641
  let v2096 : BitVec 1 := Scalar.xori v2094 v2095
  let c0_i32_1639 : BitVec 32 := 0#32
  let v2093 : BitVec 1 := Scalar.cmpi .ne v2092 c0_i32_1639
  let v2097 : BitVec 1 := Scalar.andi v2096 v2093
  let v2098 : BitVec 32 := Scalar.addi v2092 v2091
  let v2099 : BitVec 32 := Scalar.select v2097 v2098 v2092
  let c1_i32_1644 : BitVec 32 := 1#32
  let v2100 : BitVec 32 := Scalar.muli v2099 c1_i32_1644
  let v2101 : BitVec 32 := Scalar.addi c0_i32_1645 v2100
  v2101.toNat
def k0_dev88 (d0 : Dev nD) : Nat :=
  let c0_i32_1660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1650 : BitVec 32 := 4#32
  let v2110 : BitVec 32 := Scalar.addi v2 c4_i32_1650
  let c32_i32_1651 : BitVec 32 := 32#32
  let c0_i32_1652 : BitVec 32 := 0#32
  let v2111 : BitVec 1 := Scalar.cmpi .eq c32_i32_1651 c0_i32_1652
  let c1_i32_1653 : BitVec 32 := 1#32
  let v2112 : BitVec 32 := Scalar.select v2111 c1_i32_1653 c32_i32_1651
  let v2113 : BitVec 32 := Scalar.remsi v2110 v2112
  let c0_i32_1655 : BitVec 32 := 0#32
  let v2115 : BitVec 1 := Scalar.cmpi .slt v2113 c0_i32_1655
  let c0_i32_1656 : BitVec 32 := 0#32
  let v2116 : BitVec 1 := Scalar.cmpi .slt v2112 c0_i32_1656
  let v2117 : BitVec 1 := Scalar.xori v2115 v2116
  let c0_i32_1654 : BitVec 32 := 0#32
  let v2114 : BitVec 1 := Scalar.cmpi .ne v2113 c0_i32_1654
  let v2118 : BitVec 1 := Scalar.andi v2117 v2114
  let v2119 : BitVec 32 := Scalar.addi v2113 v2112
  let v2120 : BitVec 32 := Scalar.select v2118 v2119 v2113
  let c1_i32_1659 : BitVec 32 := 1#32
  let v2121 : BitVec 32 := Scalar.muli v2120 c1_i32_1659
  let v2122 : BitVec 32 := Scalar.addi c0_i32_1660 v2121
  v2122.toNat
def k0_dev89 (d0 : Dev nD) : Nat :=
  let c0_i32_1675 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1665 : BitVec 32 := 28#32
  let v2131 : BitVec 32 := Scalar.addi v2 c28_i32_1665
  let c32_i32_1666 : BitVec 32 := 32#32
  let c0_i32_1667 : BitVec 32 := 0#32
  let v2132 : BitVec 1 := Scalar.cmpi .eq c32_i32_1666 c0_i32_1667
  let c1_i32_1668 : BitVec 32 := 1#32
  let v2133 : BitVec 32 := Scalar.select v2132 c1_i32_1668 c32_i32_1666
  let v2134 : BitVec 32 := Scalar.remsi v2131 v2133
  let c0_i32_1670 : BitVec 32 := 0#32
  let v2136 : BitVec 1 := Scalar.cmpi .slt v2134 c0_i32_1670
  let c0_i32_1671 : BitVec 32 := 0#32
  let v2137 : BitVec 1 := Scalar.cmpi .slt v2133 c0_i32_1671
  let v2138 : BitVec 1 := Scalar.xori v2136 v2137
  let c0_i32_1669 : BitVec 32 := 0#32
  let v2135 : BitVec 1 := Scalar.cmpi .ne v2134 c0_i32_1669
  let v2139 : BitVec 1 := Scalar.andi v2138 v2135
  let v2140 : BitVec 32 := Scalar.addi v2134 v2133
  let v2141 : BitVec 32 := Scalar.select v2139 v2140 v2134
  let c1_i32_1674 : BitVec 32 := 1#32
  let v2142 : BitVec 32 := Scalar.muli v2141 c1_i32_1674
  let v2143 : BitVec 32 := Scalar.addi c0_i32_1675 v2142
  v2143.toNat
def k0_dev90 (d0 : Dev nD) : Nat :=
  let c0_i32_1690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1680 : BitVec 32 := 3#32
  let v2152 : BitVec 32 := Scalar.addi v2 c3_i32_1680
  let c32_i32_1681 : BitVec 32 := 32#32
  let c0_i32_1682 : BitVec 32 := 0#32
  let v2153 : BitVec 1 := Scalar.cmpi .eq c32_i32_1681 c0_i32_1682
  let c1_i32_1683 : BitVec 32 := 1#32
  let v2154 : BitVec 32 := Scalar.select v2153 c1_i32_1683 c32_i32_1681
  let v2155 : BitVec 32 := Scalar.remsi v2152 v2154
  let c0_i32_1685 : BitVec 32 := 0#32
  let v2157 : BitVec 1 := Scalar.cmpi .slt v2155 c0_i32_1685
  let c0_i32_1686 : BitVec 32 := 0#32
  let v2158 : BitVec 1 := Scalar.cmpi .slt v2154 c0_i32_1686
  let v2159 : BitVec 1 := Scalar.xori v2157 v2158
  let c0_i32_1684 : BitVec 32 := 0#32
  let v2156 : BitVec 1 := Scalar.cmpi .ne v2155 c0_i32_1684
  let v2160 : BitVec 1 := Scalar.andi v2159 v2156
  let v2161 : BitVec 32 := Scalar.addi v2155 v2154
  let v2162 : BitVec 32 := Scalar.select v2160 v2161 v2155
  let c1_i32_1689 : BitVec 32 := 1#32
  let v2163 : BitVec 32 := Scalar.muli v2162 c1_i32_1689
  let v2164 : BitVec 32 := Scalar.addi c0_i32_1690 v2163
  v2164.toNat
def k0_dev91 (d0 : Dev nD) : Nat :=
  let c0_i32_1705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1695 : BitVec 32 := 29#32
  let v2173 : BitVec 32 := Scalar.addi v2 c29_i32_1695
  let c32_i32_1696 : BitVec 32 := 32#32
  let c0_i32_1697 : BitVec 32 := 0#32
  let v2174 : BitVec 1 := Scalar.cmpi .eq c32_i32_1696 c0_i32_1697
  let c1_i32_1698 : BitVec 32 := 1#32
  let v2175 : BitVec 32 := Scalar.select v2174 c1_i32_1698 c32_i32_1696
  let v2176 : BitVec 32 := Scalar.remsi v2173 v2175
  let c0_i32_1700 : BitVec 32 := 0#32
  let v2178 : BitVec 1 := Scalar.cmpi .slt v2176 c0_i32_1700
  let c0_i32_1701 : BitVec 32 := 0#32
  let v2179 : BitVec 1 := Scalar.cmpi .slt v2175 c0_i32_1701
  let v2180 : BitVec 1 := Scalar.xori v2178 v2179
  let c0_i32_1699 : BitVec 32 := 0#32
  let v2177 : BitVec 1 := Scalar.cmpi .ne v2176 c0_i32_1699
  let v2181 : BitVec 1 := Scalar.andi v2180 v2177
  let v2182 : BitVec 32 := Scalar.addi v2176 v2175
  let v2183 : BitVec 32 := Scalar.select v2181 v2182 v2176
  let c1_i32_1704 : BitVec 32 := 1#32
  let v2184 : BitVec 32 := Scalar.muli v2183 c1_i32_1704
  let v2185 : BitVec 32 := Scalar.addi c0_i32_1705 v2184
  v2185.toNat
def k0_dev92 (d0 : Dev nD) : Nat :=
  let c0_i32_1720 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1710 : BitVec 32 := 2#32
  let v2194 : BitVec 32 := Scalar.addi v2 c2_i32_1710
  let c32_i32_1711 : BitVec 32 := 32#32
  let c0_i32_1712 : BitVec 32 := 0#32
  let v2195 : BitVec 1 := Scalar.cmpi .eq c32_i32_1711 c0_i32_1712
  let c1_i32_1713 : BitVec 32 := 1#32
  let v2196 : BitVec 32 := Scalar.select v2195 c1_i32_1713 c32_i32_1711
  let v2197 : BitVec 32 := Scalar.remsi v2194 v2196
  let c0_i32_1715 : BitVec 32 := 0#32
  let v2199 : BitVec 1 := Scalar.cmpi .slt v2197 c0_i32_1715
  let c0_i32_1716 : BitVec 32 := 0#32
  let v2200 : BitVec 1 := Scalar.cmpi .slt v2196 c0_i32_1716
  let v2201 : BitVec 1 := Scalar.xori v2199 v2200
  let c0_i32_1714 : BitVec 32 := 0#32
  let v2198 : BitVec 1 := Scalar.cmpi .ne v2197 c0_i32_1714
  let v2202 : BitVec 1 := Scalar.andi v2201 v2198
  let v2203 : BitVec 32 := Scalar.addi v2197 v2196
  let v2204 : BitVec 32 := Scalar.select v2202 v2203 v2197
  let c1_i32_1719 : BitVec 32 := 1#32
  let v2205 : BitVec 32 := Scalar.muli v2204 c1_i32_1719
  let v2206 : BitVec 32 := Scalar.addi c0_i32_1720 v2205
  v2206.toNat
def k0_dev93 (d0 : Dev nD) : Nat :=
  let c0_i32_1735 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1725 : BitVec 32 := 30#32
  let v2215 : BitVec 32 := Scalar.addi v2 c30_i32_1725
  let c32_i32_1726 : BitVec 32 := 32#32
  let c0_i32_1727 : BitVec 32 := 0#32
  let v2216 : BitVec 1 := Scalar.cmpi .eq c32_i32_1726 c0_i32_1727
  let c1_i32_1728 : BitVec 32 := 1#32
  let v2217 : BitVec 32 := Scalar.select v2216 c1_i32_1728 c32_i32_1726
  let v2218 : BitVec 32 := Scalar.remsi v2215 v2217
  let c0_i32_1730 : BitVec 32 := 0#32
  let v2220 : BitVec 1 := Scalar.cmpi .slt v2218 c0_i32_1730
  let c0_i32_1731 : BitVec 32 := 0#32
  let v2221 : BitVec 1 := Scalar.cmpi .slt v2217 c0_i32_1731
  let v2222 : BitVec 1 := Scalar.xori v2220 v2221
  let c0_i32_1729 : BitVec 32 := 0#32
  let v2219 : BitVec 1 := Scalar.cmpi .ne v2218 c0_i32_1729
  let v2223 : BitVec 1 := Scalar.andi v2222 v2219
  let v2224 : BitVec 32 := Scalar.addi v2218 v2217
  let v2225 : BitVec 32 := Scalar.select v2223 v2224 v2218
  let c1_i32_1734 : BitVec 32 := 1#32
  let v2226 : BitVec 32 := Scalar.muli v2225 c1_i32_1734
  let v2227 : BitVec 32 := Scalar.addi c0_i32_1735 v2226
  v2227.toNat
def k0_dev94 (d0 : Dev nD) : Nat :=
  let c0_i32_1750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1740 : BitVec 32 := 1#32
  let v2236 : BitVec 32 := Scalar.addi v2 c1_i32_1740
  let c32_i32_1741 : BitVec 32 := 32#32
  let c0_i32_1742 : BitVec 32 := 0#32
  let v2237 : BitVec 1 := Scalar.cmpi .eq c32_i32_1741 c0_i32_1742
  let c1_i32_1743 : BitVec 32 := 1#32
  let v2238 : BitVec 32 := Scalar.select v2237 c1_i32_1743 c32_i32_1741
  let v2239 : BitVec 32 := Scalar.remsi v2236 v2238
  let c0_i32_1745 : BitVec 32 := 0#32
  let v2241 : BitVec 1 := Scalar.cmpi .slt v2239 c0_i32_1745
  let c0_i32_1746 : BitVec 32 := 0#32
  let v2242 : BitVec 1 := Scalar.cmpi .slt v2238 c0_i32_1746
  let v2243 : BitVec 1 := Scalar.xori v2241 v2242
  let c0_i32_1744 : BitVec 32 := 0#32
  let v2240 : BitVec 1 := Scalar.cmpi .ne v2239 c0_i32_1744
  let v2244 : BitVec 1 := Scalar.andi v2243 v2240
  let v2245 : BitVec 32 := Scalar.addi v2239 v2238
  let v2246 : BitVec 32 := Scalar.select v2244 v2245 v2239
  let c1_i32_1749 : BitVec 32 := 1#32
  let v2247 : BitVec 32 := Scalar.muli v2246 c1_i32_1749
  let v2248 : BitVec 32 := Scalar.addi c0_i32_1750 v2247
  v2248.toNat
def k0_dev95 (d0 : Dev nD) : Nat :=
  let c0_i32_1765 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1755 : BitVec 32 := 31#32
  let v2257 : BitVec 32 := Scalar.addi v2 c31_i32_1755
  let c32_i32_1756 : BitVec 32 := 32#32
  let c0_i32_1757 : BitVec 32 := 0#32
  let v2258 : BitVec 1 := Scalar.cmpi .eq c32_i32_1756 c0_i32_1757
  let c1_i32_1758 : BitVec 32 := 1#32
  let v2259 : BitVec 32 := Scalar.select v2258 c1_i32_1758 c32_i32_1756
  let v2260 : BitVec 32 := Scalar.remsi v2257 v2259
  let c0_i32_1760 : BitVec 32 := 0#32
  let v2262 : BitVec 1 := Scalar.cmpi .slt v2260 c0_i32_1760
  let c0_i32_1761 : BitVec 32 := 0#32
  let v2263 : BitVec 1 := Scalar.cmpi .slt v2259 c0_i32_1761
  let v2264 : BitVec 1 := Scalar.xori v2262 v2263
  let c0_i32_1759 : BitVec 32 := 0#32
  let v2261 : BitVec 1 := Scalar.cmpi .ne v2260 c0_i32_1759
  let v2265 : BitVec 1 := Scalar.andi v2264 v2261
  let v2266 : BitVec 32 := Scalar.addi v2260 v2259
  let v2267 : BitVec 32 := Scalar.select v2265 v2266 v2260
  let c1_i32_1764 : BitVec 32 := 1#32
  let v2268 : BitVec 32 := Scalar.muli v2267 c1_i32_1764
  let v2269 : BitVec 32 := Scalar.addi c0_i32_1765 v2268
  v2269.toNat
def k0_off4 (d0 : Dev nD) (c31_i32_1768 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2276 : BitVec 32 := Scalar.addi v2 c31_i32_1768
  let c32_i32_1769 : BitVec 32 := 32#32
  let c0_i32_1770 : BitVec 32 := 0#32
  let v2277 : BitVec 1 := Scalar.cmpi .eq c32_i32_1769 c0_i32_1770
  let c1_i32_1771 : BitVec 32 := 1#32
  let v2278 : BitVec 32 := Scalar.select v2277 c1_i32_1771 c32_i32_1769
  let v2279 : BitVec 32 := Scalar.remsi v2276 v2278
  let c0_i32_1773 : BitVec 32 := 0#32
  let v2281 : BitVec 1 := Scalar.cmpi .slt v2279 c0_i32_1773
  let c0_i32_1774 : BitVec 32 := 0#32
  let v2282 : BitVec 1 := Scalar.cmpi .slt v2278 c0_i32_1774
  let v2283 : BitVec 1 := Scalar.xori v2281 v2282
  let c0_i32_1772 : BitVec 32 := 0#32
  let v2280 : BitVec 1 := Scalar.cmpi .ne v2279 c0_i32_1772
  let v2284 : BitVec 1 := Scalar.andi v2283 v2280
  let v2285 : BitVec 32 := Scalar.addi v2279 v2278
  let v2286 : BitVec 32 := Scalar.select v2284 v2285 v2279
  let c16_i32_1776 : BitVec 32 := 16#32
  let v2288 : BitVec 32 := Scalar.muli v2286 c16_i32_1776
  let c0_i32_1781 : BitVec 32 := 0#32
  ![v2288.toNat, 0]
abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S65536x256 : Shape := ⟨2, ![65536, 256]⟩
abbrev S1024x1 : Shape := ⟨2, ![1024, 1]⟩
abbrev S512x1 : Shape := ⟨2, ![512, 1]⟩
abbrev S512 : Shape := ⟨1, ![512]⟩
abbrev S_ : Shape := ⟨0, ![]⟩
abbrev S512x256 : Shape := ⟨2, ![512, 256]⟩

abbrev nBuf : Space → Nat
  | .hbm => 13
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S1024x1, .i32⟩
  | .hbm, ⟨2, _⟩ => ⟨S512x1, .i32⟩
  | .hbm, ⟨3, _⟩ => ⟨S512, .i32⟩
  | .hbm, ⟨4, _⟩ => ⟨S_, .i32⟩
  | .hbm, ⟨5, _⟩ => ⟨S512, .i32⟩
  | .hbm, ⟨6, _⟩ => ⟨S512, .i1⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S512, .i32⟩
  | .hbm, ⟨11, _⟩ => ⟨S512x1, .i32⟩
  | .hbm, ⟨12, _⟩ => ⟨S512x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Loop.lean ====
/-
# The kernel's body as loops

The printed body is one straight line of about two hundred memory operations. Here the same program is written as
a few loops over lists of steps (`loopBody`), and the two are shown equal by computation (`body_eq`). The lists name
the devices each step addresses by the printed scalar chains; their closed forms (device `d - j` or `d + j` around the
ring of 32) are decided once per list.
-/
module

public import proofs.«01_k».proof.Proof.Gen.KernelIdeal
public import Idealize.ShloMosaic.Lib.Pipeline.Regions

@[expose] public section

noncomputable section

namespace Cert.KProof

open Cert.KernelIdeal Cert.KernelIdeal.Gen
open Idealize.ShloMosaic Idealize.SL.Sem
open Idealize.ShloMosaic.TcCoe

variable {F : FTy → Type} [FloatOps F]

/-- An offset of a 16-row chunk inside the 512-row buffers, with its bound. -/
structure OutOff where
  off : Fin 2 → Nat
  inb : ∀ a, off a + S16x256.size a ≤ S512x256.size a

/-! ## The lists of steps -/

/-- The entry signals in program order: the cell signalled and the device it is on. -/
def sigL (d : Dev nD) : List (Fin 32 × Dev nD) :=
  [(1, ⟨k0_dev1 d, k0_dev1_lt d⟩), (2, ⟨k0_dev2 d, k0_dev2_lt d⟩), (3, ⟨k0_dev3 d, k0_dev3_lt d⟩),
   (4, ⟨k0_dev4 d, k0_dev4_lt d⟩), (5, ⟨k0_dev5 d, k0_dev5_lt d⟩), (6, ⟨k0_dev6 d, k0_dev6_lt d⟩),
   (7, ⟨k0_dev7 d, k0_dev7_lt d⟩), (8, ⟨k0_dev8 d, k0_dev8_lt d⟩), (9, ⟨k0_dev9 d, k0_dev9_lt d⟩),
   (10, ⟨k0_dev10 d, k0_dev10_lt d⟩), (11, ⟨k0_dev11 d, k0_dev11_lt d⟩), (12, ⟨k0_dev12 d, k0_dev12_lt d⟩),
   (13, ⟨k0_dev13 d, k0_dev13_lt d⟩), (14, ⟨k0_dev14 d, k0_dev14_lt d⟩), (15, ⟨k0_dev15 d, k0_dev15_lt d⟩),
   (16, ⟨k0_dev16 d, k0_dev16_lt d⟩), (17, ⟨k0_dev17 d, k0_dev17_lt d⟩), (18, ⟨k0_dev18 d, k0_dev18_lt d⟩),
   (19, ⟨k0_dev19 d, k0_dev19_lt d⟩), (20, ⟨k0_dev20 d, k0_dev20_lt d⟩), (21, ⟨k0_dev21 d, k0_dev21_lt d⟩),
   (22, ⟨k0_dev22 d, k0_dev22_lt d⟩), (23, ⟨k0_dev23 d, k0_dev23_lt d⟩), (24, ⟨k0_dev24 d, k0_dev24_lt d⟩),
   (25, ⟨k0_dev25 d, k0_dev25_lt d⟩), (26, ⟨k0_dev26 d, k0_dev26_lt d⟩), (27, ⟨k0_dev27 d, k0_dev27_lt d⟩),
   (28, ⟨k0_dev28 d, k0_dev28_lt d⟩), (29, ⟨k0_dev29 d, k0_dev29_lt d⟩), (30, ⟨k0_dev30 d, k0_dev30_lt d⟩),
   (31, ⟨k0_dev31 d, k0_dev31_lt d⟩)]

/-- The reduce-scatter transfers after block 0 in program order: the slot written and the device it is on. -/
def rsL0 (d : Dev nD) : List (Fin 32 × Dev nD) :=
  [(7, ⟨k0_dev34 d, k0_dev34_lt d⟩), (6, ⟨k0_dev35 d, k0_dev35_lt d⟩), (5, ⟨k0_dev36 d, k0_dev36_lt d⟩),
   (4, ⟨k0_dev37 d, k0_dev37_lt d⟩), (3, ⟨k0_dev38 d, k0_dev38_lt d⟩), (2, ⟨k0_dev39 d, k0_dev39_lt d⟩),
   (1, ⟨k0_dev40 d, k0_dev40_lt d⟩)]

/-- The reduce-scatter transfers after block 1 in program order: the slot written and the device it is on. -/
def rsL1 (d : Dev nD) : List (Fin 32 × Dev nD) :=
  [(15, ⟨k0_dev41 d, k0_dev41_lt d⟩), (14, ⟨k0_dev42 d, k0_dev42_lt d⟩), (13, ⟨k0_dev43 d, k0_dev43_lt d⟩),
   (12, ⟨k0_dev44 d, k0_dev44_lt d⟩), (11, ⟨k0_dev45 d, k0_dev45_lt d⟩), (10, ⟨k0_dev46 d, k0_dev46_lt d⟩),
   (9, ⟨k0_dev47 d, k0_dev47_lt d⟩), (8, ⟨k0_dev48 d, k0_dev48_lt d⟩)]

/-- The reduce-scatter transfers after block 2 in program order: the slot written and the device it is on. -/
def rsL2 (d : Dev nD) : List (Fin 32 × Dev nD) :=
  [(16, ⟨k0_dev49 d, k0_dev49_lt d⟩), (17, ⟨k0_dev50 d, k0_dev50_lt d⟩), (18, ⟨k0_dev51 d, k0_dev51_lt d⟩),
   (19, ⟨k0_dev52 d, k0_dev52_lt d⟩), (20, ⟨k0_dev53 d, k0_dev53_lt d⟩), (21, ⟨k0_dev54 d, k0_dev54_lt d⟩),
   (22, ⟨k0_dev55 d, k0_dev55_lt d⟩), (23, ⟨k0_dev56 d, k0_dev56_lt d⟩)]

/-- The reduce-scatter transfers after block 3 in program order: the slot written and the device it is on. -/
def rsL3 (d : Dev nD) : List (Fin 32 × Dev nD) :=
  [(24, ⟨k0_dev57 d, k0_dev57_lt d⟩), (25, ⟨k0_dev58 d, k0_dev58_lt d⟩), (26, ⟨k0_dev59 d, k0_dev59_lt d⟩),
   (27, ⟨k0_dev60 d, k0_dev60_lt d⟩), (28, ⟨k0_dev61 d, k0_dev61_lt d⟩), (29, ⟨k0_dev62 d, k0_dev62_lt d⟩),
   (30, ⟨k0_dev63 d, k0_dev63_lt d⟩), (31, ⟨k0_dev64 d, k0_dev64_lt d⟩)]

/-- The all-gather transfers in program order: the step and the device addressed. -/
def agL (d : Dev nD) : List (Fin 32 × Dev nD) :=
  [(16, ⟨k0_dev65 d, k0_dev65_lt d⟩), (15, ⟨k0_dev66 d, k0_dev66_lt d⟩), (17, ⟨k0_dev67 d, k0_dev67_lt d⟩),
   (14, ⟨k0_dev68 d, k0_dev68_lt d⟩), (18, ⟨k0_dev69 d, k0_dev69_lt d⟩), (13, ⟨k0_dev70 d, k0_dev70_lt d⟩),
   (19, ⟨k0_dev71 d, k0_dev71_lt d⟩), (12, ⟨k0_dev72 d, k0_dev72_lt d⟩), (20, ⟨k0_dev73 d, k0_dev73_lt d⟩),
   (11, ⟨k0_dev74 d, k0_dev74_lt d⟩), (21, ⟨k0_dev75 d, k0_dev75_lt d⟩), (10, ⟨k0_dev76 d, k0_dev76_lt d⟩),
   (22, ⟨k0_dev77 d, k0_dev77_lt d⟩), (9, ⟨k0_dev78 d, k0_dev78_lt d⟩), (23, ⟨k0_dev79 d, k0_dev79_lt d⟩),
   (8, ⟨k0_dev80 d, k0_dev80_lt d⟩), (24, ⟨k0_dev81 d, k0_dev81_lt d⟩), (7, ⟨k0_dev82 d, k0_dev82_lt d⟩),
   (25, ⟨k0_dev83 d, k0_dev83_lt d⟩), (6, ⟨k0_dev84 d, k0_dev84_lt d⟩), (26, ⟨k0_dev85 d, k0_dev85_lt d⟩),
   (5, ⟨k0_dev86 d, k0_dev86_lt d⟩), (27, ⟨k0_dev87 d, k0_dev87_lt d⟩), (4, ⟨k0_dev88 d, k0_dev88_lt d⟩),
   (28, ⟨k0_dev89 d, k0_dev89_lt d⟩), (3, ⟨k0_dev90 d, k0_dev90_lt d⟩), (29, ⟨k0_dev91 d, k0_dev91_lt d⟩),
   (2, ⟨k0_dev92 d, k0_dev92_lt d⟩), (30, ⟨k0_dev93 d, k0_dev93_lt d⟩), (1, ⟨k0_dev94 d, k0_dev94_lt d⟩),
   (31, ⟨k0_dev95 d, k0_dev95_lt d⟩)]

/-- The chunk offset the receive wait of step `31 - r` names. -/
def waitOff (d : Dev nD) (r : Fin 31) : OutOff where
  off := k0_off4 d (BitVec.ofNat 32 (1 + r.val))
  inb := k0_off4_inb d r

/-- The all-gather's receive waits in program order: the step `31 - r` and the chunk offset the wait names. -/
def agWaitL (d : Dev nD) : List (Fin 32 × OutOff) :=
  ([30, 29, 28, 27, 26, 25, 24, 23, 22, 21, 20, 19, 18, 17, 16, 15, 14, 13, 12, 11, 10, 9, 8, 7, 6, 5, 4, 3, 2, 1, 0] : List (Fin 31)).map
    fun r => (⟨31 - r.val, by omega⟩, waitOff d r)

/-! ## The operands -/

theorem sem_inb : ∀ (j : Fin 32) (a : Fin 1), (![j.val] : Fin 1 → Nat) a + S1.size a ≤ S32.size a := by decide
theorem chunk_inb : ∀ (j : Fin 32) (a : Fin 2), (![16 * j.val, 0] : Fin 2 → Nat) a + S16x256.size a ≤ S512x256.size a := by decide
theorem slot_inb : ∀ (j : Fin 32) (a : Fin 3), (![j.val, 0, 0] : Fin 3 → Nat) a + S1x16x256.size a ≤ S32x16x256.size a := by decide
theorem blk_inb : ∀ (b : Fin 4) (a : Fin 2), (![128 * b.val, 0] : Fin 2 → Nat) a + S128x256.size a ≤ S512x256.size a := by decide

/-- The entry semaphore of step `j`. -/
abbrev entrySem (j : Fin 32) : Sem sig := ⟨j.val, Nat.lt_of_lt_of_le j.isLt (by decide)⟩
/-- The barrier semaphore. -/
abbrev barSem : Sem sig := ⟨32, by decide⟩
/-- The reduce-scatter's send semaphore of step `j`. -/
abbrev rsSend (j : Fin 32) : DmaSem sig := ⟨3 + j.val, Nat.lt_of_lt_of_le (Nat.add_lt_add_left j.isLt 3) (by decide)⟩
/-- The reduce-scatter's receive semaphore of step `j`. -/
abbrev rsRecv (j : Fin 32) : DmaSem sig := ⟨35 + j.val, Nat.lt_of_lt_of_le (Nat.add_lt_add_left j.isLt 35) (by decide)⟩
/-- The all-gather's send semaphore of step `j`. -/
abbrev agSend (j : Fin 32) : DmaSem sig := ⟨67 + j.val, Nat.lt_of_lt_of_le (Nat.add_lt_add_left j.isLt 67) (by decide)⟩
/-- The all-gather's receive semaphore of step `j`. -/
abbrev agRecv (j : Fin 32) : DmaSem sig := ⟨99 + j.val, Nat.lt_of_lt_of_le (Nat.add_lt_add_left j.isLt 99) (by decide)⟩

abbrev tabM : Memref sig .tc .vmem S2048x256 .f32 := Memref.whole cc0_stg0_0
abbrev idxM : Memref sig .tc .vmem S1024x1 .i32 := Memref.whole cc0_stg1_0
abbrev outM : Memref sig .tc .vmem S512x256 .f32 := Memref.whole cc0_stg2_0
abbrev parM : Memref sig .tc .vmem S512x256 .f32 := Memref.whole cc0_scratch0
abbrev bufM : Memref sig .tc .vmem S32x16x256 .f32 := Memref.whole cc0_scratch1

abbrev chunkRect (j : Fin 32) : Rect S512x256 := Rect.unit (s := S512x256) ![16 * j.val, 0] S16x256.size (chunk_inb j)
abbrev slotRect (j : Fin 32) : Rect S32x16x256 := Rect.unit (s := S32x16x256) ![j.val, 0, 0] S1x16x256.size (slot_inb j)
abbrev blkRect (b : Fin 4) : Rect S512x256 := Rect.unit (s := S512x256) ![128 * b.val, 0] S128x256.size (blk_inb b)
abbrev offRect (o : OutOff) : Rect S512x256 := Rect.unit (s := S512x256) o.off S16x256.size o.inb

/-- Chunk `j` (16 rows) of the partial buffer. -/
abbrev parCh (j : Fin 32) : Memref sig .tc .vmem S16x256 .f32 := parM.slice (chunkRect j) (fun _ => rfl)
/-- Slot `j` of the receive buffer. -/
abbrev slotM (j : Fin 32) : Memref sig .tc .vmem S16x256 .f32 :=
  (bufM.slice (slotRect j) (fun _ => rfl)).squeeze S16x256 squeezes_S1x16x256_S16x256
/-- The chunk of the result buffer at offset `o`. -/
abbrev outCh (o : OutOff) : Memref sig .tc .vmem S16x256 .f32 := outM.slice (offRect o) (fun _ => rfl)

/-! ## The body's pure values -/

/-- One block's 128 rows: the one-hot matrix of the block's local ids against the table. -/
def blockVal (v2 : BitVec 32) (tab : Vec F S2048x256 .f32) (ids : Vec F S128x1 .i32) : FVec F S128x256 .f32 :=
  have v529 : FVec F S2048x256 .bf16 := truncf .bf16 (shapeCast S2048x256 tab shapeCasts_S2048x256_S2048x256) bitsLt_bf16_f32
  have v531 : IVec S128x2048 32 := iota .tc S128x2048 32 [1] iota_S128x2048_d1_w32
  have loc : IVec S128x1 32 := subi (shapeCast S128x1 ids shapeCasts_S128x1_S128x1) (broadcast S128x1 (Scalar.muli v2 2048#32))
  have ok : IVec S128x1 1 := andi (cmpi .sge loc (broadcast S128x1 0#32)) (cmpi .slt loc (broadcast S128x1 2048#32))
  have hot : IVec S128x2048 1 := andi (cmpi .eq v531 (broadcastTo S128x2048 loc broadcasts_S128x1_S128x2048))
    (broadcastTo S128x2048 ok broadcasts_S128x1_S128x2048)
  have oh : FVec F S128x2048 .bf16 := truncf .bf16 (sitofp .f32 (extui 32 hot natLt_1_32) : FVec F S128x2048 .f32) bitsLt_bf16_f32
  shapeCast S128x256 (matmul dot_S128x2048_S2048x256_S128x256_1_0_0_1_n_n none oh v529 (constant S128x256 .f32 0x00000000#32))
    shapeCasts_S128x256_S128x256

/-- One level of the pairwise tree of sums. -/
def pairUp : List (FVec F S16x256 .f32) → List (FVec F S16x256 .f32)
  | a :: b :: l => addf a b :: pairUp l
  | l => l

/-- The tree's root over 32 leaves. -/
def treeSum (l : List (FVec F S16x256 .f32)) : FVec F S16x256 .f32 :=
  match pairUp (pairUp (pairUp (pairUp (pairUp l)))) with
  | a :: _ => a
  | [] => constant S16x256 .f32 0x00000000#32

/-! ## The loops -/

variable (F) in
abbrev PB (α : Type) := Prog (TpuEff nD τ sig (Elt F) Λ₀ .tc) α

/-- Run `f` on each element in order. -/
def each {α : Type} (l : List α) (f : α → PB F PUnit) : PB F PUnit :=
  match l with
  | [] => pure ⟨⟩
  | a :: l => f a >>= fun _ => each l f

/-- Load the slots in order, gathering the tiles read. -/
def loadSlots : List (Fin 32) → PB F (List (FVec F S16x256 .f32))
  | [] => pure []
  | j :: l => do
    let v : Vec F S1x16x256 .f32 ← Prog.lift (.load bufM (slotRect j).toLoadRect (View.loadsAt_vmem h_S1x16x256))
    let vs ← loadSlots l
    pure (shapeCast S16x256 v shapeCasts_S1x16x256_S16x256 :: vs)

/-- Load the ids of one block, compute its rows, store them. -/
def blockStep (v2 : BitVec 32) (tab : Vec F S2048x256 .f32) (b : Fin 4) (o : Fin 2 → Nat)
    (ho : ∀ a, o a + S128x1.size a ≤ S1024x1.size a) : PB F PUnit := do
  let ids : Vec F S128x1 .i32 ← Prog.lift (.load idxM (Rect.unit (s := S1024x1) o S128x1.size ho).toLoadRect (View.loadsAt_vmem h_S128x1))
  let _ : Vec F S128x256 .f32 ← Prog.lift (.load parM (blkRect b).toLoadRect (View.loadsAt_vmem h_S128x256))
  Prog.lift (.store parM (blkRect b) (blockVal v2 tab ids) Finset.univ (View.stores_vmem_bits_univ h_S128x256 rfl) (.inl rfl))

/-- Wait for the peer's entry signal, then send partial chunk `j` to its slot `j`. -/
def rsStep (p : Fin 32 × Dev nD) : PB F PUnit := do
  semWaitWord (entrySem p.1) 1#32
  Prog.lift (.enqueueDma (parCh p.1) (.remote (Dev.tc p.2) (slotM p.1) (.dma (rsSend p.1))) (.dma (rsRecv p.1))
    (View.wordExact_bits rfl) ((View.wordExact_bits rfl).reshape _ _) ⟨⟨rfl, Or.inl rfl⟩, trivial⟩)

def rsWaitRecv (p : Fin 32 × Dev nD) : PB F PUnit :=
  Prog.lift (.waitDma2 (rsRecv p.1) (parCh p.1) (slotM p.1) (View.wordExact_bits rfl) ((View.wordExact_bits rfl).reshape _ _))

def rsWaitSend (p : Fin 32 × Dev nD) : PB F PUnit :=
  Prog.lift (.waitDma2 (rsSend p.1) (slotM p.1) (parCh p.1) ((View.wordExact_bits rfl).reshape _ _) (View.wordExact_bits rfl))

def agStep (o : OutOff) (p : Fin 32 × Dev nD) : PB F PUnit :=
  Prog.lift (.enqueueDma (outCh o) (.remote (Dev.tc p.2) (outCh o) (.dma (agSend p.1))) (.dma (agRecv p.1))
    (View.wordExact_bits rfl) (View.wordExact_bits rfl) ⟨⟨rfl, Or.inl rfl⟩, trivial⟩)

def agWaitRecv (p : Fin 32 × OutOff) : PB F PUnit :=
  Prog.lift (.waitDma2 (agRecv p.1) (outCh p.2) (outCh p.2) (View.wordExact_bits rfl) (View.wordExact_bits rfl))

def agWaitSend (o : OutOff) (p : Fin 32 × Dev nD) : PB F PUnit :=
  Prog.lift (.waitDma2 (agSend p.1) (outCh o) (outCh o) (View.wordExact_bits rfl) (View.wordExact_bits rfl))

abbrev rsAll (d : Dev nD) : List (Fin 32 × Dev nD) := rsL0 d ++ (rsL1 d ++ (rsL2 d ++ rsL3 d))

abbrev slots : List (Fin 32) :=
  [0, 1, 2, 3, 4, 5, 6, 7, 8, 9, 10, 11, 12, 13, 14, 15, 16, 17, 18, 19, 20, 21, 22, 23, 24, 25, 26, 27, 28, 29, 30, 31]

/-- Keep the own chunk's copy in slot 0. -/
def ownStep : PB F PUnit := do
  let v : Vec F S16x256 .f32 ← Prog.lift (.load parM (chunkRect 0).toLoadRect (View.loadsAt_vmem h_S16x256))
  let _ : Vec F S1x16x256 .f32 ← Prog.lift (.load bufM (slotRect 0).toLoadRect (View.loadsAt_vmem h_S1x16x256))
  Prog.lift (.store bufM (slotRect 0) (shapeCast S1x16x256 v shapeCasts_S16x256_S1x16x256)
    Finset.univ (View.stores_vmem_bits_univ h_S1x16x256 rfl) (.inl rfl))

/-- Sum the 32 slots into the device's own chunk of the result. -/
def sumStep (o : Fin 2 → Nat) (ho : ∀ a, o a + S16x256.size a ≤ S512x256.size a) : PB F PUnit := do
  let vs ← loadSlots slots
  let _ : Vec F S16x256 .f32 ← Prog.lift (.load outM (Rect.unit (s := S512x256) o S16x256.size ho).toLoadRect (View.loadsAt_vmem h_S16x256))
  Prog.lift (.store outM (Rect.unit (s := S512x256) o S16x256.size ho) (treeSum vs) Finset.univ
    (View.stores_vmem_bits_univ h_S16x256 rfl) (.inl rfl))

/-- The part up to the barrier's wait. -/
def bodyA (d : Dev nD) : PB F (Vec F S2048x256 .f32) := do
  each (sigL d) fun p => semSignalWord p.2 (entrySem p.1) 1#32
  semSignalWord (⟨k0_dev32 d, k0_dev32_lt d⟩ : Dev nD) barSem 1#32
  semSignalWord (⟨k0_dev33 d, k0_dev33_lt d⟩ : Dev nD) barSem 1#32
  Prog.lift (.load tabM (Rect.unit (s := S2048x256) ![0, 0] S2048x256.size inb_S2048x256_S2048x256_0_0).toLoadRect (View.loadsAt_vmem h_S2048x256))

/-- The id of the device as the kernel computes it. -/
abbrev myW (d : Dev nD) : BitVec 32 := Scalar.remsi (Scalar.divsi (Dev.word d) 1#32) 32#32

/-- The blocks and the reduce-scatter's sends. -/
def bodyB (d : Dev nD) (tab : Vec F S2048x256 .f32) : PB F PUnit := do
  blockStep (myW d) tab 0 (k0_off1 d 0#32) (k0_off1_inb d 0)
  semWaitWord barSem 2#32
  each (rsL0 d) rsStep
  blockStep (myW d) tab 1 (k0_off1 d 128#32) (k0_off1_inb d 1)
  each (rsL1 d) rsStep
  blockStep (myW d) tab 2 (k0_off1 d 256#32) (k0_off1_inb d 2)
  each (rsL2 d) rsStep
  blockStep (myW d) tab 3 (k0_off1 d 384#32) (k0_off1_inb d 3)
  each (rsL3 d) rsStep

/-- The receives, the sum, the all-gather and the waits. -/
def bodyC (d : Dev nD) : PB F PUnit := do
  each (rsAll d) rsWaitRecv
  ownStep
  sumStep (k0_off2 d) (k0_off2_inb d)
  each (agL d) (agStep ⟨k0_off3 d, k0_off3_inb d⟩)
  each (agWaitL d) agWaitRecv
  each (rsAll d) rsWaitSend
  each (agL d) (agWaitSend ⟨k0_off3 d, k0_off3_inb d⟩)

/-- The body as loops. -/
def loopBody : PB F PUnit := do
  let d : Dev nD ← Prog.lift .deviceId
  let tab ← bodyA d
  bodyB d tab
  bodyC d

/-- The printed body at the buffers the pipeline calls it with is the loops. -/
theorem body_eq : cc0_body (F := F) tabM (Memref.isWhole_whole _) idxM (Memref.isWhole_whole _) outM (Memref.isWhole_whole _)
    parM (Memref.isWhole_whole _) bufM (Memref.isWhole_whole _) cc0_scratch2 cc0_scratch3 cc0_scratch4 cc0_scratch5 cc0_scratch6
    = loopBody := by
  chain_rfl

end Cert.KProof

end
-- ==== Proof.Lists.lean ====
/-
# The steps' devices and offsets in closed form

Around the ring of 32: signal `j` of device `d` goes to device `d - j`, transfer `j` of either phase to device `d + j`,
and the `j`-th chunk received in the all-gather is chunk `d - j`.
-/
module

public import proofs.«01_k».proof.Proof.Loop

@[expose] public section

noncomputable section

namespace Cert.KProof

open Cert.KernelIdeal Cert.KernelIdeal.Gen
open Idealize.ShloMosaic Idealize.SL.Sem

/-- The steps in order of the step number. -/
abbrev stepsJ : List (Fin 32) :=
  [1, 2, 3, 4, 5, 6, 7, 8, 9, 10, 11, 12, 13, 14, 15, 16, 17, 18, 19, 20, 21, 22, 23, 24, 25, 26, 27, 28, 29, 30, 31]
/-- The reduce-scatter's steps after each block, the farthest device first. -/
abbrev rsJ : Fin 4 → List (Fin 32)
  | 0 => [7, 6, 5, 4, 3, 2, 1]
  | 1 => [15, 14, 13, 12, 11, 10, 9, 8]
  | 2 => [16, 17, 18, 19, 20, 21, 22, 23]
  | 3 => [24, 25, 26, 27, 28, 29, 30, 31]
/-- All of the reduce-scatter's steps in program order. -/
abbrev rsAllJ : List (Fin 32) := rsJ 0 ++ (rsJ 1 ++ (rsJ 2 ++ rsJ 3))
/-- The all-gather's steps, the farthest device first. -/
abbrev agJ : List (Fin 32) :=
  [16, 15, 17, 14, 18, 13, 19, 12, 20, 11, 21, 10, 22, 9, 23, 8, 24, 7, 25, 6, 26, 5, 27, 4, 28, 3, 29, 2, 30, 1, 31]

/-- The offset of chunk `i`. -/
abbrev chunkOff (i : Fin 32) : OutOff := ⟨![16 * i.val, 0], chunk_inb i⟩

theorem sigL_eq (d : Dev nD) : sigL d = stepsJ.map fun j => (j, (d - j : Fin 32)) := by
  revert d; decide +kernel
theorem rsL0_eq (d : Dev nD) : rsL0 d = (rsJ 0).map fun j => (j, (d + j : Fin 32)) := by revert d; decide +kernel
theorem rsL1_eq (d : Dev nD) : rsL1 d = (rsJ 1).map fun j => (j, (d + j : Fin 32)) := by revert d; decide +kernel
theorem rsL2_eq (d : Dev nD) : rsL2 d = (rsJ 2).map fun j => (j, (d + j : Fin 32)) := by revert d; decide +kernel
theorem rsL3_eq (d : Dev nD) : rsL3 d = (rsJ 3).map fun j => (j, (d + j : Fin 32)) := by revert d; decide +kernel
theorem rsAll_eq (d : Dev nD) : rsAll d = rsAllJ.map fun j => (j, (d + j : Fin 32)) := by
  unfold rsAll; rw [rsL0_eq, rsL1_eq, rsL2_eq, rsL3_eq]; rfl
theorem agL_eq (d : Dev nD) : agL d = agJ.map fun j => (j, (d + j : Fin 32)) := by revert d; decide +kernel

theorem dev32_eq (d : Dev nD) : (⟨k0_dev32 d, k0_dev32_lt d⟩ : Dev nD) = (d + 1 : Fin 32) := by revert d; decide +kernel
theorem dev33_eq (d : Dev nD) : (⟨k0_dev33 d, k0_dev33_lt d⟩ : Dev nD) = (d - 1 : Fin 32) := by revert d; decide +kernel

theorem off4_eq : ∀ (d : Dev nD) (r : Fin 31),
    (waitOff d r).off = ![16 * ((d - ⟨31 - r.val, by omega⟩ : Fin 32)).val, 0] := by decide +kernel
theorem off3_eq : ∀ d : Dev nD, k0_off3 d = ![16 * d.val, 0] := by decide +kernel
theorem off2_eq : ∀ d : Dev nD, k0_off2 d = ![16 * d.val, 0] := by decide +kernel
theorem off1_eq : ∀ (d : Dev nD) (b : Fin 4), k0_off1 d (BitVec.ofNat 32 (128 * b.val)) = ![16 * d.val + 128 * b.val, 0] := by decide +kernel

theorem OutOff.ext' {o o' : OutOff} (h : o.off = o'.off) : o = o' := by
  cases o; cases o'; cases h; rfl

theorem agWaitL_eq (d : Dev nD) : agWaitL d = stepsJ.map fun j => (j, chunkOff (d - j)) := by
  unfold agWaitL
  rw [show (fun r : Fin 31 => ((⟨31 - r.val, by omega⟩ : Fin 32), waitOff d r))
      = fun r : Fin 31 => ((⟨31 - r.val, by omega⟩ : Fin 32), chunkOff (d - ⟨31 - r.val, by omega⟩)) from
    funext fun r => Prod.ext rfl (OutOff.ext' (off4_eq d r))]
  rfl

theorem off3Out (d : Dev nD) : (⟨k0_off3 d, k0_off3_inb d⟩ : OutOff) = chunkOff d := OutOff.ext' (off3_eq d)

/-- The word the kernel computes for its own id. -/
theorem myW_eq (d : Dev nD) : myW d = BitVec.ofNat 32 d.val := by revert d; decide +kernel

end Cert.KProof

end
-- ==== Proof.Geom.lean ====
/-
# The buffers by pieces, and what they hold

The partial buffer is held by 4 blocks of 128 rows and by 32 chunks of 16 rows, the receive buffer by its 32 slots, the
result's staging buffer by its 32 chunks. Each buffer's contents are named once, as one function of the whole buffer
glued from the pieces' values.
-/
module

public import proofs.«01_k».proof.Proof.Lists
public import proofs.«01_k».proof.Proof.Gen.KernelIdeal.Frame
public import Idealize.ShloMosaic.Lib.Pipeline.Value

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Gluing a function from pieces -/

open Classical in
/-- The function that is `vals b x` at `emb b x`. -/
def glue {B X Y V : Type} (emb : B → X ↪ Y) (vals : B → X → V) (dflt : V) (i : Y) : V :=
  if h : ∃ p : B × X, emb p.1 p.2 = i then vals h.choose.1 h.choose.2 else dflt

/-- At a piece's element the glued function is the piece's value, the pieces lying in disjoint sets. -/
theorem glue_at {B X Y V : Type} (emb : B → X ↪ Y) (vals : B → X → V) (dflt : V) (S : B → Finset Y)
    (hm : ∀ b x, emb b x ∈ S b) (hd : ∀ b b', b ≠ b' → Disjoint (S b) (S b')) (b : B) (x : X) :
    glue emb vals dflt (emb b x) = vals b x := by
  unfold glue
  have h : ∃ p : B × X, emb p.1 p.2 = emb b x := ⟨(b, x), rfl⟩
  rw [dif_pos h]
  generalize hp : h.choose = p
  have hs : emb p.1 p.2 = emb b x := hp ▸ h.choose_spec
  have h1 : p.1 = b := by
    by_contra hne
    exact Finset.disjoint_left.mp (hd _ _ hne) (hm p.1 p.2) (hs.symm ▸ hm b x)
  obtain ⟨b', x'⟩ := p
  subst h1
  rw [(emb b').injective hs]

/-! ## The pieces' elements -/

theorem set_parCh (j : Fin 32) : (parCh j).view.set = (chunkRect j).set := View.set_slice_whole cc0_scratch0 (chunkRect j)
theorem set_blk (b : Fin 4) : (parM.access (blkRect b)).set = (blkRect b).set := View.set_slice_whole cc0_scratch0 (blkRect b)
theorem set_slotA (j : Fin 32) : (bufM.access (slotRect j)).set = (slotRect j).set := View.set_slice_whole cc0_scratch1 (slotRect j)
theorem set_slotM (j : Fin 32) : (slotM j).view.set = (slotRect j).set :=
  (View.set_reshape _ _).trans (View.set_slice_whole cc0_scratch1 (slotRect j))
theorem set_outCh (e : Fin 32) : (outCh (chunkOff e)).view.set = (chunkRect e).set :=
  View.set_slice_whole cc0_stg2_0 (offRect (chunkOff e))

theorem chunk_disj (j j' : Fin 32) (h : j ≠ j') : Disjoint (chunkRect j).set (chunkRect j').set :=
  Ring.lead_disjoint (s := S512x256) (0 : Fin 2) 16 (fun j : Fin 32 => ![16 * j.val, 0]) S16x256.size chunk_inb
    (fun _ => rfl) rfl j j' h
theorem chunk_cover : Finset.univ.biUnion (fun j : Fin 32 => (chunkRect j).set) = Finset.univ :=
  Ring.lead_cover (s := S512x256) (0 : Fin 2) 16 (fun j : Fin 32 => ![16 * j.val, 0]) S16x256.size chunk_inb
    (fun _ => rfl) (fun b a ha => by fin_cases a <;> first | rfl | exact absurd rfl ha) rfl
    (fun a ha => by fin_cases a <;> first | rfl | exact absurd rfl ha) rfl
theorem blk_disj (j j' : Fin 4) (h : j ≠ j') : Disjoint (blkRect j).set (blkRect j').set :=
  Ring.lead_disjoint (s := S512x256) (0 : Fin 2) 128 (fun j : Fin 4 => ![128 * j.val, 0]) S128x256.size blk_inb
    (fun _ => rfl) rfl j j' h
theorem blk_cover : Finset.univ.biUnion (fun j : Fin 4 => (blkRect j).set) = Finset.univ :=
  Ring.lead_cover (s := S512x256) (0 : Fin 2) 128 (fun j : Fin 4 => ![128 * j.val, 0]) S128x256.size blk_inb
    (fun _ => rfl) (fun b a ha => by fin_cases a <;> first | rfl | exact absurd rfl ha) rfl
    (fun a ha => by fin_cases a <;> first | rfl | exact absurd rfl ha) rfl
theorem slot_disj (j j' : Fin 32) (h : j ≠ j') : Disjoint (slotRect j).set (slotRect j').set :=
  Ring.lead_disjoint (s := S32x16x256) (0 : Fin 3) 1 (fun j : Fin 32 => ![j.val, 0, 0]) S1x16x256.size slot_inb
    (fun b => (Nat.one_mul _).symm) rfl j j' h
theorem slot_cover : Finset.univ.biUnion (fun j : Fin 32 => (slotRect j).set) = Finset.univ :=
  Ring.lead_cover (s := S32x16x256) (0 : Fin 3) 1 (fun j : Fin 32 => ![j.val, 0, 0]) S1x16x256.size slot_inb
    (fun b => (Nat.one_mul _).symm) (fun b a ha => by fin_cases a <;> first | rfl | exact absurd rfl ha) rfl
    (fun a ha => by fin_cases a <;> first | rfl | exact absurd rfl ha) rfl

/-- The chunks of block `b`. -/
def blkChunks (b : Fin 4) : Finset (Fin 32) := Finset.univ.filter fun j => j.val / 8 = b.val

/-- A block is its eight chunks. -/
theorem blk_chunks (b : Fin 4) : (blkChunks b).biUnion (fun j => (chunkRect j).set) = (blkRect b).set := by
  ext i
  simp only [blkChunks, Finset.mem_biUnion, Finset.mem_filter, Finset.mem_univ, true_and, Rect.mem_set_unit]
  have h1 : (i 1).val < 256 := (i 1).isLt
  have h0 : (i 0).val < 512 := (i 0).isLt
  constructor
  · rintro ⟨j, hj, h⟩ a
    have h' : 16 * j.val ≤ (i 0).val ∧ (i 0).val < 16 * j.val + 16 := h 0
    have hb := b.isLt
    have hjj := j.isLt
    fin_cases a
    · show 128 * b.val ≤ (i 0).val ∧ (i 0).val < 128 * b.val + 128
      omega
    · show 0 ≤ (i 1).val ∧ (i 1).val < 0 + 256
      omega
  · intro h
    have h' : 128 * b.val ≤ (i 0).val ∧ (i 0).val < 128 * b.val + 128 := h 0
    refine ⟨⟨(i 0).val / 16, by omega⟩, by show (i 0).val / 16 / 8 = b.val; omega, fun a => ?_⟩
    fin_cases a
    · show 16 * ((i 0).val / 16) ≤ (i 0).val ∧ (i 0).val < 16 * ((i 0).val / 16) + 16
      omega
    · show 0 ≤ (i 1).val ∧ (i 1).val < 0 + 256
      omega

/-! ## The contents -/

/-- What the kernel reads: each device's table block and ids, as staged. -/
structure Ins (F : FTy → Type) where
  tab : Dev nD → (cc0_stg0_0 : Ref sig .tc).ty.Contents (Elt F)
  idx : Dev nD → (cc0_stg1_0 : Ref sig .tc).ty.Contents (Elt F)

variable (X : Ins F)

theorem idxOff_inb : ∀ (d : Dev nD) (b : Fin 4) (a : Fin 2), (![16 * d.val + 128 * b.val, 0] : Fin 2 → Nat) a + S128x1.size a ≤ S1024x1.size a := by
  decide +kernel

/-- The rectangle of the ids of block `b` on device `d`. -/
abbrev idxRect (d : Dev nD) (b : Fin 4) : Rect S1024x1 :=
  Rect.unit (s := S1024x1) ![16 * d.val + 128 * b.val, 0] S128x1.size (idxOff_inb d b)

/-- The ids of block `b` on device `d`. -/
def idsBlk (d : Dev nD) (b : Fin 4) : Vec F S128x1 .i32 :=
  idxM.view.readAt (Elt F) (idxRect d b).toLoadRect (X.idx d)

/-- Block `b` of device `d`'s partial rows. -/
def parBlk (d : Dev nD) (b : Fin 4) : FVec F S128x256 .f32 := blockVal (myW d) (X.tab d) (idsBlk X d b)

/-- The element every gluing falls back on (never read). -/
def zeroE : Elt F .f32 := (constant S16x256 .f32 0x00000000#32 : FVec F S16x256 .f32) (fun a => ⟨0, by fin_cases a <;> decide⟩)

/-- Device `d`'s partial buffer once all its blocks are stored. -/
def parFinal (d : Dev nD) : (cc0_scratch0 : Ref sig .tc).ty.Contents (Elt F) :=
  glue (X := S128x256.Idx) (Y := S512x256.Idx) (fun b : Fin 4 => (parM.access (blkRect b)).emb) (fun b => parBlk X d b) zeroE

/-- Chunk `j` of it. -/
def chunkVal (d : Dev nD) (j : Fin 32) : FVec F S16x256 .f32 := (parCh j).view.read (Elt F) (parFinal X d)

/-- Device `e`'s receive buffer once everything has landed: slot `j` is chunk `j` of device `e - j`. -/
def bufFinal (e : Dev nD) : (cc0_scratch1 : Ref sig .tc).ty.Contents (Elt F) :=
  glue (X := S16x256.Idx) (Y := S32x16x256.Idx) (fun j : Fin 32 => (slotM j).view.emb) (fun j => chunkVal X (e - j : Fin 32) j) zeroE

/-- The sum device `e` computes. -/
def total (e : Dev nD) : FVec F S16x256 .f32 := treeSum (slots.map fun j => chunkVal X (e - j : Fin 32) j)

/-- The result, the same on all devices: chunk `e` is device `e`'s sum. -/
def outFinal : (cc0_stg2_0 : Ref sig .tc).ty.Contents (Elt F) :=
  glue (X := S16x256.Idx) (Y := S512x256.Idx) (fun e : Fin 32 => (outCh (chunkOff e)).view.emb) (fun e => total X e) zeroE

theorem read_parFinal (d : Dev nD) (b : Fin 4) : (parM.access (blkRect b)).read (Elt F) (parFinal X d) = parBlk X d b :=
  funext fun x => glue_at (X := S128x256.Idx) (Y := S512x256.Idx) (fun b : Fin 4 => (parM.access (blkRect b)).emb) (fun b => parBlk X d b) zeroE
    (fun b => (blkRect b).set) (fun b x => (set_blk b).subset (View.emb_mem_set (parM.access (blkRect b)) x)) blk_disj b x

theorem read_bufFinal (e : Dev nD) (j : Fin 32) : (slotM j).view.read (Elt F) (bufFinal X e) = chunkVal X (e - j : Fin 32) j :=
  funext fun x => glue_at (X := S16x256.Idx) (Y := S32x16x256.Idx) (fun j : Fin 32 => (slotM j).view.emb) (fun j => chunkVal X (e - j : Fin 32) j) zeroE
    (fun j => (slotRect j).set) (fun j x => (set_slotM j).subset (View.emb_mem_set (slotM j).view x)) slot_disj j x

theorem read_outFinal (e : Fin 32) : (outCh (chunkOff e)).view.read (Elt F) (outFinal X) = total X e :=
  funext fun x => glue_at (X := S16x256.Idx) (Y := S512x256.Idx) (fun e : Fin 32 => (outCh (chunkOff e)).view.emb) (fun e => total X e) zeroE
    (fun e => (chunkRect e).set) (fun e x => (set_outCh e).subset (View.emb_mem_set (outCh (chunkOff e)).view x)) chunk_disj e x

/-- A load of slot `j`, reshaped, is the slot read through its squeezed view. -/
theorem load_slot (j : Fin 32) (f : (cc0_scratch1 : Ref sig .tc).ty.Contents (Elt F)) :
    shapeCast S16x256 (bufM.view.readAt (Elt F) (slotRect j).toLoadRect f) shapeCasts_S1x16x256_S16x256
      = (slotM j).view.read (Elt F) f := rfl

theorem load_slot' (j : Fin 32) (f : (cc0_scratch1 : Ref sig .tc).ty.Contents (Elt F)) :
    (bufM.access (slotRect j)).read (Elt F) f
      = shapeCast S1x16x256 ((slotM j).view.read (Elt F) f) shapeCasts_S16x256_S1x16x256 := by
  show bufM.view.readAt (Elt F) (slotRect j).toLoadRect f = _
  rw [← load_slot, shapeCast_shapeCast]

end Cert.KProof

end
-- ==== Proof.Proto.lean ====
/-
# The protocol

Around the ring of 32, device `c`, step `j` (1 to 31):

- entry semaphore `j` of device `d` is signalled once, by device `d + j`: it hands `d` that device's slot `j` and that
  device's chunk `d` of the result buffer, both to be written by transfers from `d`;
- the barrier semaphore is signalled by both neighbours and hands nothing;
- the reduce-scatter's transfer `j` of `d` goes to slot `j` of device `d + j`: the send semaphore hands back `d`'s
  partial chunk `j`, the receive semaphore hands device `d + j` its slot with what it holds;
- the all-gather's transfer `j` of `d` goes to chunk `d` of device `d + j`'s result buffer, from a share of `d`'s own.

Every semaphore is used for one round. A wait is allowed while the waiter owes only semaphores of a higher level:
staging and send 0, entry and barrier 1, the reduce-scatter's receive 2, the all-gather's receive 3.
-/
module

public import proofs.«01_k».proof.Proof.Geom
public import Idealize.ShloMosaic.Lib.Pipeline.Launch
public import Idealize.ShloMosaic.Lib.Pipeline.Kit
public import Idealize.ShloMosaic.Lib.ShareLeaves
public import Idealize.ShloMosaic.Lib.Rounds
public import Idealize.ShloMosaic.Lib.Tactic

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The five kinds of semaphore that come one per step. -/
inductive Kd where
  | ent | rss | rsr | ags | agr
  deriving DecidableEq

instance : Fintype Kd := ⟨{.ent, .rss, .rsr, .ags, .agr}, fun k => by cases k <;> decide⟩

def ksem : Kd → Fin 32 → SemLoc sig
  | .ent, j => .reg (entrySem j)
  | .rss, j => .dma (rsSend j)
  | .rsr, j => .dma (rsRecv j)
  | .ags, j => .dma (agSend j)
  | .agr, j => .dma (agRecv j)

/-- Which step's semaphore a location is. -/
def dec : SemLoc sig → Option (Kd × Fin 32)
  | .reg s => if h : s.val < 32 then some (.ent, ⟨s.val, h⟩) else none
  | .dma q =>
    if q.val < 3 then none
    else if h : q.val - 3 < 32 then some (.rss, ⟨q.val - 3, h⟩)
    else if h : q.val - 35 < 32 then some (.rsr, ⟨q.val - 35, h⟩)
    else if h : q.val - 67 < 32 then some (.ags, ⟨q.val - 67, h⟩)
    else if h : q.val - 99 < 32 then some (.agr, ⟨q.val - 99, h⟩)
    else none

theorem dec_ksem : ∀ (k : Kd) (j : Fin 32), dec (ksem k j) = some (k, j) := by decide +kernel
theorem dec_bar : dec (.reg barSem) = none := by decide
theorem ksem_ne_bar (k : Kd) (j : Fin 32) : ksem k j ≠ .reg barSem := fun h => by
  have h' := dec_ksem k j; rw [h, dec_bar] at h'; cases h'

abbrev kcell (k : Kd) (j : Fin 32) (c : Dev nD) : GSem nD τ sig := ((c : Thread nD τ), ksem k j)
abbrev barCell (c : Dev nD) : GSem nD τ sig := ((c : Thread nD τ), .reg barSem)

/-- The credit of a 16-row transfer. -/
abbrev N : ℕ := (parCh 0).view.dmaCredit
theorem N_pos : 0 < N := View.dmaCredit_pos _ (by decide)

/-! ## The pieces held -/

def slotPts (c : Dev nD) (j : Fin 32) (f : (cc0_scratch1 : Ref sig .tc).ty.Contents (Elt F)) : sProp 𝕄 :=
  (slotM j).view.loc (c : Thread nD τ) ↦[(slotM j).view.set]{fullShare} f
def parPts (c : Dev nD) (j : Fin 32) (f : (cc0_scratch0 : Ref sig .tc).ty.Contents (Elt F)) : sProp 𝕄 :=
  (parCh j).view.loc (c : Thread nD τ) ↦[(parCh j).view.set]{fullShare} f
def outPts (q : PosShare TreeShare) (c : Dev nD) (e : Fin 32) (f : (cc0_stg2_0 : Ref sig .tc).ty.Contents (Elt F)) : sProp 𝕄 :=
  (outCh (chunkOff e)).view.loc (c : Thread nD τ) ↦[(outCh (chunkOff e)).view.set]{q} f

/-- The share of its own chunk a device lends transfer `j`. -/
abbrev lf (j : Fin 32) : PosShare TreeShare := ShareLeaves.leaf 5 fullShare j

instance slotPts_storable (c : Dev nD) (j : Fin 32) (f) : BI.Storable (upEmb : UEmb _ 𝕄) (slotPts (F := F) c j f) := by
  unfold slotPts; infer_instance
instance parPts_storable (c : Dev nD) (j : Fin 32) (f) : BI.Storable (upEmb : UEmb _ 𝕄) (parPts (F := F) c j f) := by
  unfold parPts; infer_instance
instance outPts_storable (q) (c : Dev nD) (j : Fin 32) (f) : BI.Storable (upEmb : UEmb _ 𝕄) (outPts (F := F) q c j f) := by
  unfold outPts; infer_instance

variable (X : Ins F)

/-! ## The schedule -/

/-- What entry semaphore `j` hands device `d`. -/
def entPay (j : Fin 32) (d : Dev nD) : sProp 𝕄 :=
  iprop((∃ f, slotPts (F := F) (d + j : Fin 32) j f) ∗ ∃ f, outPts (F := F) fullShare (d + j : Fin 32) d f)

/-- What each semaphore of step `j` hands its device `d`. -/
def pay : Kd → Fin 32 → Dev nD → sProp 𝕄
  | .ent, j, d => entPay j d
  | .rss, j, d => parPts d j (parFinal X d)
  | .rsr, j, d => slotPts d j (bufFinal X d)
  | .ags, j, d => outPts (lf j) d d (outFinal X)
  | .agr, j, d => outPts fullShare d (d - j : Fin 32) (outFinal X)

instance pay_storable (k : Kd) (j : Fin 32) (d : Dev nD) : BI.Storable (upEmb : UEmb _ 𝕄) (pay X k j d) := by
  cases k <;> unfold pay <;> (try unfold entPay) <;> infer_instance

/-- One round; a barrier cell's two duties are its two neighbours'. -/
def Rd : Rounds.Schedule (GSem nD τ sig) Bool 𝕄 where
  duties g r := if r = 0 ∧ g.1.2 = .tc then
      (if g.2 = .reg barSem then Finset.univ else
        match dec g.2 with
        | some (_, j) => if j = 0 then ∅ else {false}
        | none => ∅)
    else ∅
  unitless _ := False
  amount g _ _ := match g.2 with
    | .reg _ => 1
    | .dma _ => N
  payload g _ _ := match dec g.2 with
    | some (k, j) => pay X k j g.1.1
    | none => iprop(emp)
  amount_pos g _ _ _ := by
    split
    · exact Nat.one_pos
    · exact N_pos

instance Rd_payload_storable (g : GSem nD τ sig) (r : ℕ) (d : Bool) :
    BI.Storable (upEmb : UEmb _ 𝕄) ((Rd X).payload g r d) := by
  dsimp only [Rd]
  split <;> infer_instance

/-- The units a cell of each kind counts in one duty. -/
def kamt : Kd → ℕ
  | .ent => 1
  | _ => N

theorem duties_k (k : Kd) (j : Fin 32) (hj : j ≠ 0) (c : Dev nD) : (Rd X).duties (kcell k j c) 0 = {false} := by
  dsimp only [Rd]; rw [if_pos ⟨rfl, rfl⟩, if_neg (ksem_ne_bar k j), dec_ksem]; exact if_neg hj
theorem duties_k0 (k : Kd) (c : Dev nD) (r : ℕ) : (Rd X).duties (kcell k 0 c) r = ∅ := by
  dsimp only [Rd]; split
  · rw [if_neg (ksem_ne_bar k 0), dec_ksem]; exact if_pos rfl
  · rfl
theorem duties_bar (c : Dev nD) : (Rd X).duties (barCell c) 0 = Finset.univ := by
  dsimp only [Rd]; rw [if_pos ⟨rfl, rfl⟩, if_pos rfl]
theorem duties_later (g : GSem nD τ sig) : ∀ r, 1 ≤ r → (Rd X).duties g r = ∅ :=
  fun r hr => by dsimp only [Rd]; rw [if_neg fun h => by omega]

theorem amount_k (k : Kd) (j : Fin 32) (c : Dev nD) (d : Bool) : (Rd X).amount (kcell k j c) 0 d = kamt k := by cases k <;> rfl
theorem amount_bar (c : Dev nD) (d : Bool) : (Rd X).amount (barCell c) 0 d = 1 := rfl
theorem payload_k (k : Kd) (j : Fin 32) (c : Dev nD) (d : Bool) : (Rd X).payload (kcell k j c) 0 d = pay X k j c := by
  dsimp only [Rd]; rw [dec_ksem]
theorem payload_bar (c : Dev nD) (d : Bool) : (Rd X).payload (barCell c) 0 d = iprop(emp) := by
  dsimp only [Rd]; rw [dec_bar]

theorem expect_k (k : Kd) (j : Fin 32) (hj : j ≠ 0) (c : Dev nD) : (Rd X).expect (kcell k j c) 0 = kamt k := by
  unfold Schedule.expect Schedule.amountOf; rw [duties_k X k j hj, Finset.sum_singleton, amount_k]
theorem expect_bar (c : Dev nD) : (Rd X).expect (barCell c) 0 = 2 := by
  unfold Schedule.expect Schedule.amountOf
  rw [duties_bar, Finset.sum_congr rfl fun d _ => amount_bar X c d, Finset.sum_const, Finset.card_univ, Fintype.card_bool, smul_eq_mul]

/-- The rest of a step cell's round: its payload. -/
theorem rest_k (k : Kd) (j : Fin 32) (hj : j ≠ 0) (c : Dev nD) :
    bigSep ((Rd X).duties (kcell k j c) 0 \ ∅) (fun d => (Rd X).payload (kcell k j c) 0 d) = pay X k j c := by
  rw [Finset.sdiff_empty, duties_k X k j hj, bigSep_singleton, payload_k]

/-! ## Debts and levels -/

/-- A list of debts, the first to be paid outermost. -/
def owedL (t : Fin 32 → CellTallies nD τ sig Unit) (base : CellTallies nD τ sig Unit) : List (Fin 32) → CellTallies nD τ sig Unit
  | [] => base
  | j :: l => owedL t base l + t j

def tEnt (c : Dev nD) (j : Fin 32) : CellTallies nD τ sig Unit := tallyAt (kcell .ent j (c - j : Fin 32)) () 1
def tRs (c : Dev nD) (j : Fin 32) : CellTallies nD τ sig Unit := tallyAt (kcell .rsr j (c + j : Fin 32)) () N
def tAg (c : Dev nD) (j : Fin 32) : CellTallies nD τ sig Unit := tallyAt (kcell .agr j (c + j : Fin 32)) () N

def Oag (c : Dev nD) (l : List (Fin 32)) : CellTallies nD τ sig Unit := owedL (tAg c) 0 l
def Ors (c : Dev nD) (l : List (Fin 32)) : CellTallies nD τ sig Unit := owedL (tRs c) (Oag c agJ) l
def Obar (c : Dev nD) : CellTallies nD τ sig Unit :=
  Ors c rsAllJ + tallyAt (barCell (c - 1 : Fin 32)) () 1 + tallyAt (barCell (c + 1 : Fin 32)) () 1
def Oent (c : Dev nD) (l : List (Fin 32)) : CellTallies nD τ sig Unit := owedL (tEnt c) (Obar c) l
/-- What device `c` owes at launch. -/
def O₀ (c : Dev nD) : CellTallies nD τ sig Unit := Oent c stepsJ

def L (g : GSem nD τ sig) : Finset Unit := if g.1.2 = .tc then {()} else ∅
theorem L_of_ne (g : GSem nD τ sig) (h : g.1.2 ≠ .tc) : L g = ∅ := if_neg h
theorem L_tc (g : GSem nD τ sig) (h : g.1.2 = .tc) : L g = {()} := if_pos h

def klv : Kd → ℕ
  | .ent => 1
  | .rss => 0
  | .rsr => 2
  | .ags => 0
  | .agr => 3

def lv (g : GSem nD τ sig) (_ : Unit) : ℕ :=
  if g.2 = .reg barSem then 1 else
    match dec g.2 with
    | some (k, _) => klv k
    | none => 0

theorem lv_k (k : Kd) (j : Fin 32) (c : Dev nD) (u : Unit) : lv (kcell k j c) u = klv k := by
  dsimp only [lv]; rw [if_neg (ksem_ne_bar k j), dec_ksem]
theorem lv_bar (c : Dev nD) (u : Unit) : lv (barCell c) u = 1 := if_pos rfl

/-- Everything owed lies above level `n`. -/
def Abv (n : ℕ) (O : CellTallies nD τ sig Unit) : Prop := ∀ g u, 0 < O g u → g.1.2 = .tc ∧ n < lv g u

theorem abv_zero (n : ℕ) : Abv n 0 := fun g u h => absurd h (Nat.lt_irrefl 0)
theorem abv_add {n : ℕ} {O O' : CellTallies nD τ sig Unit} (h : Abv n O) (h' : Abv n O') : Abv n (O + O') := fun g u hg => by
  rw [Pi.add_apply, Finsupp.add_apply] at hg
  rcases Nat.eq_zero_or_pos (O g u) with h0 | h0
  · exact h' g u (by omega)
  · exact h g u h0
theorem abv_at {n : ℕ} (g : GSem nD τ sig) (k : ℕ) (hc : g.1.2 = .tc) (hl : n < lv g ()) : Abv n (tallyAt g () k) := fun g' u hg => by
  rw [tallyAt_apply] at hg
  by_cases h : g' = g ∧ u = ()
  · rw [h.1]; exact ⟨hc, hl⟩
  · rw [if_neg h] at hg; exact absurd hg (Nat.lt_irrefl 0)
theorem abv_owedL {n : ℕ} (t : Fin 32 → CellTallies nD τ sig Unit) (base) (ht : ∀ j, Abv n (t j)) (hb : Abv n base) :
    ∀ l, Abv n (owedL t base l)
  | [] => hb
  | j :: l => abv_add (abv_owedL t base ht hb l) (ht j)
theorem abv_le {n n' : ℕ} {O : CellTallies nD τ sig Unit} (hn : n' ≤ n) (h : Abv n O) : Abv n' O :=
  fun g u hg => ⟨(h g u hg).1, lt_of_le_of_lt hn (h g u hg).2⟩

theorem abv_Oag (c : Dev nD) (l) : Abv 2 (Oag c l) :=
  abv_owedL _ _ (fun j => abv_at _ _ rfl (by rw [lv_k]; decide)) (abv_zero 2) l
theorem abv_Ors (c : Dev nD) (l) : Abv 1 (Ors c l) :=
  abv_owedL _ _ (fun j => abv_at _ _ rfl (by rw [lv_k]; decide)) (abv_le (by decide) (abv_Oag c _)) l
theorem abv_Oent (c : Dev nD) (l) : Abv 0 (Oent c l) :=
  abv_owedL _ _ (fun j => abv_at _ _ rfl (by rw [lv_k]; decide))
    (abv_add (abv_add (abv_le (by decide) (abv_Ors c _)) (abv_at _ _ rfl (by rw [lv_bar]; decide))) (abv_at _ _ rfl (by rw [lv_bar]; decide))) l

/-- A wait at a level not above what is owed is allowed. -/
theorem mayWait_of {n : ℕ} (c : Dev nD) (sm : SemLoc sig) (O : CellTallies nD τ sig Unit) (hO : Abv n O)
    (hl : lv ((c : Thread nD τ), sm) () ≤ n) : (levAts L lv : sProp 𝕄) ⊢ MayWait (c : Thread nD τ) sm () O :=
  MayOwe.of_cut (L := L) (lev := lv) n
    (fun p hp => by rw [Finset.mem_singleton.mp hp, L_tc _ rfl]; exact Finset.mem_singleton_self _)
    (fun g u hg => by rw [L_tc _ (hO g u hg).1]; exact Finset.mem_singleton_self _)
    (fun p hp => by rw [Finset.mem_singleton.mp hp]; exact hl)
    (fun g u hg => (hO g u hg).2)

/-! ## The invariants -/

/-- The protocol's cells of one device. -/
abbrev KI : Type := (Kd × Fin 32) ⊕ Unit
def isem : KI → SemLoc sig
  | .inl kj => ksem kj.1 kj.2
  | .inr _ => .reg barSem
def icell (ci : Dev nD × KI) : GSem nD τ sig := ((ci.1 : Thread nD τ), isem ci.2)

/-- All the cells' invariants, at the names `K`, and that each has reached its first round. -/
def recs (K : Dev nD × KI → ℕ) : sProp 𝕄 :=
  bigSep Finset.univ fun ci => iprop(cellInv ER (Rd X) (K ci) (icell ci) ∗ reached ER (icell ci) 0)

instance recs_persistent (K : Dev nD × KI → ℕ) : BI.Persistent (recs X K) := by unfold recs; infer_instance

theorem recs_at (K : Dev nD × KI → ℕ) (ci : Dev nD × KI) :
    recs X K ⊢ iprop(cellInv ER (Rd X) (K ci) (icell ci) ∗ reached ER (icell ci) 0) := bigSep_elim (Finset.mem_univ ci)
theorem recs_k (K : Dev nD × KI → ℕ) (k : Kd) (j : Fin 32) (c : Dev nD) :
    recs X K ⊢ iprop(cellInv ER (Rd X) (K (c, .inl (k, j))) (kcell k j c) ∗ reached ER (kcell k j c) 0) := recs_at X K (c, .inl (k, j))
theorem recs_bar (K : Dev nD × KI → ℕ) (c : Dev nD) :
    recs X K ⊢ iprop(cellInv ER (Rd X) (K (c, .inr ())) (barCell c) ∗ reached ER (barCell c) 0) := recs_at X K (c, .inr ())

end Cert.KProof

end
-- ==== Proof.Steps.lean ====
/-
# One step of each loop

Each step of the body as a triple: what it needs, what it leaves, what is still owed.
-/
module

public import proofs.«01_k».proof.Proof.Proto

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a piece of device `c`'s body. -/
abbrev WP (c : Dev nD) {α : Type} (p : PB F α) (Q : α → sProp 𝕄) : sProp 𝕄 :=
  wp frame (wpE (defs₀ (F := F)) 𝒱₀ (c : Thread nD τ) none) Set.univ p Q

variable (X : Ins F) (K : Dev nD × KI → ℕ)

/-- The shared facts and what device `c` owes. -/
def St (c : Dev nD) (O : CellTallies nD τ sig Unit) : sProp 𝕄 :=
  iprop(recs X K ∗ levAts L lv ∗ ∃ W, owes (c : Thread nD τ) O W)

theorem sub_add (c j : Fin 32) : c - j + j = c := by revert c j; decide +kernel
theorem add_sub (c j : Fin 32) : c + j - j = c := by revert c j; decide +kernel

/-! ## Loops -/

/-- A piece of the body, then the rest from what it leaves. -/
theorem wp_seq (c : Dev nD) {α β : Type} (p : PB F α) (k : α → PB F β) (Q : α → sProp 𝕄) (Q' : β → sProp 𝕄) :
    iprop(WP c p Q ∗ (∀ a, Q a -∗ WP c (k a) Q')) ⊢ WP c (p >>= k) Q' := by
  unfold WP
  rw [wp_bind]
  exact wp_wand_r frame (wpE (defs₀ (F := F)) 𝒱₀ (c : Thread nD τ) none) Set.univ

/-- The same when the piece ends the program. -/
theorem wp_last (c : Dev nD) {α : Type} (p : PB F α) (Q Q' : α → sProp 𝕄) :
    iprop(WP c p Q ∗ (∀ a, Q a -∗ Q' a)) ⊢ WP c p Q' := by
  unfold WP
  exact wp_wand_r frame (wpE (defs₀ (F := F)) 𝒱₀ (c : Thread nD τ) none) Set.univ

theorem bigSepL_cons' {A : Type} (a : A) (l : List A) (P : A → sProp 𝕄) :
    (bigSepL (a :: l) P : sProp 𝕄) = iprop(P a ∗ bigSepL l P) := bigSepL_cons a l P

/-- A loop, each step of which turns its `pre` into its `post` and the state of the whole list into its tail's. -/
theorem wp_each {A : Type} (c : Dev nD) (f : A → PB F PUnit) (R : List A → sProp 𝕄) (pre post : A → sProp 𝕄)
    (ok : A → Prop) (step : ∀ a l, ok a → iprop(R (a :: l) ∗ pre a) ⊢ WP c (f a) fun _ => iprop(R l ∗ post a)) :
    ∀ l : List A, (∀ a ∈ l, ok a) → iprop(R l ∗ bigSepL l pre) ⊢ WP c (each l f) fun _ => iprop(R [] ∗ bigSepL l post)
  | [], _ => by
    show _ ⊢ WP c (Prog.ret PUnit.unit) _
    unfold WP; rw [wp_ret]
    iintro ⟨H, -⟩; imodintro
    isplitl [H]; · iexact H
    rw [bigSepL_nil]; iempintro
  | a :: l, h => by
    unfold each
    rw [bigSepL_cons', bigSepL_cons']
    have ih := wp_each c f R pre post ok step l fun b hb => h b (List.mem_cons_of_mem _ hb)
    have hs := step a l (h a List.mem_cons_self)
    iintro ⟨HR, Hp, Hl⟩
    iapply (wp_seq c (f a) (fun _ => each l f) (fun _ => iprop(R l ∗ post a)))
    isplitl [HR Hp]
    · iapply hs; isplitl [HR] <;> iassumption
    iintro %u ⟨HR, Hpost⟩
    iapply (wp_last c (each l f) (fun _ => iprop(R [] ∗ bigSepL l post)))
    isplitl [HR Hl]
    · iapply ih; isplitl [HR] <;> iassumption
    iintro %u ⟨HR, Hl⟩
    isplitl [HR]; · iexact HR
    isplitl [Hpost] <;> iassumption

/-- A loop over a mapped list is the loop over the list. -/
theorem each_map {A B : Type} (g : A → B) (f : B → PB F PUnit) : ∀ l : List A, each (l.map g) f = each l fun a => f (g a)
  | [] => rfl
  | a :: l => by
    show (f (g a) >>= fun _ => each (l.map g) f) = _
    rw [each_map g f l]; rfl

/-! ## Signals -/

/-- A signal of one unit to a cell `i` of device `n`. -/
theorem wp_sig (c n : Dev nD) (i : KI) (s : Sem sig) (hi : icell (n, i) = ((n : Thread nD τ), .reg s)) (d : Bool)
    (hd : d ∈ (Rd X).duties (icell (n, i)) 0) (O : CellTallies nD τ sig Unit) :
    iprop(St X K c (O + tallyAt (icell (n, i)) () 1) ∗ dutyTok ER (icell (n, i)) 0 d ∗ (Rd X).payload (icell (n, i)) 0 d)
      ⊢ WP c (semSignalWord n s 1#32) fun _ => St X K c O := by
  unfold semSignalWord WP St
  iintro ⟨⟨#HR, #HL, %W, HO⟩, Ht, Hp⟩
  ihave Hi := (recs_at X K (n, i)) $$ HR
  icases Hi with ⟨#Hi, #Hr⟩
  rw [hi] at hd ⊢
  iapply (Rounds.wp_signal 𝒱₀ ER (Rd X) (c : Thread nD τ) none (dst := (n : Thread nD τ)) (κ := K (n, i))
      (d := d) hd ((show (1 : ℕ) = _ from by decide)) () O rfl) $$ [HO Ht Hp]
  · isplitr; · iexact Hi
    isplitl [HO]; · iexact HO
    isplitl [Ht]; · iexact Ht
    isplitl [Hp]; · iexact Hp
    iexact Hr
  iintro HO
  rw [wp_ret]; imodintro
  isplitr; · iexact HR
  isplitr; · iexact HL
  iexists W; iexact HO

/-- Entry signal `j`. -/
theorem wp_ent (c : Dev nD) (j : Fin 32) (l : List (Fin 32)) (hj : j ≠ 0) :
    iprop(St X K c (Oent c (j :: l)) ∗ dutyTok ER (kcell .ent j (c - j : Fin 32)) 0 false
        ∗ (∃ f, slotPts c j f) ∗ (∃ f, outPts fullShare c (c - j : Fin 32) f))
      ⊢ WP c (semSignalWord (c - j : Fin 32) (entrySem j) 1#32) fun _ => St X K c (Oent c l) := by
  have h := wp_sig X K c (c - j : Fin 32) (.inl (.ent, j)) (entrySem j) rfl false
    (by show false ∈ (Rd X).duties (kcell .ent j (c - j : Fin 32)) 0; rw [duties_k X .ent j hj]; exact Finset.mem_singleton_self _) (Oent c l)
  have hp : (Rd X).payload (icell ((c - j : Fin 32), .inl (.ent, j))) 0 false
      = iprop((∃ f, slotPts c j f) ∗ (∃ f, outPts fullShare c (c - j : Fin 32) f)) := by
    show (Rd X).payload (kcell .ent j (c - j : Fin 32)) 0 false = _
    rw [payload_k]
    show entPay j (c - j : Fin 32) = _
    unfold entPay
    rw [show ((c - j : Fin 32) + j : Fin 32) = c from sub_add c j]
  rw [hp] at h
  exact h

/-! ## Waits -/

/-- A wait on cell `(k, j)` for its whole round: the round's payload. -/
theorem wp_waitK (c : Dev nD) (k : Kd) (j : Fin 32) (hj : j ≠ 0) (w : TpuEff nD τ sig (Elt F) Λ₀ .tc PUnit)
    (hw : ∀ Q : PUnit → sProp 𝕄, wpE (defs₀ (F := F)) 𝒱₀ (c : Thread nD τ) none Set.univ w Q
      = waitSpec (c : Thread nD τ) Set.univ (ksem k j) (kamt k) Q)
    (n : ℕ) (hl : klv k ≤ n) (O : CellTallies nD τ sig Unit) (hO : Abv n O) :
    iprop(St X K c O ∗ cred (tallyAt (kcell k j c) () (kamt k)) ∗ atPos ER (kcell k j c) 0 ∅ 0)
      ⊢ WP c (.op w .ret) fun _ => iprop(St X K c O ∗ atPos ER (kcell k j c) 1 ∅ 0 ∗ pay X k j c) := by
  unfold WP St
  iintro ⟨⟨#HR, #HL, %W, HO⟩, Hc, Ha⟩
  ihave Hi := (recs_k X K k j c) $$ HR
  icases Hi with ⟨#Hi, -⟩
  iapply (Rounds.wp_wait_rest_token 𝒱₀ ER (Rd X) (c : Thread nD τ) none (κ := K (c, .inl (k, j)))
      hw (Set.mem_univ _) () (O := O) (W := W) (R := 0) (m := 0) (T := ∅)
      (by rw [Nat.zero_add, expect_k X k j hj])) $$ [HO Hc Ha]
  · isplitr; · iexact Hi
    isplitl [Hc]; · iexact Hc
    isplitl [HO]; · iexact HO
    isplitr; · iapply (mayWait_of c (ksem k j) O hO (by rw [lv_k]; exact hl)); iexact HL
    iexact Ha
  iintro ⟨HO, Ha, -, Hp⟩
  ihave Hp := (Entails.of_eq (rest_k X k j hj c)) $$ Hp
  rw [wp_ret]; imodintro
  isplitl [HO]
  · isplitr; · iexact HR
    isplitr; · iexact HL
    iexists _; iexact HO
  isplitl [Ha] <;> iassumption

/-- The wait for both neighbours at the barrier. -/
theorem wp_waitBar (c : Dev nD) (O : CellTallies nD τ sig Unit) (hO : Abv 1 O) :
    iprop(St X K c O ∗ cred (tallyAt (barCell c) () 2) ∗ atPos ER (barCell c) 0 ∅ 0)
      ⊢ WP c (semWaitWord barSem 2#32) fun _ => iprop(St X K c O ∗ atPos ER (barCell c) 1 ∅ 0) := by
  unfold semWaitWord WP St
  iintro ⟨⟨#HR, #HL, %W, HO⟩, Hc, Ha⟩
  ihave Hi := (recs_bar X K c) $$ HR
  icases Hi with ⟨#Hi, -⟩
  iapply (Rounds.wp_wait_rest_token 𝒱₀ ER (Rd X) (c : Thread nD τ) none (κ := K (c, .inr ()))
      (wpE_semWait_eq 𝒱₀ (c : Thread nD τ) none Set.univ) (Set.mem_univ _) () (O := O) (W := W) (R := 0) (m := 0) (T := ∅)
      (by rw [expect_bar]; decide)) $$ [HO Hc Ha]
  · isplitr; · iexact Hi
    isplitl [Hc]; · iexact Hc
    isplitl [HO]; · iexact HO
    isplitr; · iapply (mayWait_of c (.reg barSem) O hO (by rw [lv_bar])); iexact HL
    iexact Ha
  iintro ⟨HO, Ha, -, -⟩
  rw [wp_ret]; imodintro
  isplitl [HO]
  · isplitr; · iexact HR
    isplitr; · iexact HL
    iexists _; iexact HO
  iexact Ha

/-! ## Transfers -/

/-- Writing through a view what another contents reads there is that contents. -/
theorem write_pts {sp : Space} {s : Shape} {e : EltTy} (v : View sig .tc sp s e) (c : Dev nD) (q : PosShare TreeShare)
    (fd g : v.ty.Contents (Elt F)) (w : s.Idx → Elt F e) (h : w = v.read (Elt F) g) :
    (v.loc (c : Thread nD τ) ↦[v.set]{q} v.write (Elt F) fd w Finset.univ : sProp 𝕄) = (v.loc (c : Thread nD τ) ↦[v.set]{q} g) := by
  subst h
  exact pointsTo_congr fun i hi => by
    rw [View.write_read_eq_piecewise]; exact Finset.piecewise_eq_of_mem _ _ _ hi

/-- What transfer `j` of the reduce-scatter leaves in the slot it lands in. -/
theorem rs_landed (c : Dev nD) (j : Fin 32) (fn : (cc0_scratch1 : Ref sig .tc).ty.Contents (Elt F)) :
    ((slotM j).view.loc ((c + j : Fin 32) : Thread nD τ) ↦[(slotM j).view.set]{fullShare}
        (slotM j).view.write (Elt F) fn ((parCh j).view.read (Elt F) (parFinal X c)) Finset.univ : sProp 𝕄)
      ⊢ (Rd X).payload (kcell .rsr j (c + j : Fin 32)) 0 false := by
  rw [payload_k]
  show _ ⊢ slotPts (c + j : Fin 32) j (bufFinal X (c + j : Fin 32))
  unfold slotPts
  refine Entails.of_eq (write_pts (slotM j).view (c + j : Fin 32) fullShare fn (bufFinal X (c + j : Fin 32)) _ ?_)
  rw [read_bufFinal, add_sub]
  rfl

/-- What transfer `j` of the all-gather leaves in the chunk it lands in. -/
theorem ag_landed (c : Dev nD) (j : Fin 32) (fn : (cc0_stg2_0 : Ref sig .tc).ty.Contents (Elt F)) :
    ((outCh (chunkOff c)).view.loc ((c + j : Fin 32) : Thread nD τ) ↦[(outCh (chunkOff c)).view.set]{fullShare}
        (outCh (chunkOff c)).view.write (Elt F) fn ((outCh (chunkOff c)).view.read (Elt F) (outFinal X)) Finset.univ : sProp 𝕄)
      ⊢ (Rd X).payload (kcell .agr j (c + j : Fin 32)) 0 false := by
  rw [payload_k]
  show _ ⊢ outPts fullShare (c + j : Fin 32) ((c + j : Fin 32) - j : Fin 32) (outFinal X)
  rw [add_sub]
  unfold outPts
  exact Entails.of_eq (write_pts (outCh (chunkOff c)).view (c + j : Fin 32) fullShare fn (outFinal X) _ rfl)

theorem rs_lent (c : Dev nD) (j : Fin 32) :
    ((parCh j).view.loc (c : Thread nD τ) ↦[(parCh j).view.set]{fullShare} parFinal X c : sProp 𝕄)
      ⊢ (Rd X).payload (kcell .rss j c) 0 false := by
  rw [payload_k]; exact BI.Entails.refl _

theorem ag_lent (c : Dev nD) (j : Fin 32) :
    ((outCh (chunkOff c)).view.loc (c : Thread nD τ) ↦[(outCh (chunkOff c)).view.set]{lf j} outFinal X : sProp 𝕄)
      ⊢ (Rd X).payload (kcell .ags j c) 0 false := by
  rw [payload_k]; exact BI.Entails.refl _

theorem mem_duties (k : Kd) (j : Fin 32) (hj : j ≠ 0) (c : Dev nD) : false ∈ (Rd X).duties (kcell k j c) 0 := by
  rw [duties_k X k j hj]; exact Finset.mem_singleton_self _

/-- Transfer `j` of the reduce-scatter. -/
theorem wp_rs (c : Dev nD) (j : Fin 32) (l : List (Fin 32)) (hj : j ≠ 0) :
    iprop(St X K c (Ors c (j :: l)) ∗ cred (tallyAt (kcell .ent j c) () 1) ∗ atPos ER (kcell .ent j c) 0 ∅ 0
        ∗ parPts c j (parFinal X c) ∗ dutyTok ER (kcell .rss j c) 0 false ∗ dutyTok ER (kcell .rsr j (c + j : Fin 32)) 0 false)
      ⊢ WP c (rsStep (j, (c + j : Fin 32))) fun _ => iprop(St X K c (Ors c l) ∗ atPos ER (kcell .ent j c) 1 ∅ 0
        ∗ (∃ f, outPts (F := F) fullShare (c + j : Fin 32) c f) ∗ cred (tallyAt (kcell .rss j c) () N)) := by
  have hw := wp_waitK X K c .ent j hj (.semWait (entrySem j) (1#32 : BitVec 32).toInt)
    (fun Q => rfl) 1 (by decide) (Ors c (j :: l)) (abv_Ors c _)
  unfold rsStep semWaitWord
  iintro ⟨HS, Hc, Ha, Hp, Ht1, Ht2⟩
  iapply (wp_seq c _ _ (fun _ => iprop(St X K c (Ors c (j :: l)) ∗ atPos ER (kcell .ent j c) 1 ∅ 0 ∗ pay X .ent j c)))
  isplitl [HS Hc Ha]
  · iapply hw; isplitl [HS]; · iexact HS
    isplitl [Hc]; · iexact Hc
    iexact Ha
  iintro %u ⟨HS, Ha, Hpay⟩
  unfold WP St pay entPay
  icases HS with ⟨#HR, #HL, %W, HO⟩
  icases Hpay with ⟨⟨%fn, Hs⟩, Hout⟩
  ihave Hi := (recs_k X K .rss j c) $$ HR
  icases Hi with ⟨#Hi1, #Hr1⟩
  ihave Hi := (recs_k X K .rsr j (c + j : Fin 32)) $$ HR
  icases Hi with ⟨#Hi2, #Hr2⟩
  unfold Prog.lift slotPts parPts
  iapply (Rounds.wp_send_pointsTo 𝒱₀ ER (Rd X) (c : Thread nD τ) none (c' := Dev.tc (c + j : Fin 32)) (src := parCh j) (dst := slotM j)
    (sS := .dma (rsSend j)) (sem := .dma (rsRecv j)) (κ₁ := K (c, .inl (.rss, j))) (κ₂ := K ((c + j : Fin 32), .inl (.rsr, j)))
    (r₁ := 0) (r₂ := 0) (d₁ := false) (d₂ := false) (fd := fn)
    (mem_duties X .rss j hj c) (mem_duties X .rsr j hj (c + j : Fin 32)) () () N rfl (amount_k X .rss j c false)
    (amount_k X .rsr j (c + j : Fin 32) false) (Ors c l) rfl (W := W) (rs_lent X c j) (rs_landed X c j fn)) $$ [HO Hp Hs Ht1 Ht2]
  · isplitr; · iexact Hi1
    isplitr; · iexact Hi2
    isplitl [Hp]; · iexact Hp
    isplitl [Hs]; · iexact Hs
    isplitl [HO]; · iexact HO
    isplitl [Ht1]; · iexact Ht1
    isplitr; · iexact Hr1
    isplitl [Ht2]; · iexact Ht2
    iexact Hr2
  iintro ⟨Hc, HO⟩
  rw [wp_ret]; imodintro
  isplitl [HO]
  · isplitr; · iexact HR
    isplitr; · iexact HL
    iexists _; iexact HO
  isplitl [Ha]; · iexact Ha
  isplitl [Hout]; · iexact Hout
  iexact Hc

/-- Transfer `j` of the all-gather. -/
theorem wp_ag (c : Dev nD) (j : Fin 32) (l : List (Fin 32)) (hj : j ≠ 0) :
    iprop(St X K c (Oag c (j :: l)) ∗ outPts (lf j) c c (outFinal X) ∗ (∃ f, outPts (F := F) fullShare (c + j : Fin 32) c f)
        ∗ dutyTok ER (kcell .ags j c) 0 false ∗ dutyTok ER (kcell .agr j (c + j : Fin 32)) 0 false)
      ⊢ WP c (agStep (chunkOff c) (j, (c + j : Fin 32))) fun _ => iprop(St X K c (Oag c l) ∗ cred (tallyAt (kcell .ags j c) () N)) := by
  unfold agStep WP St
  iintro ⟨⟨#HR, #HL, %W, HO⟩, Hp, ⟨%fn, Hs⟩, Ht1, Ht2⟩
  ihave Hi := (recs_k X K .ags j c) $$ HR
  icases Hi with ⟨#Hi1, #Hr1⟩
  ihave Hi := (recs_k X K .agr j (c + j : Fin 32)) $$ HR
  icases Hi with ⟨#Hi2, #Hr2⟩
  unfold Prog.lift outPts
  iapply (Rounds.wp_send_pointsTo 𝒱₀ ER (Rd X) (c : Thread nD τ) none (c' := Dev.tc (c + j : Fin 32)) (src := outCh (chunkOff c)) (dst := outCh (chunkOff c))
    (sS := .dma (agSend j)) (sem := .dma (agRecv j)) (κ₁ := K (c, .inl (.ags, j))) (κ₂ := K ((c + j : Fin 32), .inl (.agr, j)))
    (r₁ := 0) (r₂ := 0) (d₁ := false) (d₂ := false) (fd := fn)
    (mem_duties X .ags j hj c) (mem_duties X .agr j hj (c + j : Fin 32)) () () N rfl (amount_k X .ags j c false)
    (amount_k X .agr j (c + j : Fin 32) false) (Oag c l) rfl (W := W) (ag_lent X c j) (ag_landed X c j fn)) $$ [HO Hp Hs Ht1 Ht2]
  · isplitr; · iexact Hi1
    isplitr; · iexact Hi2
    isplitl [Hp]; · iexact Hp
    isplitl [Hs]; · iexact Hs
    isplitl [HO]; · iexact HO
    isplitl [Ht1]; · iexact Ht1
    isplitr; · iexact Hr1
    isplitl [Ht2]; · iexact Ht2
    iexact Hr2
  iintro ⟨Hc, HO⟩
  rw [wp_ret]; imodintro
  isplitl [HO]
  · isplitr; · iexact HR
    isplitr; · iexact HL
    iexists _; iexact HO
  iexact Hc

end Cert.KProof

end
-- ==== Proof.Pieces.lean ====
/-
# The buffers split and joined, and the steps that compute

Splitting the scratch and result buffers into the pieces the transfers move, joining them back, and the steps of the
body that load and store.
-/
module

public import proofs.«01_k».proof.Proof.Steps

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Ins F) (K : Dev nD × KI → ℕ)

/-! ## Splitting and joining -/

/-- The steps that transfer: all but step 0. -/
abbrev S31 : Finset (Fin 32) := Finset.univ.erase 0

theorem list_steps (P : Fin 32 → sProp 𝕄) : bigSep S31 P = bigSepL stepsJ P :=
  bigSep_eq_bigSepL_of_eq stepsJ (by decide) (by decide) P
theorem list_rs (P : Fin 32 → sProp 𝕄) : bigSep S31 P = bigSepL rsAllJ P :=
  bigSep_eq_bigSepL_of_eq rsAllJ (by decide) (by decide) P
theorem list_ag (P : Fin 32 → sProp 𝕄) : bigSep S31 P = bigSepL agJ P :=
  bigSep_eq_bigSepL_of_eq agJ (by decide) (by decide) P
theorem at0 (P : Fin 32 → sProp 𝕄) : bigSep Finset.univ P = iprop(P 0 ∗ bigSep S31 P) := bigSep_univ_at P 0

/-- The receive buffer whole is its slots. -/
theorem buf_slots (c : Dev nD) (f : (cc0_scratch1 : Ref sig .tc).ty.Contents (Elt F)) :
    (((c : Thread nD τ).loc cc0_scratch1) ↦{fullShare} f : sProp 𝕄) = bigSep Finset.univ fun j => slotPts c j f := by
  refine (Ring.pointsTo_blocks (ℓ := (c : Thread nD τ).loc cc0_scratch1) (fun j : Fin 32 => (slotRect j).set) slot_disj slot_cover f).trans
    (bigSep_congr fun j _ => ?_)
  unfold slotPts; rw [set_slotM]

/-- The partial buffer whole is its chunks. -/
theorem par_chunks (c : Dev nD) (f : (cc0_scratch0 : Ref sig .tc).ty.Contents (Elt F)) :
    (((c : Thread nD τ).loc cc0_scratch0) ↦{fullShare} f : sProp 𝕄) = bigSep Finset.univ fun j => parPts c j f := by
  refine (Ring.pointsTo_blocks (ℓ := (c : Thread nD τ).loc cc0_scratch0) (fun j : Fin 32 => (chunkRect j).set) chunk_disj chunk_cover f).trans
    (bigSep_congr fun j _ => ?_)
  unfold parPts; rw [set_parCh]

/-- The result buffer whole is its chunks. -/
theorem out_chunks (c : Dev nD) (f : (cc0_stg2_0 : Ref sig .tc).ty.Contents (Elt F)) :
    (((c : Thread nD τ).loc cc0_stg2_0) ↦{fullShare} f : sProp 𝕄) = bigSep Finset.univ fun e => outPts fullShare c e f := by
  refine (Ring.pointsTo_blocks (ℓ := (c : Thread nD τ).loc cc0_stg2_0) (fun j : Fin 32 => (chunkRect j).set) chunk_disj chunk_cover f).trans
    (bigSep_congr fun j _ => ?_)
  unfold outPts; rw [set_outCh]

/-- Block `b` of the partial buffer. -/
def blkPts (c : Dev nD) (b : Fin 4) (f : (cc0_scratch0 : Ref sig .tc).ty.Contents (Elt F)) : sProp 𝕄 :=
  (parM.access (blkRect b)).loc (c : Thread nD τ) ↦[(parM.access (blkRect b)).set]{fullShare} f

/-- The partial buffer whole is its blocks. -/
theorem par_blks (c : Dev nD) (f : (cc0_scratch0 : Ref sig .tc).ty.Contents (Elt F)) :
    (((c : Thread nD τ).loc cc0_scratch0) ↦{fullShare} f : sProp 𝕄) = bigSep Finset.univ fun b => blkPts c b f := by
  refine (Ring.pointsTo_blocks (ℓ := (c : Thread nD τ).loc cc0_scratch0) (fun j : Fin 4 => (blkRect j).set) blk_disj blk_cover f).trans
    (bigSep_congr fun j _ => ?_)
  unfold blkPts; rw [set_blk]

/-- A block is its chunks. -/
theorem blk_split (c : Dev nD) (b : Fin 4) (f : (cc0_scratch0 : Ref sig .tc).ty.Contents (Elt F)) :
    (blkPts c b f : sProp 𝕄) = bigSep (blkChunks b) fun j => parPts c j f := by
  unfold blkPts
  rw [set_blk, ← blk_chunks]
  refine (pointsTo_biUnion (ℓ := (c : Thread nD τ).loc cc0_scratch0) (blkChunks b) (fun j : Fin 32 => (chunkRect j).set)
    (fun j _ j' _ h => chunk_disj j j' h)).trans (bigSep_congr fun j _ => ?_)
  unfold parPts; rw [set_parCh]

theorem blkChunks_list : ∀ b : Fin 4, b ≠ 0 → blkChunks b = (rsJ b).toFinset := by decide
theorem blkChunks_list0 : blkChunks 0 = ((0 : Fin 32) :: rsJ 0).toFinset := by decide

theorem blk_list (c : Dev nD) (b : Fin 4) (hb : b ≠ 0) (P : Fin 32 → sProp 𝕄) : bigSep (blkChunks b) P = bigSepL (rsJ b) P :=
  bigSep_eq_bigSepL_of_eq (rsJ b) (blkChunks_list b hb) (by revert b; decide) P
theorem blk_list0 (P : Fin 32 → sProp 𝕄) : bigSep (blkChunks 0) P = iprop(P 0 ∗ bigSepL (rsJ 0) P) :=
  (bigSep_eq_bigSepL_of_eq (0 :: rsJ 0) blkChunks_list0 (by decide) P).trans (bigSepL_cons' _ _ _)

/-- A device's own result chunk, cut in 32 shares. -/
theorem out_leaves (c : Dev nD) : (outPts fullShare c c (outFinal X) : sProp 𝕄) = bigSep Finset.univ fun j => outPts (lf j) c c (outFinal X) := by
  unfold outPts
  exact ShareLeaves.pointsTo_leaves (ℓ := (outCh (chunkOff c)).view.loc (c : Thread nD τ)) (outCh (chunkOff c)).view.set (outFinal X) 5 fullShare

/-- Counting the chunks back from the own one. -/
def back (c : Dev nD) : Fin 32 ≃ Fin 32 where
  toFun j := (c - j : Fin 32)
  invFun j := (c - j : Fin 32)
  left_inv j := by revert c j; decide +kernel
  right_inv j := by revert c j; decide +kernel

theorem sub_zero' (c : Fin 32) : c - 0 = c := by revert c; decide

/-- All chunks: the own one and, for each step, the one that many places back. -/
theorem out_back (c : Dev nD) (P : Fin 32 → sProp 𝕄) :
    bigSep Finset.univ P = iprop(P c ∗ bigSep S31 fun j => P (c - j : Fin 32)) := by
  rw [bigSep_univ_equiv (back c) P, at0]
  show iprop(P (c - 0 : Fin 32) ∗ _) = _
  rw [sub_zero']; rfl

/-! ## Loads and stores -/

abbrev tabPts (c : Dev nD) : sProp 𝕄 := ((c : Thread nD τ).loc cc0_stg0_0) ↦{fullShare} X.tab c
abbrev idxPts (c : Dev nD) : sProp 𝕄 := ((c : Thread nD τ).loc cc0_stg1_0) ↦{fullShare} X.idx c
abbrev bufPts (c : Dev nD) : sProp 𝕄 := ((c : Thread nD τ).loc cc0_scratch1) ↦{fullShare} bufFinal X c

theorem hz : (![0, 0] : Fin 2 → Nat) = fun _ => 0 := funext fun a => by fin_cases a <;> rfl

/-- The table's load. -/
theorem wp_tab (c : Dev nD) :
    tabPts X c ⊢ WP c (Prog.lift (.load tabM (Rect.unit (s := S2048x256) ![0, 0] S2048x256.size inb_S2048x256_S2048x256_0_0).toLoadRect
      (View.loadsAt_vmem h_S2048x256))) fun v => iprop(⌜v = X.tab c⌝ ∗ tabPts X c) := by
  unfold WP Prog.lift tabPts
  iintro H
  iapply (wp_load 𝒱₀ (c : Thread nD τ) none Set.univ (m := tabM) (Finset.subset_univ _)) $$ H; iintro H
  rw [wp_ret]; imodintro
  isplitr
  · ipureintro; exact Memref.readAt_unit_zero (Elt F) cc0_stg0_0 hz _ _
  iexact H

theorem blockStep_congr (v : BitVec 32) (tab : Vec F S2048x256 .f32) (b : Fin 4) (o o' : Fin 2 → Nat)
    (ho : ∀ a, o a + S128x1.size a ≤ S1024x1.size a) (ho' : ∀ a, o' a + S128x1.size a ≤ S1024x1.size a) (h : o = o') :
    (blockStep v tab b o ho : PB F PUnit) = blockStep v tab b o' ho' := by subst h; rfl

/-- Block `b`: its rows computed and stored. -/
theorem wp_block (c : Dev nD) (b : Fin 4) :
    iprop(idxPts X c ∗ ∃ f, blkPts (F := F) c b f)
      ⊢ WP c (blockStep (myW c) (X.tab c) b ![16 * c.val + 128 * b.val, 0] (idxOff_inb c b)) fun _ =>
        iprop(idxPts X c ∗ bigSep (blkChunks b) fun j => parPts c j (parFinal X c)) := by
  rw [← blk_split]
  unfold WP blockStep Prog.lift idxPts blkPts
  simp only [Prog.bind_op, Prog.bind_ret]
  iintro ⟨Hi, %f, Hb⟩
  iapply (wp_load 𝒱₀ (c : Thread nD τ) none Set.univ (m := idxM) (Finset.subset_univ _)) $$ Hi; iintro Hi
  iapply (wp_load_rect 𝒱₀ (c : Thread nD τ) none Set.univ (m := parM) (r := blkRect b) (Finset.Subset.refl _)) $$ Hb; iintro Hb
  iapply (wp_store 𝒱₀ (c : Thread nD τ) none Set.univ (m := parM) (r := blkRect b) (S := (parM.access (blkRect b)).set) (Mk := Finset.univ) (Finset.Subset.refl _)) $$ Hb; iintro Hb
  rw [wp_ret]; imodintro
  isplitl [Hi]; · iexact Hi
  ihave H := (Entails.of_eq (write_pts (parM.access (blkRect b)) c fullShare f (parFinal X c)
    (blockVal (myW c) (X.tab c) (idxM.view.readAt (Elt F) (idxRect c b).toLoadRect (X.idx c))) (read_parFinal X c b).symm)) $$ Hb
  iexact H

/-- The own chunk's copy. -/
theorem wp_own (c : Dev nD) :
    iprop(parPts c 0 (parFinal X c) ∗ ∃ f, slotPts (F := F) c 0 f)
      ⊢ WP c ownStep fun _ => iprop(parPts c 0 (parFinal X c) ∗ slotPts c 0 (bufFinal X c)) := by
  unfold WP ownStep Prog.lift parPts slotPts
  simp only [Prog.bind_op, Prog.bind_ret]
  rw [set_slotM, ← set_slotA]
  iintro ⟨Hp, %f, Hs⟩
  iapply (wp_load_rect 𝒱₀ (c : Thread nD τ) none Set.univ (m := parM) (r := chunkRect 0) (S := (parCh 0).view.set) (Finset.Subset.refl _)) $$ Hp; iintro Hp
  iapply (wp_load_rect 𝒱₀ (c : Thread nD τ) none Set.univ (m := bufM) (r := slotRect 0) (Finset.Subset.refl _)) $$ Hs; iintro Hs
  iapply (wp_store 𝒱₀ (c : Thread nD τ) none Set.univ (m := bufM) (r := slotRect 0) (S := (bufM.access (slotRect 0)).set) (Mk := Finset.univ) (Finset.Subset.refl _)) $$ Hs; iintro Hs
  rw [wp_ret]; imodintro
  isplitl [Hp]; · iexact Hp
  ihave H := (Entails.of_eq (write_pts (bufM.access (slotRect 0)) c fullShare f (bufFinal X c)
    (shapeCast S1x16x256 ((parM.access (chunkRect 0)).read (Elt F) (parFinal X c)) shapeCasts_S16x256_S1x16x256)
    (by show shapeCast S1x16x256 (chunkVal X c 0) shapeCasts_S16x256_S1x16x256 = _; rw [load_slot', read_bufFinal, sub_zero']))) $$ Hs
  iexact H

/-- The 32 slots' loads. -/
theorem wp_slots (c : Dev nD) : ∀ l : List (Fin 32),
    bufPts X c ⊢ WP c (loadSlots l) fun vs => iprop(⌜vs = l.map fun j => chunkVal X (c - j : Fin 32) j⌝ ∗ bufPts X c)
  | [] => by
    show _ ⊢ WP c (Prog.ret []) _
    unfold WP; rw [wp_ret]
    iintro H; imodintro
    isplitr; · ipureintro; rfl
    iexact H
  | j :: l => by
    have ih := wp_slots c l
    unfold loadSlots
    iintro H
    iapply (wp_seq c (Prog.lift (.load bufM (slotRect j).toLoadRect (View.loadsAt_vmem h_S1x16x256))) _
      (fun v => iprop(⌜v = bufM.view.readAt (Elt F) (slotRect j).toLoadRect (bufFinal X c)⌝ ∗ bufPts X c)))
    isplitl [H]
    · unfold WP Prog.lift bufPts
      iapply (wp_load 𝒱₀ (c : Thread nD τ) none Set.univ (m := bufM) (Finset.subset_univ _)) $$ H; iintro H
      rw [wp_ret]; imodintro
      isplitr; · ipureintro; rfl
      iexact H
    iintro %v ⟨%hv, H⟩
    iapply (wp_seq c (loadSlots l) _ (fun vs => iprop(⌜vs = l.map fun j => chunkVal X (c - j : Fin 32) j⌝ ∗ bufPts X c)))
    isplitl [H]
    · iapply ih; iexact H
    iintro %vs ⟨%hvs, H⟩
    rw [hv, hvs]
    unfold WP; rw [Prog.pure_eq_ret, wp_ret]; imodintro
    isplitr
    · ipureintro
      rw [load_slot, read_bufFinal]; rfl
    iexact H

theorem sumStep_congr (o o' : Fin 2 → Nat) (ho : ∀ a, o a + S16x256.size a ≤ S512x256.size a)
    (ho' : ∀ a, o' a + S16x256.size a ≤ S512x256.size a) (h : o = o') : (sumStep o ho : PB F PUnit) = sumStep o' ho' := by
  subst h; rfl

/-- The sum of the slots into the own chunk of the result. -/
theorem wp_sum (c : Dev nD) :
    iprop(bufPts X c ∗ ∃ f, outPts (F := F) fullShare c c f)
      ⊢ WP c (sumStep ![16 * c.val, 0] (chunk_inb c)) fun _ => iprop(bufPts X c ∗ outPts fullShare c c (outFinal X)) := by
  unfold sumStep
  iintro ⟨H, %f, Ho⟩
  iapply (wp_seq c (loadSlots slots) _ (fun vs => iprop(⌜vs = slots.map fun j => chunkVal X (c - j : Fin 32) j⌝ ∗ bufPts X c)))
  isplitl [H]
  · iapply (wp_slots X c slots); iexact H
  iintro %vs ⟨%hvs, H⟩
  rw [hvs]
  unfold WP Prog.lift outPts
  simp only [Prog.bind_op, Prog.bind_ret]
  iapply (wp_load_rect 𝒱₀ (c : Thread nD τ) none Set.univ (m := outM) (r := chunkRect c) (S := (outCh (chunkOff c)).view.set) (Finset.Subset.refl _)) $$ Ho; iintro Ho
  iapply (wp_store 𝒱₀ (c : Thread nD τ) none Set.univ (m := outM) (r := chunkRect c) (S := (outCh (chunkOff c)).view.set) (Mk := Finset.univ) (Finset.Subset.refl _)) $$ Ho; iintro Ho
  rw [wp_ret]; imodintro
  isplitl [H]; · iexact H
  ihave H := (Entails.of_eq (show ((outM.access (chunkRect c)).loc (c : Thread nD τ) ↦[(outCh (chunkOff c)).view.set]{fullShare}
      (outM.access (chunkRect c)).write (Elt F) f (treeSum (slots.map fun j => chunkVal X (c - j : Fin 32) j)) Finset.univ : sProp 𝕄)
    = ((outCh (chunkOff c)).view.loc (c : Thread nD τ) ↦[(outCh (chunkOff c)).view.set]{fullShare} outFinal X) from
      write_pts (outM.access (chunkRect c)) c fullShare f (outFinal X) _ (read_outFinal X c).symm)) $$ Ho
  iexact H

end Cert.KProof

end
-- ==== Proof.Phases.lean ====
/-
# The loops and the body

Each loop of the body by its step (`wp_each`), then the body's three parts one after another.
-/
module

public import proofs.«01_k».proof.Proof.Pieces
public import Idealize.ShloMosaic.Lib.Pipeline.BigSepL

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Ins F) (K : Dev nD × KI → ℕ)

/-! ## The loops -/

theorem sepF {I : Type} (s : Finset I) (P Q : I → sProp 𝕄) :
    bigSep s (fun i => iprop(P i ∗ Q i)) = iprop(bigSep s P ∗ bigSep s Q) := bigSep_sep' s P Q

theorem sepL {I : Type} [DecidableEq I] (l : List I) (hl : l.Nodup) (P Q : I → sProp 𝕄) :
    bigSepL l (fun i => iprop(P i ∗ Q i)) = iprop(bigSepL l P ∗ bigSepL l Q) := by
  rw [← bigSep_eq_bigSepL l hl, ← bigSep_eq_bigSepL l hl, ← bigSep_eq_bigSepL l hl]; exact sepF _ _ _

theorem appL {I : Type} (l l' : List I) (P : I → sProp 𝕄) : bigSepL (l ++ l') P = iprop(bigSepL l P ∗ bigSepL l' P) :=
  Idealize.SL.BI.bigSepL_append l l' P

theorem steps_ne : ∀ j ∈ stepsJ, j ≠ 0 := by decide
theorem rsAll_ne : ∀ j ∈ rsAllJ, j ≠ 0 := by decide
theorem ag_ne : ∀ j ∈ agJ, j ≠ 0 := by decide

/-- The entry signals. -/
theorem phase_sig (c : Dev nD) :
    iprop(St X K c (O₀ c) ∗ bigSep S31 (fun j => dutyTok ER (kcell .ent j (c - j : Fin 32)) 0 false)
        ∗ bigSep S31 (fun j => iprop(∃ f, slotPts (F := F) c j f)) ∗ bigSep S31 (fun j => iprop(∃ f, outPts (F := F) fullShare c (c - j : Fin 32) f)))
      ⊢ WP c (each (sigL c) fun p => semSignalWord p.2 (entrySem p.1) 1#32) fun _ => St X K c (Obar c) := by
  rw [sigL_eq, each_map, ← sepF, ← sepF, list_steps]
  have h := wp_each c (fun j : Fin 32 => (semSignalWord (c - j : Fin 32) (entrySem j) 1#32 : PB F PUnit)) (fun l => St X K c (Oent c l))
    (fun j => iprop(dutyTok ER (kcell .ent j (c - j : Fin 32)) 0 false ∗ (∃ f, slotPts (F := F) c j f) ∗ (∃ f, outPts (F := F) fullShare c (c - j : Fin 32) f)))
    (fun _ => iprop(emp)) (fun j => j ≠ 0)
    (fun j l hj => by
      iintro H
      iapply (wp_last c _ (fun _ => St X K c (Oent c l)))
      isplitl [H]; · iapply (wp_ent X K c j l hj); iexact H
      iintro %u H; isplitl [H]; · iexact H
      iempintro) stepsJ steps_ne
  iintro H
  iapply (wp_last c _ (fun _ => iprop(St X K c (Oent c []) ∗ bigSepL stepsJ fun _ => iprop(emp))))
  isplitl [H]; · iapply h; iexact H
  iintro %u ⟨H, -⟩; iexact H

/-- What a transfer of the reduce-scatter needs besides its chunk, and what it leaves. -/
def rsIn (c : Dev nD) (j : Fin 32) : sProp 𝕄 :=
  iprop(cred (tallyAt (kcell .ent j c) () 1) ∗ atPos ER (kcell .ent j c) 0 ∅ 0
    ∗ dutyTok ER (kcell .rss j c) 0 false ∗ dutyTok ER (kcell .rsr j (c + j : Fin 32)) 0 false)
def rsOut (c : Dev nD) (j : Fin 32) : sProp 𝕄 :=
  iprop(atPos ER (kcell .ent j c) 1 ∅ 0 ∗ (∃ f, outPts (F := F) fullShare (c + j : Fin 32) c f) ∗ cred (tallyAt (kcell .rss j c) () N))

/-- Some of the reduce-scatter's transfers. -/
theorem phase_rs (c : Dev nD) (l rest : List (Fin 32)) (hl : ∀ j ∈ l, j ≠ 0) (hn : l.Nodup) :
    iprop(St X K c (Ors c (l ++ rest)) ∗ bigSepL l (rsIn c) ∗ bigSepL l (fun j => parPts c j (parFinal X c)))
      ⊢ WP c (each (l.map fun j => (j, (c + j : Fin 32))) rsStep) fun _ => iprop(St X K c (Ors c rest) ∗ bigSepL l (rsOut c)) := by
  rw [each_map, ← sepL l hn]
  exact wp_each c (fun j : Fin 32 => rsStep (j, (c + j : Fin 32))) (fun l => St X K c (Ors c (l ++ rest)))
    (fun j => iprop(rsIn c j ∗ parPts c j (parFinal X c))) (rsOut c) (fun j => j ≠ 0)
    (fun j l hj => by
      unfold rsIn rsOut
      iintro ⟨HS, ⟨H1, H2, H3, H4⟩, H5⟩
      iapply (wp_rs X K c j (l ++ rest) hj)
      isplitl [HS]; · iexact HS
      isplitl [H1]; · iexact H1
      isplitl [H2]; · iexact H2
      isplitl [H5]; · iexact H5
      isplitl [H3] <;> iassumption) l hl

/-- A loop of waits. -/
theorem phase_wait (c : Dev nD) (k : Kd) (l : List (Fin 32)) (hl : ∀ j ∈ l, j ≠ 0) (f : Fin 32 → PB F PUnit)
    (O : CellTallies nD τ sig Unit) (n : ℕ) (hO : Abv n O) (hk : klv k ≤ n) (hk' : kamt k = N)
    (hf : ∀ j, ∃ w : TpuEff nD τ sig (Elt F) Λ₀ .tc PUnit, f j = .op w .ret ∧
      ∀ Q : PUnit → sProp 𝕄, wpE (defs₀ (F := F)) 𝒱₀ (c : Thread nD τ) none Set.univ w Q
        = waitSpec (c : Thread nD τ) Set.univ (ksem k j) (kamt k) Q) :
    iprop(St X K c O ∗ bigSepL l fun j => iprop(cred (tallyAt (kcell k j c) () N) ∗ atPos ER (kcell k j c) 0 ∅ 0))
      ⊢ WP c (each l f) fun _ => iprop(St X K c O ∗ bigSepL l fun j => iprop(atPos ER (kcell k j c) 1 ∅ 0 ∗ pay X k j c)) :=
  wp_each c f (fun _ => St X K c O) _ _ (fun j => j ≠ 0) (fun j l hj => by
    obtain ⟨w, hw, hs⟩ := hf j
    rw [hw, ← hk']
    exact wp_waitK X K c k j hj w hs n hk O hO) l hl

/-- The positions after their one round. -/
def done (c : Dev nD) (k : Kd) : sProp 𝕄 := bigSep S31 fun j => atPos ER (kcell k j c) 1 ∅ 0

/-- The credits and positions of a kind of cells before its waits. -/
def wIn (c : Dev nD) (k : Kd) : sProp 𝕄 :=
  bigSep S31 fun j => iprop(cred (tallyAt (kcell k j c) () N) ∗ atPos ER (kcell k j c) 0 ∅ 0)

theorem wIn_eq (c : Dev nD) (k : Kd) : (wIn c k : sProp 𝕄)
    = iprop(bigSep S31 (fun j => cred (tallyAt (kcell k j c) () N)) ∗ bigSep S31 fun j => atPos ER (kcell k j c) 0 ∅ 0) := sepF _ _ _

/-- The waits for the reduce-scatter's arrivals. -/
theorem phase_rsr (c : Dev nD) :
    iprop(St X K c (Oag c agJ) ∗ wIn c .rsr)
      ⊢ WP c (each (rsAll c) rsWaitRecv) fun _ => iprop(St X K c (Oag c agJ)
        ∗ done c .rsr ∗ bigSep S31 fun j => slotPts c j (bufFinal X c)) := by
  unfold wIn done
  rw [← sepF, rsAll_eq, each_map, list_rs, list_rs]
  exact phase_wait X K c .rsr rsAllJ rsAll_ne _ (Oag c agJ) 2 (abv_Oag c _) (by decide) rfl (fun j => ⟨_, rfl, fun Q => rfl⟩)

/-- The waits for the reduce-scatter's departures. -/
theorem phase_rss (c : Dev nD) :
    iprop(St X K c 0 ∗ wIn c .rss)
      ⊢ WP c (each (rsAll c) rsWaitSend) fun _ => iprop(St X K c 0
        ∗ done c .rss ∗ bigSep S31 fun j => parPts c j (parFinal X c)) := by
  unfold wIn done
  rw [← sepF, rsAll_eq, each_map, list_rs, list_rs]
  exact phase_wait X K c .rss rsAllJ rsAll_ne _ 0 0 (abv_zero 0) (by decide) rfl (fun j => ⟨_, rfl, fun Q => rfl⟩)

/-- The waits for the all-gather's arrivals. -/
theorem phase_agr (c : Dev nD) :
    iprop(St X K c 0 ∗ wIn c .agr)
      ⊢ WP c (each (agWaitL c) agWaitRecv) fun _ => iprop(St X K c 0
        ∗ done c .agr ∗ bigSep S31 fun j => outPts fullShare c (c - j : Fin 32) (outFinal X)) := by
  unfold wIn done
  rw [← sepF, agWaitL_eq, each_map, list_steps, list_steps]
  exact phase_wait X K c .agr stepsJ steps_ne _ 0 3 (abv_zero 3) (by decide) rfl (fun j => ⟨_, rfl, fun Q => rfl⟩)

/-- The waits for the all-gather's departures. -/
theorem phase_ags (c : Dev nD) :
    iprop(St X K c 0 ∗ wIn c .ags)
      ⊢ WP c (each (agL c) (agWaitSend ⟨k0_off3 c, k0_off3_inb c⟩)) fun _ => iprop(St X K c 0
        ∗ done c .ags ∗ bigSep S31 fun j => outPts (lf j) c c (outFinal X)) := by
  unfold wIn done
  rw [← sepF, agL_eq, each_map, off3Out, list_ag, list_ag]
  exact phase_wait X K c .ags agJ ag_ne _ 0 0 (abv_zero 0) (by decide) rfl (fun j => ⟨_, rfl, fun Q => rfl⟩)

/-- The all-gather's transfers. -/
theorem phase_ag (c : Dev nD) :
    iprop(St X K c (Oag c agJ) ∗ bigSep S31 (fun j => outPts (lf j) c c (outFinal X))
        ∗ bigSep S31 (fun j => iprop(∃ f, outPts (F := F) fullShare (c + j : Fin 32) c f))
        ∗ bigSep S31 (fun j => dutyTok ER (kcell .ags j c) 0 false) ∗ bigSep S31 (fun j => dutyTok ER (kcell .agr j (c + j : Fin 32)) 0 false))
      ⊢ WP c (each (agL c) (agStep ⟨k0_off3 c, k0_off3_inb c⟩)) fun _ => iprop(St X K c 0
        ∗ bigSep S31 fun j => cred (tallyAt (kcell .ags j c) () N)) := by
  rw [agL_eq, each_map, off3Out, ← sepF, ← sepF, ← sepF, list_ag, list_ag]
  exact wp_each c (fun j : Fin 32 => agStep (chunkOff c) (j, (c + j : Fin 32))) (fun l => St X K c (Oag c l)) _ _ (fun j => j ≠ 0)
    (fun j l hj => wp_ag X K c j l hj) agJ ag_ne

/-! ## The parts -/

/-- The part up to the barrier's wait. -/
theorem wp_A (c : Dev nD) :
    iprop(St X K c (O₀ c) ∗ bigSep S31 (fun j => dutyTok ER (kcell .ent j (c - j : Fin 32)) 0 false)
        ∗ bigSep S31 (fun j => iprop(∃ f, slotPts (F := F) c j f)) ∗ bigSep S31 (fun j => iprop(∃ f, outPts (F := F) fullShare c (c - j : Fin 32) f))
        ∗ dutyTok ER (barCell (c + 1 : Fin 32)) 0 false ∗ dutyTok ER (barCell (c - 1 : Fin 32)) 0 true ∗ tabPts X c)
      ⊢ WP c (bodyA c) fun v => iprop(⌜v = X.tab c⌝ ∗ St X K c (Ors c rsAllJ) ∗ tabPts X c) := by
  have hb := fun (n : Dev nD) (d : Bool) (O : CellTallies nD τ sig Unit) =>
    wp_sig X K c n (.inr ()) barSem rfl d (by show d ∈ (Rd X).duties (barCell n) 0; rw [duties_bar]; exact Finset.mem_univ _) O
  unfold bodyA
  rw [dev32_eq, dev33_eq]
  iintro ⟨HS, H1, H2, H3, Ht1, Ht2, Htab⟩
  iapply (wp_seq c _ _ (fun _ => St X K c (Obar c)))
  isplitl [HS H1 H2 H3]
  · iapply (phase_sig X K c)
    isplitl [HS]; · iexact HS
    isplitl [H1]; · iexact H1
    isplitl [H2] <;> iassumption
  iintro %u HS
  iapply (wp_seq c _ _ (fun _ => St X K c (Ors c rsAllJ + tallyAt (barCell (c - 1 : Fin 32)) () 1)))
  isplitl [HS Ht1]
  · iapply (hb (c + 1 : Fin 32) false (Ors c rsAllJ + tallyAt (barCell (c - 1 : Fin 32)) () 1))
    isplitl [HS]; · iexact HS
    isplitl [Ht1]; · iexact Ht1
    iapply (Entails.of_eq (show (iprop(emp) : sProp 𝕄) = (Rd X).payload (icell ((c + 1 : Fin 32), .inr ())) 0 false from (payload_bar X (c + 1 : Fin 32) false).symm)); iempintro
  iintro %u HS
  iapply (wp_seq c _ _ (fun _ => St X K c (Ors c rsAllJ)))
  isplitl [HS Ht2]
  · iapply (hb (c - 1 : Fin 32) true (Ors c rsAllJ))
    isplitl [HS]; · iexact HS
    isplitl [Ht2]; · iexact Ht2
    iapply (Entails.of_eq (show (iprop(emp) : sProp 𝕄) = (Rd X).payload (icell ((c - 1 : Fin 32), .inr ())) 0 true from (payload_bar X (c - 1 : Fin 32) true).symm)); iempintro
  iintro %u HS
  iapply (wp_last c _ (fun v => iprop(⌜v = X.tab c⌝ ∗ tabPts X c)))
  isplitl [Htab]
  · iapply (wp_tab X c); iexact Htab
  iintro %v ⟨%hv, Htab⟩
  isplitr; · ipureintro; exact hv
  isplitl [HS] <;> iassumption

/-- The four blocks by name. -/
theorem four (P : Fin 4 → sProp 𝕄) : bigSep Finset.univ P = iprop(P 0 ∗ P 1 ∗ P 2 ∗ P 3) := by
  rw [bigSep_univ_eq_bigSepL [0, 1, 2, 3] (by decide) (by decide), bigSepL_cons', bigSepL_cons', bigSepL_cons', bigSepL_singleton]

/-- Block `b ≥ 1` and its transfers. -/
theorem wp_blk_rs (c : Dev nD) (b : Fin 4) (hb : b ≠ 0) (rest : List (Fin 32)) (hl : ∀ j ∈ rsJ b, j ≠ 0) (hn : (rsJ b).Nodup)
    (o : Fin 2 → Nat) (ho : ∀ a, o a + S128x1.size a ≤ S1024x1.size a) (h : o = ![16 * c.val + 128 * b.val, 0])
    (l : List (Fin 32 × Dev nD)) (hll : l = (rsJ b).map fun j => (j, (c + j : Fin 32))) {β : Type} (k : PB F β) (Q : β → sProp 𝕄) :
    iprop(St X K c (Ors c (rsJ b ++ rest)) ∗ idxPts X c ∗ (∃ f, blkPts (F := F) c b f) ∗ bigSepL (rsJ b) (rsIn c)
        ∗ ((St X K c (Ors c rest) ∗ idxPts X c ∗ bigSepL (rsJ b) (rsOut c)) -∗ WP c k Q))
      ⊢ WP c (blockStep (myW c) (X.tab c) b o ho >>= fun _ => each l rsStep >>= fun _ => k) Q := by
  rw [blockStep_congr _ _ b o _ ho (idxOff_inb c b) h, hll]
  iintro ⟨HS, Hi, Hb, Hin, Hk⟩
  iapply (wp_seq c _ _ (fun _ => iprop(idxPts X c ∗ bigSep (blkChunks b) fun j => parPts c j (parFinal X c))))
  isplitl [Hi Hb]
  · iapply (wp_block X c b); isplitl [Hi] <;> iassumption
  iintro %u ⟨Hi, Hp⟩
  iapply (wp_seq c _ _ (fun _ => iprop(St X K c (Ors c rest) ∗ bigSepL (rsJ b) (rsOut c))))
  isplitl [HS Hin Hp]
  · iapply (phase_rs X K c (rsJ b) rest hl hn)
    isplitl [HS]; · iexact HS
    isplitl [Hin]; · iexact Hin
    iapply (Entails.of_eq (blk_list c b hb _)); iexact Hp
  iintro %u ⟨HS, Ho⟩
  iapply Hk
  isplitl [HS]; · iexact HS
  isplitl [Hi] <;> iassumption

theorem rsAll_split : rsAllJ = rsJ 0 ++ (rsJ 1 ++ (rsJ 2 ++ (rsJ 3 ++ []))) := by decide
theorem rsJ_ne : ∀ b, ∀ j ∈ rsJ b, j ≠ 0 := by decide
theorem rsJ_nodup : ∀ b, (rsJ b).Nodup := by decide

/-- A family over the cells of the reduce-scatter, by the blocks that send it. -/
theorem rs_four (P : Fin 32 → sProp 𝕄) :
    bigSep S31 P = iprop(bigSepL (rsJ 0) P ∗ bigSepL (rsJ 1) P ∗ bigSepL (rsJ 2) P ∗ bigSepL (rsJ 3) P) := by
  rw [list_rs, show rsAllJ = rsJ 0 ++ (rsJ 1 ++ (rsJ 2 ++ rsJ 3)) by decide, appL, appL, appL]

/-- The four blocks and the reduce-scatter's transfers. -/
theorem wp_B (c : Dev nD) :
    iprop(St X K c (Ors c rsAllJ) ∗ idxPts X c ∗ bigSep Finset.univ (fun b => iprop(∃ f, blkPts (F := F) c b f))
        ∗ cred (tallyAt (barCell c) () 2) ∗ atPos ER (barCell c) 0 ∅ 0 ∗ bigSep S31 (rsIn c))
      ⊢ WP c (bodyB c (X.tab c)) fun _ => iprop(St X K c (Oag c agJ) ∗ idxPts X c ∗ atPos ER (barCell c) 1 ∅ 0
        ∗ parPts c 0 (parFinal X c) ∗ bigSep S31 (rsOut c)) := by
  rw [four, rs_four, rs_four, rsAll_split]
  unfold bodyB
  rw [blockStep_congr (myW c) (X.tab c) 0 (k0_off1 c 0#32) _ (k0_off1_inb c 0) (idxOff_inb c 0) (off1_eq c 0),
    blockStep_congr (myW c) (X.tab c) 3 (k0_off1 c 384#32) _ (k0_off1_inb c 3) (idxOff_inb c 3) (off1_eq c 3), rsL0_eq, rsL3_eq]
  iintro ⟨HS, Hi, ⟨Hb0, Hb1, Hb2, Hb3⟩, Hc, Ha, Hr0, Hr1, Hr2, Hr3⟩
  iapply (wp_seq c _ _ (fun _ => iprop(idxPts X c ∗ bigSep (blkChunks 0) fun j => parPts c j (parFinal X c))))
  isplitl [Hi Hb0]
  · iapply (wp_block X c 0); isplitl [Hi] <;> iassumption
  iintro %u ⟨Hi, Hp⟩
  ihave Hp := (Entails.of_eq (blk_list0 fun j => parPts c j (parFinal X c))) $$ Hp
  icases Hp with ⟨Hp0, Hp⟩
  iapply (wp_seq c _ _ (fun _ => iprop(St X K c (Ors c (rsJ 0 ++ (rsJ 1 ++ (rsJ 2 ++ (rsJ 3 ++ []))))) ∗ atPos ER (barCell c) 1 ∅ 0)))
  isplitl [HS Hc Ha]
  · iapply (wp_waitBar X K c _ (abv_Ors c _))
    isplitl [HS]; · iexact HS
    isplitl [Hc] <;> iassumption
  iintro %u ⟨HS, Ha⟩
  iapply (wp_seq c _ _ (fun _ => iprop(St X K c (Ors c (rsJ 1 ++ (rsJ 2 ++ (rsJ 3 ++ [])))) ∗ bigSepL (rsJ 0) (rsOut c))))
  isplitl [HS Hr0 Hp]
  · iapply (phase_rs X K c (rsJ 0) _ (rsJ_ne 0) (rsJ_nodup 0))
    isplitl [HS]; · iexact HS
    isplitl [Hr0] <;> iassumption
  iintro %u ⟨HS, Ho0⟩
  iapply (wp_blk_rs X K c 1 (by decide) _ (rsJ_ne 1) (rsJ_nodup 1) _ (k0_off1_inb c 1) (off1_eq c 1) _ (rsL1_eq c))
  isplitl [HS]; · iexact HS
  isplitl [Hi]; · iexact Hi
  isplitl [Hb1]; · iexact Hb1
  isplitl [Hr1]; · iexact Hr1
  iintro ⟨HS, Hi, Ho1⟩
  iapply (wp_blk_rs X K c 2 (by decide) _ (rsJ_ne 2) (rsJ_nodup 2) _ (k0_off1_inb c 2) (off1_eq c 2) _ (rsL2_eq c))
  isplitl [HS]; · iexact HS
  isplitl [Hi]; · iexact Hi
  isplitl [Hb2]; · iexact Hb2
  isplitl [Hr2]; · iexact Hr2
  iintro ⟨HS, Hi, Ho2⟩
  iapply (wp_seq c _ _ (fun _ => iprop(idxPts X c ∗ bigSep (blkChunks 3) fun j => parPts c j (parFinal X c))))
  isplitl [Hi Hb3]
  · iapply (wp_block X c 3); isplitl [Hi] <;> iassumption
  iintro %u ⟨Hi, Hp⟩
  iapply (wp_last c _ (fun _ => iprop(St X K c (Ors c []) ∗ bigSepL (rsJ 3) (rsOut c))))
  isplitl [HS Hr3 Hp]
  · iapply (phase_rs X K c (rsJ 3) [] (rsJ_ne 3) (rsJ_nodup 3))
    isplitl [HS]; · iexact HS
    isplitl [Hr3]; · iexact Hr3
    iapply (Entails.of_eq (blk_list c 3 (by decide) _)); iexact Hp
  iintro %u ⟨HS, Ho3⟩
  isplitl [HS]; · iexact HS
  isplitl [Hi]; · iexact Hi
  isplitl [Ha]; · iexact Ha
  isplitl [Hp0]; · iexact Hp0
  isplitl [Ho0]; · iexact Ho0
  isplitl [Ho1]; · iexact Ho1
  isplitl [Ho2] <;> iassumption

/-- The receives, the sum, the all-gather and the last waits. -/
theorem wp_C (c : Dev nD) :
    iprop(St X K c (Oag c agJ) ∗ wIn c .rsr ∗ parPts c 0 (parFinal X c) ∗ (∃ f, slotPts (F := F) c 0 f) ∗ (∃ f, outPts (F := F) fullShare c c f)
        ∗ bigSep S31 (fun j => iprop(∃ f, outPts (F := F) fullShare (c + j : Fin 32) c f))
        ∗ bigSep S31 (fun j => dutyTok ER (kcell .ags j c) 0 false) ∗ bigSep S31 (fun j => dutyTok ER (kcell .agr j (c + j : Fin 32)) 0 false)
        ∗ wIn c .agr ∗ wIn c .rss ∗ bigSep S31 (fun j => atPos ER (kcell .ags j c) 0 ∅ 0))
      ⊢ WP c (bodyC c) fun _ => iprop(St X K c 0 ∗ bufPts X c
        ∗ (((c : Thread nD τ).loc cc0_scratch0) ↦{fullShare} parFinal X c)
        ∗ (((c : Thread nD τ).loc cc0_stg2_0) ↦{fullShare} outFinal X)
        ∗ done c .rss ∗ done c .rsr ∗ done c .ags ∗ done c .agr) := by
  unfold bodyC
  rw [sumStep_congr _ _ (k0_off2_inb c) (chunk_inb c) (off2_eq c)]
  iintro ⟨HS, Hrsr, Hp, Hs0, Hoc, Hof, Ht1, Ht2, Hagr, Hrss, Hags⟩
  iapply (wp_seq c _ _ _); isplitl [HS Hrsr]
  · iapply (phase_rsr X K c); isplitl [HS] <;> iassumption
  iintro %u ⟨HS, Drsr, Hsl⟩
  iapply (wp_seq c _ _ _); isplitl [Hp Hs0]
  · iapply (wp_own X c); isplitl [Hp] <;> iassumption
  iintro %u ⟨Hp, Hs0⟩
  iapply (wp_seq c _ _ _); isplitl [Hs0 Hsl Hoc]
  · iapply (wp_sum X c)
    isplitl [Hs0 Hsl]
    · iapply (Entails.of_eq (((buf_slots c (bufFinal X c)).trans (at0 _)).symm)); isplitl [Hs0] <;> iassumption
    · iexact Hoc
  iintro %u ⟨Hbuf, Hoc⟩
  ihave Hoc := (Entails.of_eq ((out_leaves X c).trans (at0 _))) $$ Hoc
  icases Hoc with ⟨Hoc0, Hoc⟩
  iapply (wp_seq c _ _ _); isplitl [HS Hoc Hof Ht1 Ht2]
  · iapply (phase_ag X K c)
    isplitl [HS]; · iexact HS
    isplitl [Hoc]; · iexact Hoc
    isplitl [Hof]; · iexact Hof
    isplitl [Ht1] <;> iassumption
  iintro %u ⟨HS, Hcr⟩
  iapply (wp_seq c _ _ _); isplitl [HS Hagr]
  · iapply (phase_agr X K c); isplitl [HS] <;> iassumption
  iintro %u ⟨HS, Dagr, Hob⟩
  iapply (wp_seq c _ _ _); isplitl [HS Hrss]
  · iapply (phase_rss X K c); isplitl [HS] <;> iassumption
  iintro %u ⟨HS, Drss, Hps⟩
  iapply (wp_last c _ _); isplitl [HS Hcr Hags]
  · iapply (phase_ags X K c); isplitl [HS]
    · iexact HS
    · iapply (Entails.of_eq (wIn_eq (F := F) c .ags).symm); isplitl [Hcr] <;> iassumption
  iintro %u ⟨HS, Dags, Hls⟩
  isplitl [HS]; · iexact HS
  isplitl [Hbuf]; · iexact Hbuf
  isplitl [Hp Hps]
  · iapply (Entails.of_eq (((par_chunks c (parFinal X c)).trans (at0 _)).symm)); isplitl [Hp] <;> iassumption
  isplitl [Hoc0 Hls Hob]
  · iapply (Entails.of_eq (((out_chunks c (outFinal X)).trans (out_back c _)).symm))
    isplitl [Hoc0 Hls]
    · iapply (Entails.of_eq (((out_leaves X c).trans (at0 _)).symm))
      isplitl [Hoc0] <;> iassumption
    · iexact Hob
  isplitl [Drss]; · iexact Drss
  isplitl [Drsr]; · iexact Drsr
  isplitl [Dags] <;> iassumption

end Cert.KProof

end
-- ==== Proof.Body.lean ====
/-
# The body of one device

From what the launch deals a device to its result buffer whole, with every semaphore closed at zero.
-/
module

public import proofs.«01_k».proof.Proof.Phases
public import proofs.«01_k».proof.Proof.Gen.KernelIdeal.Frame

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation)

variable (X : Ins F) (K : Dev nD × KI → ℕ)

/-! ## What a device starts from -/

/-- The tokens of the duties that device `c` pays. -/
def payToks (c : Dev nD) : sProp 𝕄 :=
  iprop(bigSep S31 (fun j => dutyTok ER (kcell .ent j (c - j : Fin 32)) 0 false)
    ∗ bigSep S31 (fun j => dutyTok ER (kcell .rss j c) 0 false)
    ∗ bigSep S31 (fun j => dutyTok ER (kcell .rsr j (c + j : Fin 32)) 0 false)
    ∗ bigSep S31 (fun j => dutyTok ER (kcell .ags j c) 0 false)
    ∗ bigSep S31 (fun j => dutyTok ER (kcell .agr j (c + j : Fin 32)) 0 false)
    ∗ dutyTok ER (barCell (c + 1 : Fin 32)) 0 false ∗ dutyTok ER (barCell (c - 1 : Fin 32)) 0 true)

/-- The positions of device `c` at its cells of one kind. -/
def posK (c : Dev nD) (k : Kd) : sProp 𝕄 := bigSep Finset.univ fun j => atPos ER (kcell k j c) 0 ∅ 0

/-- Its positions at all its cells. -/
def poss (c : Dev nD) : sProp 𝕄 := iprop((bigSep Finset.univ fun k => posK c k) ∗ atPos ER (barCell c) 0 ∅ 0)

/-- The credits it waits with. -/
def crK (c : Dev nD) (k : Kd) : sProp 𝕄 := bigSep S31 fun j => cred (tallyAt (kcell k j c) () (kamt k))
def creds (c : Dev nD) : sProp 𝕄 :=
  iprop(cred (tallyAt (barCell c) () 2) ∗ crK c .ent ∗ crK c .rsr ∗ crK c .agr)

def ghost (c : Dev nD) : sProp 𝕄 := iprop(recs X K ∗ poss c ∗ payToks c)

def start (c : Dev nD) : sProp 𝕄 := iprop((∃ K, ghost X K c) ∗ creds c ∗ levAts L lv)

abbrev parWh (c : Dev nD) (f : (cc0_scratch0 : Ref sig .tc).ty.Contents (Elt F)) : sProp 𝕄 := ((c : Thread nD τ).loc cc0_scratch0) ↦{fullShare} f
abbrev bufWh (c : Dev nD) (f : (cc0_scratch1 : Ref sig .tc).ty.Contents (Elt F)) : sProp 𝕄 := ((c : Thread nD τ).loc cc0_scratch1) ↦{fullShare} f
abbrev outWh (c : Dev nD) (f : (cc0_stg2_0 : Ref sig .tc).ty.Contents (Elt F)) : sProp 𝕄 := ((c : Thread nD τ).loc cc0_stg2_0) ↦{fullShare} f

/-- All its counters at zero. -/
def zeros (c : Dev nD) : sProp 𝕄 :=
  iprop((bigSep Finset.univ fun k => bigSep Finset.univ fun j => semVal (kcell k j c) 0) ∗ semVal (barCell c) 0)

def Φ₀ (c : Dev nD) : sProp 𝕄 := iprop(start X c ∗ (∃ f, parWh (F := F) c f) ∗ ∃ f, bufWh (F := F) c f)
def Φ₁ (c : Dev nD) : sProp 𝕄 := iprop(parWh c (parFinal X c) ∗ bufWh c (bufFinal X c) ∗ zeros c)

/-! ## Small steps -/

/-- The kinds one by one. -/
theorem kinds (P : Kd → sProp 𝕄) : bigSep Finset.univ P = iprop(P .ent ∗ P .rss ∗ P .rsr ∗ P .ags ∗ P .agr) := by
  rw [bigSep_univ_eq_bigSepL [.ent, .rss, .rsr, .ags, .agr] (by decide) (by decide),
    bigSepL_cons', bigSepL_cons', bigSepL_cons', bigSepL_cons', bigSepL_singleton]

theorem pts_ex {I : Type} {α : Type} (s : Finset I) (P : I → α → sProp 𝕄) (f : α) :
    bigSep s (fun i => P i f) ⊢ bigSep s fun i => iprop(∃ f, P i f) :=
  bigSep_mono fun i _ => by
    show (P i f : sProp 𝕄) ⊢ iprop(∃ f, P i f)
    iintro H; iexists f; iexact H

/-- Closing the cells of one kind. -/
theorem close_kind (c : Dev nD) (k : Kd) :
    iprop(recs X K ∗ atPos ER (kcell k 0 c) 0 ∅ 0 ∗ done c k)
      ⊢ |={Set.univ}=> (bigSep Finset.univ fun j => semVal (kcell k j c) 0 : sProp 𝕄) := by
  iintro ⟨#HR, H0, Hd⟩
  imod (show iprop(recs X K ∗ done c k) ⊢ (|={Set.univ}=> bigSep S31 fun j => semVal (kcell k j c) 0 : sProp 𝕄) from
    (bigSep_with_persistent (R := recs X K) fun j _ => by
      iintro ⟨HR, Ha⟩
      ihave Hi := (recs_k X K k j c) $$ HR
      icases Hi with ⟨#Hi, -⟩
      iapply (Rounds.cell_close ER (Rd X) (Set.mem_univ (K (c, .inl (k, j)))) (fun h => h) (R := 1) (duties_later X (kcell k j c)))
      isplitr; · iexact Hi
      iexact Ha).trans (bigSep_fupd _ _)) $$ [Hd] with Hz
  · isplitr; · iexact HR
    iexact Hd
  ihave Hi := (recs_k X K k 0 c) $$ HR
  icases Hi with ⟨#Hi, -⟩
  imod (Rounds.cell_close ER (Rd X) (Set.mem_univ (K (c, .inl (k, 0)))) (fun h => h) (R := 0) (fun r _ => duties_k0 X k c r)) $$ [H0] with Hz0
  · isplitr; · iexact Hi
    iexact H0
  imodintro
  iapply (Entails.of_eq (at0 _).symm)
  isplitl [Hz0] <;> iassumption

/-- Closing the barrier's cell. -/
theorem close_bar (c : Dev nD) :
    iprop(recs X K ∗ atPos ER (barCell c) 1 ∅ 0) ⊢ |={Set.univ}=> (semVal (barCell c) 0 : sProp 𝕄) := by
  iintro ⟨HR, Ha⟩
  ihave Hi := (recs_bar X K c) $$ HR
  icases Hi with ⟨#Hi, -⟩
  iapply (Rounds.cell_close ER (Rd X) (Set.mem_univ (K (c, .inr ()))) (fun h => h) (R := 1) (duties_later X (barCell c)))
  isplitr; · iexact Hi
  iexact Ha

theorem posK_eq (c : Dev nD) (k : Kd) : (posK c k : sProp 𝕄)
    = iprop(atPos ER (kcell k 0 c) 0 ∅ 0 ∗ bigSep S31 fun j => atPos ER (kcell k j c) 0 ∅ 0) := at0 _

theorem poss_eq (c : Dev nD) : (poss c : sProp 𝕄)
    = iprop((posK c .ent ∗ posK c .rss ∗ posK c .rsr ∗ posK c .ags ∗ posK c .agr) ∗ atPos ER (barCell c) 0 ∅ 0) := by
  unfold poss; rw [kinds]

/-- What the transfers of the reduce-scatter need, family by family. -/
theorem rsIn_eq (c : Dev nD) : bigSep S31 (rsIn (F := F) c)
    = iprop(bigSep S31 (fun j => cred (tallyAt (kcell .ent j c) () 1)) ∗ bigSep S31 (fun j => atPos ER (kcell .ent j c) 0 ∅ 0)
      ∗ bigSep S31 (fun j => dutyTok ER (kcell .rss j c) 0 false) ∗ bigSep S31 (fun j => dutyTok ER (kcell .rsr j (c + j : Fin 32)) 0 false)) := by
  unfold rsIn; rw [sepF, sepF, sepF]

theorem rsOut_eq (c : Dev nD) : bigSep S31 (rsOut (F := F) c)
    = iprop(done c .ent ∗ bigSep S31 (fun j => iprop(∃ f, outPts (F := F) fullShare (c + j : Fin 32) c f))
      ∗ bigSep S31 fun j => cred (tallyAt (kcell .rss j c) () N)) := by
  unfold rsOut done; rw [sepF, sepF]

/-! ## The body -/

theorem wp_loop_eq (c : Dev nD) (Q : PUnit → sProp 𝕄) :
    WP c loopBody Q = WP c (bodyA c >>= fun tab => bodyB c tab >>= fun _ => bodyC c) Q := by
  unfold WP loopBody Prog.lift
  simp only [Prog.bind_op, Prog.bind_ret, wp_deviceId]

/-- The body as loops, from what a device starts from to its result. -/
theorem wp_loopBody (c : Dev nD) :
    iprop(recs X K ∗ levAts L lv ∗ (∃ W, owes (c : Thread nD τ) (O₀ c) W) ∗ poss c ∗ payToks c ∗ creds c
        ∗ (∃ f, parWh (F := F) c f) ∗ (∃ f, bufWh (F := F) c f) ∗ (∃ f, outWh (F := F) c f) ∗ tabPts X c ∗ idxPts X c)
      ⊢ WP c loopBody fun _ => iprop((∃ W, owes (c : Thread nD τ) 0 W) ∗ tabPts X c ∗ idxPts X c ∗ outWh c (outFinal X) ∗ Φ₁ X c) := by
  rw [wp_loop_eq, poss_eq, posK_eq, posK_eq, posK_eq, posK_eq, posK_eq]
  unfold creds payToks Φ₁ zeros crK
  rw [kinds]
  iintro ⟨#HR, #HL, HO, ⟨⟨⟨Pe0, Pe⟩, ⟨Ps0, Ps⟩, ⟨Pr0, Pr⟩, ⟨Pt0, Pt⟩, ⟨Pg0, Pg⟩⟩, Pb⟩, ⟨Te, Ts, Tr, Tt, Tg, Tb1, Tb2⟩, ⟨Cb, Ce, Cr, Cg⟩,
    ⟨%fp, Hpar⟩, ⟨%fb, Hbuf⟩, ⟨%fo, Hout⟩, Htab, Hidx⟩
  ihave Hbuf := (Entails.of_eq ((buf_slots c fb).trans (at0 _))) $$ Hbuf
  icases Hbuf with ⟨Hs0, Hs⟩
  ihave Hs := (pts_ex S31 (fun j f => slotPts (F := F) c j f) fb) $$ Hs
  ihave Hout := (Entails.of_eq ((out_chunks c fo).trans (out_back c _))) $$ Hout
  icases Hout with ⟨Ho0, Ho⟩
  ihave Ho := (pts_ex S31 (fun j f => outPts (F := F) fullShare c (c - j : Fin 32) f) fo) $$ Ho
  ihave Hpar := (Entails.of_eq (par_blks c fp)) $$ Hpar
  ihave Hpar := (pts_ex Finset.univ (fun b f => blkPts (F := F) c b f) fp) $$ Hpar
  iapply (wp_seq c _ _ (fun v => iprop(⌜v = X.tab c⌝ ∗ St X K c (Ors c rsAllJ) ∗ tabPts X c)))
  isplitl [HO Te Hs Ho Tb1 Tb2 Htab]
  · iapply (wp_A X K c)
    isplitl [HO]
    · unfold St
      isplitr; · iexact HR
      isplitr; · iexact HL
      iexact HO
    isplitl [Te]; · iexact Te
    isplitl [Hs]; · iexact Hs
    isplitl [Ho]; · iexact Ho
    isplitl [Tb1]; · iexact Tb1
    isplitl [Tb2] <;> iassumption
  iintro %v ⟨%hv, HS, Htab⟩
  subst hv
  iapply (wp_seq c _ _ (fun _ => iprop(St X K c (Oag c agJ) ∗ idxPts X c ∗ atPos ER (barCell c) 1 ∅ 0 ∗ parPts c 0 (parFinal X c) ∗ bigSep S31 (rsOut c))))
  isplitl [HS Hidx Hpar Cb Pb Ce Pe Ts Tr]
  · iapply (wp_B X K c)
    isplitl [HS]; · iexact HS
    isplitl [Hidx]; · iexact Hidx
    isplitl [Hpar]; · iexact Hpar
    isplitl [Cb]; · iexact Cb
    isplitl [Pb]; · iexact Pb
    iapply (Entails.of_eq (rsIn_eq c).symm)
    isplitl [Ce]; · iexact Ce
    isplitl [Pe]; · iexact Pe
    isplitl [Ts] <;> iassumption
  iintro %u ⟨HS, Hidx, Pb, Hp0, Hro⟩
  ihave Hro := (Entails.of_eq (rsOut_eq c)) $$ Hro
  icases Hro with ⟨De, Hof, Cs⟩
  iapply wp_fupd
  iapply (wp_last c _ (fun _ => iprop(St X K c 0 ∗ bufPts X c
        ∗ (((c : Thread nD τ).loc cc0_scratch0) ↦{fullShare} parFinal X c)
        ∗ (((c : Thread nD τ).loc cc0_stg2_0) ↦{fullShare} outFinal X)
        ∗ done c .rss ∗ done c .rsr ∗ done c .ags ∗ done c .agr)))
  isplitl [HS Cr Pr Hp0 Hs0 Ho0 Hof Tt Tg Cg Pg Cs Ps Pt]
  · iapply (wp_C X K c)
    isplitl [HS]; · iexact HS
    isplitl [Cr Pr]
    · iapply (Entails.of_eq (wIn_eq (F := F) c .rsr).symm); isplitl [Cr]
      · iexact Cr
      · iexact Pr
    isplitl [Hp0]; · iexact Hp0
    isplitl [Hs0]; · iexists fb; iexact Hs0
    isplitl [Ho0]; · iexists fo; iexact Ho0
    isplitl [Hof]; · iexact Hof
    isplitl [Tt]; · iexact Tt
    isplitl [Tg]; · iexact Tg
    isplitl [Cg Pg]
    · iapply (Entails.of_eq (wIn_eq (F := F) c .agr).symm); isplitl [Cg]
      · iexact Cg
      · iexact Pg
    isplitl [Cs Ps]
    · iapply (Entails.of_eq (wIn_eq (F := F) c .rss).symm); isplitl [Cs] <;> iassumption
    iexact Pt
  iintro %u ⟨HS, Hbuf, Hpar, Hout, Ds, Dr, Dt, Dg⟩
  unfold St
  icases HS with ⟨-, -, HO⟩
  imod (close_kind X K c .ent) $$ [Pe0 De] with Ze
  · isplitr; · iexact HR
    isplitl [Pe0] <;> iassumption
  imod (close_kind X K c .rss) $$ [Ps0 Ds] with Zs
  · isplitr; · iexact HR
    isplitl [Ps0] <;> iassumption
  imod (close_kind X K c .rsr) $$ [Pr0 Dr] with Zr
  · isplitr; · iexact HR
    isplitl [Pr0] <;> iassumption
  imod (close_kind X K c .ags) $$ [Pt0 Dt] with Zt
  · isplitr; · iexact HR
    isplitl [Pt0] <;> iassumption
  imod (close_kind X K c .agr) $$ [Pg0 Dg] with Zg
  · isplitr; · iexact HR
    isplitl [Pg0] <;> iassumption
  imod (close_bar X K c) $$ [Pb] with Zb
  · isplitr; · iexact HR
    iexact Pb
  imodintro
  isplitl [HO]; · iexact HO
  isplitl [Htab]; · iexact Htab
  isplitl [Hidx]; · iexact Hidx
  isplitl [Hout]; · iexact Hout
  isplitl [Hpar]; · iexact Hpar
  isplitl [Hbuf]; · iexact Hbuf
  isplitr [Zb]
  · isplitl [Ze]; · iexact Ze
    isplitl [Zs]; · iexact Zs
    isplitl [Zr]; · iexact Zr
    isplitl [Zt] <;> iassumption
  iexact Zb

end Cert.KProof

end
-- ==== Proof.Oblig.lean ====
/-
# The pipeline's data

The kernel is one pipeline of one point; its body is the loops.
-/
module

public import proofs.«01_k».proof.Proof.Body
public import proofs.«01_k».proof.Proof.Gen.KernelIdeal.Frame

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation)

variable (m : (ℓ : Loc nD τ sig) → Buf (Elt F) ℓ) (ρ : Dev nD → PrngReg)

/-- What the devices hold: each its table block and its ids. -/
def ins : Ins F where
  tab c := iblk m c 0 t0_0
  idx c := iblk m c 1 t0_0

/-! ## The pipeline's data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m).tab c
    | ⟨1, _⟩ => (ins m).idx c
    | ⟨2, _⟩ => outFinal (ins m)
  Φ t := match t with
    | ⟨0, _⟩ => Φ₀ (ins m) c
    | ⟨_ + 1, _⟩ => Φ₁ (ins m) c
  q _ := fullShare
  owed t := match t with
    | ⟨0, _⟩ => O₀ c
    | ⟨_ + 1, _⟩ => 0

theorem owns_whole (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop(Φ₀ (ins m) c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ (ins m) c ∗ (dats m ρ 0 c).owesAt () t0_0.succ
    ∗ stg c cc0_stg0_0 ((ins m).tab c) ∗ stg c cc0_stg1_0 ((ins m).idx c) ∗ stg c cc0_stg2_0 (outFinal (ins m)))

theorem before_tab (c : Dev nD) (d) : (dats m ρ 0 c).before (0 : Fin 3) t0_0 d = (ins m).tab c := by
  unfold Dat.before; rw [if_pos (fetch0_0 t0_0)]; rfl
theorem before_idx (c : Dev nD) (d) : (dats m ρ 0 c).before (1 : Fin 3) t0_0 d = (ins m).idx c := by
  unfold Dat.before; rw [if_pos (fetch0_1 t0_0)]; rfl

/-- The body from what the pipeline hands it to what it takes back. -/
theorem sound_body (c : Dev nD) : bodyPre m ρ c ⊢ WP c loopBody fun _ => bodyPost m ρ c := by
  unfold bodyPre Φ₀ start Dat.owesAt Pipeline.owesWithin ghost
  rw [show (dats m ρ 0 c).owed t0_0.castSucc = O₀ c from rfl]
  iintro ⟨⟨⟨⟨%K, HR, HP, HT⟩, HC, HL⟩, Hpar, Hbuf⟩, ⟨%W, %hW, HO⟩, ⟨%d0, %g0, %hg0, Htab⟩, ⟨%d1, %g1, %hg1, Hidx⟩, ⟨%d2, %g2, %hg2, Hout⟩⟩
  rw [before_tab] at hg0
  rw [before_idx] at hg1
  subst hg0
  subst hg1
  iapply (wp_last c _ _)
  isplitr []
  · iapply (wp_loopBody (ins m) K c)
    isplitl [HR]; · iexact HR
    isplitl [HL]; · iexact HL
    isplitl [HO]; · iexists W; iexact HO
    isplitl [HP]; · iexact HP
    isplitl [HT]; · iexact HT
    isplitl [HC]; · iexact HC
    isplitl [Hpar]; · iexact Hpar
    isplitl [Hbuf]; · iexact Hbuf
    isplitl [Hout]; · iexists g2; iexact Hout
    isplitl [Htab] <;> iassumption
  iintro %u ⟨⟨%W', HO⟩, Htab, Hidx, Hout, HΦ⟩
  unfold bodyPost Dat.owesAt Pipeline.owesWithin
  rw [show (dats m ρ 0 c).owed t0_0.succ = 0 from rfl]
  isplitl [HΦ]; · iexact HΦ
  isplitl [HO]
  · iexists W'
    isplitr; · ipureintro; exact fun _ _ => Or.inl trivial
    iexact HO
  isplitl [Htab]
  · iexists _; isplitr; · (ipureintro; rfl)
    iexact Htab
  isplitl [Hidx]
  · iexists _; isplitr; · (ipureintro; rfl)
    iexact Hidx
  iexists _; isplitr; · (ipureintro; rfl)
  iexact Hout

theorem phi_at0 (c : Dev nD) : (dats m ρ 0 c).Φ t0_0.castSucc = Φ₀ (ins m) c := rfl
theorem phi_at1 (c : Dev nD) : (dats m ρ 0 c).Φ t0_0.succ = Φ₁ (ins m) c := rfl
theorem after_tab (c : Dev nD) : (dats m ρ 0 c).after (0 : Fin 3) t0_0 = (ins m).tab c := rfl
theorem after_idx (c : Dev nD) : (dats m ρ 0 c).after (1 : Fin 3) t0_0 = (ins m).idx c := rfl
theorem after_out (c : Dev nD) : (dats m ρ 0 c).after (2 : Fin 3) t0_0 = outFinal (ins m) := rfl

theorem sound_prog (c : Dev nD) (p : PB F PUnit) (h : p = loopBody) :
    bodyPre m ρ c ⊢ wp frame (wpE (defs₀ (F := F)) 𝒱₀ (c : Thread nD τ) none) Set.univ p (fun _ => bodyPost m ρ c) := by
  subst h; exact sound_body m ρ c

/-- The program the pipeline calls at its one point. -/
theorem called_eq : (defs₀ (F := F)) .tc 0 (t0_0, cfg0.slots t0_0) = loopBody := by
  refine Eq.trans ?_ body_eq
  chain_rfl

attribute [local irreducible] defs₀ loopBody Φ₀ Φ₁ outFinal

/-- The pipeline's obligation for the body. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  rw [phi_at0, phi_at1, after_tab, after_idx, after_out]
  rw [called_eq]
  have h := sound_body m ρ c
  unfold bodyPre bodyPost at h
  exact h

end Cert.KProof

end
-- ==== Proof.Launch.lean ====
/-
# The launch

The cells allocated, the tokens dealt around the ring, the credits counted, and the run of @main.
-/
module

public import proofs.«01_k».proof.Proof.Oblig
public import Idealize.ShloMosaic.Lib.Pipeline.CollectiveSegs
public import proofs.«01_k».proof.Proof.Gen.KernelIdeal.Frame

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation)

variable (m : (ℓ : Loc nD τ sig) → Buf (Elt F) ℓ) (ρ : Dev nD → PrngReg)

/-! ## The cells -/

attribute [local irreducible] defs₀ loopBody Φ₀ Φ₁ outFinal

/-- The kernel's own semaphores. -/
abbrev osem : Kd × Fin 32 → SemLoc sig := fun p => ksem p.1 p.2

theorem ksem_inj : Function.Injective osem := fun p p' h => by
  have h' := congrArg dec h
  dsimp only [osem] at h'
  rw [dec_ksem, dec_ksem] at h'
  exact Option.some.inj h'

theorem ksem_scoped : ∀ (k : Kd) (j : Fin 32), (ksem k j).isScoped .tc = true := by decide +kernel
theorem ksem_disj : ∀ (k : Kd) (j : Fin 32) (w : Fin 3) (s : Fin (spec0 w).nbuf), ksem k j ≠ .dma ((spec0 w).sem s) := by decide +kernel

theorem ownSemFacts : Pipeline.OwnSemFacts cfg0.spec osem :=
  ⟨fun p => ksem_scoped p.1 p.2, ksem_inj, fun p w s => ksem_disj p.1 p.2 w s⟩

theorem share_eq (c : Dev nD) (w : Fin cfg0.W) : (dats m ρ 0 c).share w = fullShare := by unfold Dat.share; split <;> rfl

theorem icell_inj : Function.Injective (icell : Dev nD × KI → GSem nD τ sig) := by
  rintro ⟨c, i⟩ ⟨c', i'⟩ h
  have h1 : c = c' := by
    exact congrArg (fun g : GSem nD τ sig => g.1.1) h
  subst h1
  rcases i with i | i <;> rcases i' with i' | i'
  · have h2 : osem i = osem i' := congrArg Prod.snd h
    rw [ksem_inj h2]
  · exact absurd (congrArg Prod.snd h) (ksem_ne_bar i.1 i.2)
  · exact absurd (congrArg Prod.snd h).symm (ksem_ne_bar i'.1 i'.2)
  · rfl

def ringCells : Finset (GSem nD τ sig) := Finset.univ.map ⟨icell, icell_inj⟩

/-- The tokens minted for a device's cells: one each, two for the barrier's. -/
def tokOf (ci : Dev nD × ((Kd × Fin 32) ⊕ Bool)) : GSem nD τ sig × ℕ × Bool :=
  match ci.2 with
  | .inl kj => (kcell kj.1 kj.2 ci.1, 0, false)
  | .inr b => (barCell ci.1, 0, b)

theorem tokOf_inj : Function.Injective tokOf := by
  rintro ⟨c, i⟩ ⟨c', i'⟩ h
  have hg := congrArg Prod.fst h
  rcases i with i | i <;> rcases i' with i' | i'
  · have := icell_inj (a₁ := (c, .inl i)) (a₂ := (c', .inl i')) hg
    cases this; rfl
  · have := icell_inj (a₁ := (c, .inl i)) (a₂ := (c', .inr ())) hg
    cases this
  · have := icell_inj (a₁ := (c, .inr ())) (a₂ := (c', .inl i')) hg
    cases this
  · have := icell_inj (a₁ := (c, .inr ())) (a₂ := (c', .inr ())) hg
    cases this
    have hb : i = i' := congrArg (fun x : GSem nD τ sig × ℕ × Bool => x.2.2) h
    rw [hb]

def ringToks : Finset (GSem nD τ sig × ℕ × Bool) := Finset.univ.map ⟨tokOf, tokOf_inj⟩

def u₀ : UU :=
  (initOf (Pipeline.cells cfgs cellOf_inj) (Pipeline.launchToks cfgs cellOf_inj), initOf ringCells ringToks)

/-- The tokens of device `c`'s own cells. -/
def toks (c : Dev nD) : sProp 𝕄 :=
  iprop((bigSep Finset.univ fun k : Kd => bigSep Finset.univ fun j : Fin 32 => dutyTok ER (kcell k j c) 0 false)
    ∗ dutyTok ER (barCell c) 0 false ∗ dutyTok ER (barCell c) 0 true)

/-- What the launch deals device `c`. -/
def G (c : Dev nD) : sProp 𝕄 :=
  iprop((bigSep Finset.univ fun i : KI => roundState ER (Rd (ins m)) (icell (c, i)) 0)
    ∗ (bigSep Finset.univ fun i : KI => iprop(atPos ER (icell (c, i)) 0 ∅ 0 ∗ reached ER (icell (c, i)) 0)) ∗ toks c)

def G' (c : Dev nD) : sProp 𝕄 := iprop(∃ K, ghost (ins m) K c)

/-- A family over a device's cells. -/
theorem KI_split (P : KI → sProp 𝕄) : bigSep Finset.univ P
    = iprop((bigSep Finset.univ fun k : Kd => bigSep Finset.univ fun j : Fin 32 => P (.inl (k, j))) ∗ P (.inr ())) := by
  rw [Idealize.SL.BI.bigSep_univ_sum, Idealize.SL.BI.bigSep_univ_prod (fun kj : Kd × Fin 32 => P (.inl kj)),
    bigSep_univ_eq_bigSepL [()] (by decide) (by decide) (fun b => P (.inr b)), bigSepL_singleton]
  rfl

theorem toks_eq (c : Dev nD) : (bigSep Finset.univ fun i : (Kd × Fin 32) ⊕ Bool =>
    (dutyTok ER (tokOf (c, i)).1 (tokOf (c, i)).2.1 (tokOf (c, i)).2.2 : sProp 𝕄)) = toks c := by
  rw [Idealize.SL.BI.bigSep_univ_sum, Idealize.SL.BI.bigSep_univ_prod,
    bigSep_univ_eq_bigSepL [false, true] (by decide) (by decide), bigSepL_cons', bigSepL_singleton]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : KI => Φ (icell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (Rd (ins m)) ringCells ringToks) $$ HX with ⟨Hst, Hr, Hat, Htok⟩
  imodintro
  ihave Hst' := (Entails.of_eq (hX fun g => roundState ER (Rd (ins m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems_eq (c : Dev nD) : (Pipeline.ownSems0 (Ix := Unit) (Name := ℕ) (U := UU) (Lvl := ℕ) (Val := Elt F) (τ := τ) osem c : sProp 𝕄)
    = bigSep Finset.univ fun k => bigSep Finset.univ fun j => semVal (kcell k j c) 0 := by
  unfold Pipeline.ownSems0
  exact Idealize.SL.BI.bigSep_univ_prod _

theorem unscoped_eq (c : Dev nD) : (unscopedSems0 c : sProp 𝕄) = semVal (barCell c) 0 := by
  unfold unscopedSems0; rw [bigSep_eq_bigSepL_of_eq [SemLoc.reg barSem] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : KI => iprop(∃ κ : ℕ, cellInv ER (Rd (ins m)) κ (icell (c, i))))
          ∗ (bigSep Finset.univ fun i : KI => iprop(atPos ER (icell (c, i)) 0 ∅ 0 ∗ reached ER (icell (c, i)) 0)) ∗ toks c) := by
  unfold G
  iintro ⟨Hos, Hus, Hst, Hat, Htok⟩
  ihave Hv := (show iprop(Pipeline.ownSems0 (Ix := Unit) (Name := ℕ) (U := UU) (Lvl := ℕ) (Val := Elt F) (τ := τ) osem c ∗ unscopedSems0 c)
      ⊢ (bigSep Finset.univ fun i : KI => semVal (icell (c, i)) 0 : sProp 𝕄) from Entails.of_eq (by
        rw [ownSems_eq, unscoped_eq, KI_split]; rfl)) $$ [Hos Hus]
  · isplitl [Hos] <;> iassumption
  imod (show iprop((bigSep Finset.univ fun i : KI => semVal (icell (c, i)) 0) ∗ bigSep Finset.univ fun i : KI => roundState ER (Rd (ins m)) (icell (c, i)) 0)
      ⊢ (|={Set.univ}=> bigSep Finset.univ fun i : KI => iprop(∃ κ : ℕ, cellInv ER (Rd (ins m)) κ (icell (c, i))) : sProp 𝕄) from by
        rw [← bigSep_sep']
        exact (bigSep_mono fun i _ => (Rounds.body_intro ER (Rd (ins m)) (icell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around -/

/-- The device `j` steps on. -/
def fwd (j : Fin 32) : Dev nD ≃ Dev nD where
  toFun c := (c + j : Fin 32)
  invFun c := (c - j : Fin 32)
  left_inv c := add_sub c j
  right_inv c := sub_add c j

/-- A family of a device's cells, dealt to the devices `e` steps away. -/
theorem deal (e : Fin 32 → (Dev nD ≃ Dev nD)) (T : Fin 32 → Dev nD → sProp 𝕄) :
    (bigSep Finset.univ fun c : Dev nD => bigSep Finset.univ fun j => T j c)
      ⊢ bigSep Finset.univ fun c : Dev nD => bigSep S31 fun j => T j (e j c) := by
  rw [Idealize.SL.BI.bigSep_univ_comm (fun (c : Dev nD) (j : Fin 32) => T j c),
    bigSep_congr (s := Finset.univ) (fun (j : Fin 32) _ => bigSep_univ_equiv (e j) (T j)),
    Idealize.SL.BI.bigSep_univ_comm (fun (j : Fin 32) (c : Dev nD) => T j (e j c))]
  exact bigSep_mono fun c _ => bigSep_subset (Finset.erase_subset _ _)

theorem toks_around : (bigSep Finset.univ fun c : Dev nD => (toks c : sProp 𝕄)) ⊢ bigSep Finset.univ fun c : Dev nD => payToks c := by
  unfold toks payToks
  rw [sepF, sepF, bigSep_congr (s := Finset.univ) (fun (c : Dev nD) _ => kinds _), sepF, sepF, sepF, sepF,
    sepF, sepF, sepF, sepF, sepF, sepF]
  iintro ⟨⟨H1, H2, H3, H4, H5⟩, H6, H7⟩
  isplitl [H1]; · iapply (deal (fun j => (fwd j).symm) (fun j c => dutyTok ER (kcell .ent j c) 0 false)); iexact H1
  isplitl [H2]; · iapply (deal (fun j => Equiv.refl _) (fun j c => dutyTok ER (kcell .rss j c) 0 false)); iexact H2
  isplitl [H3]; · iapply (deal (fun j => fwd j) (fun j c => dutyTok ER (kcell .rsr j c) 0 false)); iexact H3
  isplitl [H4]; · iapply (deal (fun j => Equiv.refl _) (fun j c => dutyTok ER (kcell .ags j c) 0 false)); iexact H4
  isplitl [H5]; · iapply (deal (fun j => fwd j) (fun j c => dutyTok ER (kcell .agr j c) 0 false)); iexact H5
  isplitl [H6]
  · iapply (Entails.of_eq (bigSep_univ_equiv (fwd 1) fun c : Dev nD => (dutyTok ER (barCell c) 0 false : sProp 𝕄))); iexact H6
  · iapply (Entails.of_eq (bigSep_univ_equiv (fwd 1).symm fun c : Dev nD => (dutyTok ER (barCell c) 0 true : sProp 𝕄))); iexact H7

theorem poss_cells (c : Dev nD) : (bigSep Finset.univ fun i : KI => (atPos ER (icell (c, i)) 0 ∅ 0 : sProp 𝕄)) = poss c := KI_split _

theorem regroup :
    (bigSep Finset.univ fun c : Dev nD => iprop((bigSep Finset.univ fun i : KI => iprop(∃ κ : ℕ, cellInv ER (Rd (ins m)) κ (icell (c, i))))
          ∗ (bigSep Finset.univ fun i : KI => iprop(atPos ER (icell (c, i)) 0 ∅ 0 ∗ reached ER (icell (c, i)) 0)) ∗ toks c) : sProp 𝕄)
      ⊢ bigSep Finset.univ (G' m) := by
  rw [sepF, sepF, ← bigSep_univ_prod (fun ci : Dev nD × KI => iprop(∃ κ : ℕ, cellInv ER (Rd (ins m)) κ (icell ci))),
    bigSep_congr (s := Finset.univ) (fun (c : Dev nD) _ => sepF Finset.univ (fun i : KI => (atPos ER (icell (c, i)) 0 ∅ 0 : sProp 𝕄)) (fun i => reached ER (icell (c, i)) 0)),
    sepF, ← bigSep_univ_prod (fun ci : Dev nD × KI => (reached ER (icell ci) 0 : sProp 𝕄)),
    bigSep_congr (s := Finset.univ) (fun (c : Dev nD) _ => poss_cells c)]
  iintro ⟨HI, ⟨Hat, #HR⟩, Htok⟩
  ihave HK := (BI.bigSep_exists_pi Finset.univ (fun (ci : Dev nD × KI) (κ : ℕ) => (cellInv ER (Rd (ins m)) κ (icell ci) : sProp 𝕄))) $$ HI
  icases HK with ⟨%K, #HI⟩
  ihave Htk := (toks_around (F := F)) $$ Htok
  iapply (bigSep_with_persistent (R := recs (ins m) K) (Φ := fun c => iprop(poss c ∗ payToks c)) fun c _ => by
    unfold G' ghost
    iintro ⟨HR, Hp, Ht⟩
    iexists K
    isplitl [HR]; · iexact HR
    isplitl [Hp] <;> iassumption)
  isplitr
  · iapply (Entails.of_eq (show iprop(bigSep Finset.univ (fun ci : Dev nD × KI => cellInv ER (Rd (ins m)) (K ci) (icell ci))
      ∗ bigSep Finset.univ (fun ci : Dev nD × KI => reached ER (icell ci) 0)) = recs (ins m) K from (sepF _ _ _).symm))
    isplitl
    · iexact HI
    · iexact HR
  · iapply (Entails.of_eq (sepF Finset.univ (fun c : Dev nD => poss (F := F) c) payToks).symm)
    isplitl [Hat] <;> iassumption

/-- Own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- One debt of every device, at cell `i'` of the device `e` away, counted at cell `i` of device `c`. -/
theorem sum_at (e : Dev nD ≃ Dev nD) (i i' : KI) (n : ℕ) (c : Dev nD) :
    (∑ d : Dev nD, (tallyAt (icell (e d, i')) () n : CellTallies nD τ sig Unit) (icell (c, i)) ()) = if i = i' then n else 0 := by
  have h : ∀ d : Dev nD, (tallyAt (icell (e d, i')) () n : CellTallies nD τ sig Unit) (icell (c, i)) ()
      = if d = e.symm c then (if i = i' then n else 0) else 0 := fun d => by
    rw [tallyAt_apply]
    by_cases hd : d = e.symm c
    · subst hd
      rw [if_pos rfl, Equiv.apply_symm_apply]
      by_cases hi : i = i'
      · subst hi; rw [if_pos ⟨rfl, rfl⟩, if_pos rfl]
      · rw [if_neg hi, if_neg fun h => hi (congrArg Prod.snd (icell_inj h.1))]
    · rw [if_neg hd, if_neg fun h => hd (by rw [Equiv.eq_symm_apply]; exact (congrArg Prod.fst (icell_inj h.1)).symm)]
  rw [Finset.sum_congr rfl fun d _ => h d, Finset.sum_ite_eq' Finset.univ (e.symm c), if_pos (Finset.mem_univ _)]

/-- A list of debts of every device, counted at cell `i` of device `c`. -/
theorem sum_owedL (t : Dev nD → Fin 32 → CellTallies nD τ sig Unit) (base : Dev nD → CellTallies nD τ sig Unit)
    (e : Fin 32 → (Dev nD ≃ Dev nD)) (k : Kd) (n : ℕ) (ht : ∀ d j, t d j = tallyAt (icell (e j d, .inl (k, j))) () n) (i : KI) (c : Dev nD) :
    ∀ l : List (Fin 32), l.Nodup → (∑ d : Dev nD, owedL (t d) (base d) l (icell (c, i)) ())
      = (∑ d : Dev nD, base d (icell (c, i)) ()) + if ∃ j ∈ l, i = .inl (k, j) then n else 0
  | [], _ => by
    rw [if_neg (fun ⟨j, hj, _⟩ => List.not_mem_nil hj), Nat.add_zero]
    refine Finset.sum_congr rfl fun d _ => ?_
    unfold owedL
    exact Eq.refl (base d (icell (c, i)) ())
  | j :: l, hl => by
    have ih := sum_owedL t base e k n ht i c l (List.nodup_cons.mp hl).2
    have hs : ∀ d : Dev nD, owedL (t d) (base d) (j :: l) (icell (c, i)) ()
        = owedL (t d) (base d) l (icell (c, i)) () + (tallyAt (icell (e j d, .inl (k, j))) () n : CellTallies nD τ sig Unit) (icell (c, i)) () := fun d => by
      rw [← ht d j]
      show (owedL (t d) (base d) l + t d j) (icell (c, i)) () = _
      rw [Pi.add_apply, Finsupp.add_apply]
    rw [Finset.sum_congr rfl fun d _ => hs d, Finset.sum_add_distrib, ih, sum_at, Nat.add_assoc]
    refine congrArg (HAdd.hAdd _) ?_
    by_cases hi : i = .inl (k, j)
    · subst hi
      rw [if_neg (by rintro ⟨j', hj', h⟩; cases h; exact (List.nodup_cons.mp hl).1 hj'), if_pos rfl, if_pos ⟨j, List.mem_cons_self, rfl⟩, Nat.zero_add]
    · rw [if_neg hi, Nat.add_zero]
      refine if_congr ⟨fun ⟨j', h1, h2⟩ => ⟨j', List.mem_cons_of_mem _ h1, h2⟩, fun ⟨j', h1, h2⟩ => ?_⟩ rfl rfl
      rcases List.mem_cons.mp h1 with rfl | h1
      · exact absurd h2 hi
      · exact ⟨j', h1, h2⟩

/-- What all the devices owe cell `i` of device `c`. -/
theorem owed_sum (i : KI) (c : Dev nD) : (∑ d : Dev nD, O₀ d (icell (c, i)) ())
    = ((((if ∃ j ∈ agJ, i = .inl (.agr, j) then N else 0) + (if ∃ j ∈ rsAllJ, i = .inl (.rsr, j) then N else 0))
      + (if i = .inr () then 1 else 0)) + (if i = .inr () then 1 else 0)) + (if ∃ j ∈ stepsJ, i = .inl (.ent, j) then 1 else 0) := by
  unfold O₀ Oent
  rw [sum_owedL tEnt Obar (fun j => (fwd j).symm) .ent 1 (fun d j => rfl) i c stepsJ (by decide)]
  have hb : ∀ d : Dev nD, Obar d (icell (c, i)) () = (Ors d rsAllJ (icell (c, i)) ()
      + (tallyAt (icell ((fwd 1).symm d, .inr ())) () 1 : CellTallies nD τ sig Unit) (icell (c, i)) ())
      + (tallyAt (icell (fwd 1 d, .inr ())) () 1 : CellTallies nD τ sig Unit) (icell (c, i)) () := fun d => rfl
  rw [Finset.sum_congr rfl fun d _ => hb d, Finset.sum_add_distrib, Finset.sum_add_distrib, sum_at, sum_at]
  unfold Ors
  rw [sum_owedL tRs (fun d => Oag d agJ) (fun j => fwd j) .rsr N (fun d j => rfl) i c rsAllJ (by decide)]
  unfold Oag
  rw [sum_owedL tAg (fun _ => 0) (fun j => fwd j) .agr N (fun d j => rfl) i c agJ (by decide)]
  have hz : (∑ d : Dev nD, (0 : CellTallies nD τ sig Unit) (icell (c, i)) ()) = 0 := Finset.sum_eq_zero fun d _ => rfl
  rw [hz, Nat.zero_add]

theorem mem_steps : ∀ j : Fin 32, j ≠ 0 → j ∈ stepsJ := by decide
theorem mem_rs : ∀ j : Fin 32, j ≠ 0 → j ∈ rsAllJ := by decide
theorem mem_ag : ∀ j : Fin 32, j ≠ 0 → j ∈ agJ := by decide

/-- A cell's launch credit from what is owed it. -/
theorem credit_of (i : KI) (c : Dev nD) (n : ℕ) (h : (∑ d : Dev nD, O₀ d (icell (c, i)) ()) = n) :
    tallyOn (icell (c, i)) (launchCredit (Pipeline.owing O₀) 0 (icell (c, i))) = (tallyAt (icell (c, i)) () n : CellTallies nD τ sig Unit) := by
  unfold tallyAt; refine congrArg _ (Finsupp.ext fun u => ?_); cases u
  rw [Pipeline.launchCredit_owing, Finsupp.single_eq_same, h]

theorem credit_ent (j : Fin 32) (hj : j ≠ 0) (c : Dev nD) : (∑ d : Dev nD, O₀ d (icell (c, .inl (.ent, j))) ()) = kamt .ent := by
  rw [owed_sum, if_neg (by simp), if_neg (by simp), if_neg (by simp), if_pos ⟨j, mem_steps j hj, rfl⟩]
  simp only [Nat.add_zero, Nat.zero_add]
  show 1 = 1; exact Eq.refl 1
theorem credit_rsr (j : Fin 32) (hj : j ≠ 0) (c : Dev nD) : (∑ d : Dev nD, O₀ d (icell (c, .inl (.rsr, j))) ()) = kamt .rsr := by
  rw [owed_sum, if_neg (by simp), if_pos ⟨j, mem_rs j hj, rfl⟩, if_neg (by simp), if_neg (by simp)]
  simp only [Nat.add_zero, Nat.zero_add, kamt]
theorem credit_agr (j : Fin 32) (hj : j ≠ 0) (c : Dev nD) : (∑ d : Dev nD, O₀ d (icell (c, .inl (.agr, j))) ()) = kamt .agr := by
  rw [owed_sum, if_pos ⟨j, mem_ag j hj, rfl⟩, if_neg (by simp), if_neg (by simp), if_neg (by simp)]
  simp only [Nat.add_zero, Nat.zero_add, kamt]
theorem credit_bar (c : Dev nD) : (∑ d : Dev nD, O₀ d (icell (c, .inr ())) ()) = 2 := by
  rw [owed_sum, if_neg (by simp), if_neg (by simp), if_pos rfl, if_neg (by simp)]

/-- The launch's credits of device `c`. -/
theorem creds_intro (c : Dev nD) : (Pipeline.launchCred O₀ c : sProp 𝕄) ⊢ creds c := by
  have hinj : Function.Injective fun i : KI => (icell (c, i)).2 := fun i i' h => by
    have h2 : icell (c, i) = icell (c, i') := Prod.ext rfl h
    exact congrArg Prod.snd (icell_inj h2)
  have hone : ∀ (k : Kd), (∀ j : Fin 32, j ≠ 0 → (∑ d : Dev nD, O₀ d (icell (c, .inl (k, j))) ()) = kamt k) →
      (bigSep Finset.univ fun j : Fin 32 => (cred (tallyOn (icell (c, .inl (k, j))) (launchCredit (Pipeline.owing O₀) 0 (icell (c, .inl (k, j))))) : sProp 𝕄))
        ⊢ crK c k := fun k hk => by
    unfold crK
    refine (bigSep_subset (Finset.erase_subset 0 _)).trans (Entails.of_eq (bigSep_congr fun j hj => ?_))
    rw [credit_of _ c _ (hk j (Finset.mem_erase.mp hj).1)]; rfl
  unfold Pipeline.launchCred
  refine (bigSep_subset (t := Finset.univ.map ⟨_, hinj⟩) (Finset.subset_univ _)).trans ?_
  rw [bigSep_map]
  show (bigSep Finset.univ fun i : KI => (cred (tallyOn (icell (c, i)) (launchCredit (Pipeline.owing O₀) 0 (icell (c, i)))) : sProp 𝕄)) ⊢ creds c
  rw [KI_split, kinds, credit_of _ c _ (credit_bar c)]
  unfold creds
  iintro ⟨⟨H1, -, H3, -, H5⟩, HB⟩
  isplitl [HB]; · iexact HB
  isplitl [H1]; · iapply (hone .ent fun j hj => credit_ent j hj c); iexact H1
  isplitl [H3]; · iapply (hone .rsr fun j hj => credit_rsr j hj c); iexact H3
  iapply (hone .agr fun j hj => credit_agr j hj c); iexact H5

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start (ins m) c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

theorem phi0_intro (c : Dev nD) :
    iprop(start (ins m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (ins m) c from rfl, scopedRest0_eq]
  unfold Φ₀
  iintro ⟨Hs, -, Hp, Hb⟩
  isplitl [Hs]; · iexact Hs
  isplitl [Hp] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (ins m) c from rfl, scopedRest0_eq, ownSems_eq, unscoped_eq]
  unfold Φ₁ zeros
  iintro ⟨Hp, Hb, Hz, HzB⟩
  isplitl [HzB]; · iexact HzB
  isplitl [Hz]; · iexact Hz
  isplitl [Hp]
  · iexists _; iexact Hp
  · iexists _; iexact Hb

theorem stage_lv : ∀ (w : Fin 3) (s : Fin (spec0 w).nbuf), lv (((0 : Dev nD) : Thread nD τ), .dma ((spec0 w).sem s)) () ≤ 0 := by decide

theorem waits (c : Dev nD) : (levAts L lv : sProp 𝕄) ⊢ Pipeline.cellsWaits cfgs (dats m ρ) () 0 c :=
  Pipeline.cellsWaits_intro cfgs (dats m ρ) () 0 c fun w s t =>
    mayWait_of (n := 0) c _ _ (by
      rcases t with ⟨_ | _, ht⟩
      · exact abv_Oent c stepsJ
      · exact abv_zero 0) (stage_lv w s)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every execution of @main on the 32 devices terminates, with the arrays at the
    computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => main_chain c)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start (ins m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The table's array holds what it held. -/
theorem final_tab (c : Dev nD) : finalA m ρ c (0 : Fin 3) = m ((c : Thread nD τ).loc main_arg0) :=
  (dats (F := F) m ρ 0 c).arrAt_in (0 : Fin 3) rfl _
/-- The ids' array holds what it held. -/
theorem final_idx (c : Dev nD) : finalA m ρ c (1 : Fin 3) = m ((c : Thread nD τ).loc main_arg1) :=
  (dats (F := F) m ρ 0 c).arrAt_in (1 : Fin 3) rfl _

end Cert.KProof

end
-- ==== Proof.Frames.lean ====
/-
# The frames, and the result array

What the run leaves on every device, read buffer by buffer; the bit-level program's frame from the same run.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent
public import Idealize.ShloMosaic.Lib.Pipeline.Value

@[expose] public section

noncomputable section

namespace Cert.KProof

open Cert.KernelIdeal Cert.KernelIdeal.Gen Idealize.ShloMosaic Idealize.ShloMosaic.TcCoe Idealize.SL.Sem

attribute [local instance] Cert.KernelIdeal.Gen.facts Cert.Kernel.Gen.facts Cert.ReferenceIdeal.Gen.facts

variable {F : FTy → Type} [FloatOps F]
variable (m : (ℓ : Loc nD τ sig) → Buf (Elt F) ℓ) (ρ : Dev nD → PrngReg)

/-- Every index of the result lies in the one flushed block. -/
theorem out_cover (i : S512x256.Idx) : ∃ t : Fin cfg0.N, (cfg0.win 2).flush t = true ∧ i ∈ ((cfg0.win 2).blk t).view.set := by
  refine ⟨t0_0, flush0_2 _, ?_⟩
  show i ∈ ((View.whole main_v1).slice (win0_2.rect t0_0)).set
  rw [View.set_slice_whole, Rect.mem_set_unit]
  intro a
  have h : ∀ a : Fin 2, win0_2.index t0_0 a * win0_2.size a = 0 ∧ win0_2.xsize (grid0.coords t0_0) a = S512x256.size a := by decide +kernel
  show win0_2.index t0_0 a * win0_2.size a ≤ (i a : Nat) ∧ (i a : Nat) < win0_2.index t0_0 a * win0_2.size a + win0_2.xsize (grid0.coords t0_0) a
  rw [(h a).1, (h a).2]
  exact ⟨Nat.zero_le _, by rw [Nat.zero_add]; exact (i a).isLt⟩

/-- The result's array ends with the sums the run gathers. -/
theorem final_out (c : Dev nD) : finalA m ρ c (2 : Fin 3) = outFinal (ins m) :=
  (dats m ρ 0 c).arrAt_eq_of_cover 2 (outFinal (ins m)) (fun t _ => by
    obtain rfl := fin_N0 t
    unfold Pipeline.Dat.flushed
    rw [after_out]
    funext j
    show outFinal (ins m) _ = outFinal (ins m) _
    refine congrArg (outFinal (ins m)) (funext fun a => Fin.ext ?_)
    have h : ∀ a : Fin 2, win0_2.index t0_0 a * win0_2.size a = 0 := by decide +kernel
    show (j a : Nat) = win0_2.index t0_0 a * win0_2.size a + 1 * (j a : Nat)
    rw [h a, Nat.zero_add, Nat.one_mul]) out_cover

/-- What a final state of the run holds on device `c`. -/
theorem read_final (r : PUnit × MemSt nD τ sig (Elt F)) (h : QC m ρ r) (c : Dev nD) :
    r.2.mem ((c : Thread nD τ).loc main_v1) = outFinal (ins m)
      ∧ r.2.mem ((c : Thread nD τ).loc main_arg0) = m ((c : Thread nD τ).loc main_arg0)
      ∧ r.2.mem ((c : Thread nD τ).loc main_arg1) = m ((c : Thread nD τ).loc main_arg1) :=
  ⟨(h c 2).trans (final_out m ρ c), (h c 0).trans (final_tab m ρ c), (h c 1).trans (final_idx m ρ c)⟩

/-- The run at any float values: the arguments and the counters end as they began. -/
theorem frame_any : θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  (θ_run (defs (F := F)) _ _).mono (fun r h => ⟨fun c => (read_final m ρ r h.1 c).2, h.2⟩) (run_main (F := F) m ρ)

/-- The two programs have the same body table. -/
theorem same_bodies : Cert.Kernel.defs₀ (F := F) = Cert.KernelIdeal.defs₀ (F := F) := by
  funext pr ℓ a
  cases pr with
  | tc =>
    obtain rfl : ℓ = (0 : Fin 1) := Subsingleton.elim (α := Fin 1) _ _
    obtain ⟨t, s⟩ := a
    rfl
  | scScalar _ => rfl
  | scVector _ _ => rfl

/-- So they have the same label table. -/
theorem same_defs : Cert.Kernel.defs (F := F) = Cert.KernelIdeal.defs (F := F) := by
  unfold Cert.Kernel.defs
  rw [same_bodies]
  rfl

/-- The program as printed runs, its arguments and its counters ending as they began. -/
theorem frame_kernel : Cert.quiescent_Kernel := fun m ρ _ => by
  rw [same_defs]
  exact frame_any (F := Bits) m ρ

/-- The same program at the exact reading. -/
theorem frame_ideal : Cert.quiescent_KernelIdeal := fun m ρ _ => frame_any (F := Ideal) m ρ

/-- The reference runs, its arguments and its counters ending as they began. -/
theorem frame_reference : Cert.quiescent_ReferenceIdeal := fun m ρ _ =>
  (θ_run (Cert.ReferenceIdeal.defs (F := Ideal)) _ _).mono (fun r h => ⟨fun c => (h c).2, sem_eq_zero_of_no_sems rfl r.2⟩)
    (Cert.ReferenceIdeal.Value.run (F := Ideal) m ρ)

end Cert.KProof

end
-- ==== Proof.Value.lean ====
/-
# The result at the exact reading

With exact sums the result's row `i` is the table's row at the id `i`: the one-hot matrix of a block against a device's
part of the table is that part's row where the id lies in the part and zero where it does not, so of the 32 partial
rows that are summed one is the table's row and the others are zero.
-/
module

public import proofs.«01_k».proof.Proof.Geom
public import Idealize.ShloMosaic.Lib.ValueIdx
public import Idealize.ShloMosaic.Lib.MatmulPlain
public import Idealize.ShloMosaic.Lib.StableHlo.Predicate
public import Idealize.ShloMosaic.Lib.Pipeline.Value
public import Idealize.ShloMosaic.PureOps.Ideal.Laws

@[expose] public section

set_option maxRecDepth 16384

noncomputable section

namespace Cert.KProof

open Cert.KernelIdeal Cert.KernelIdeal.Gen Idealize.ShloMosaic Idealize.ShloMosaic.TcCoe Idealize.ShloMosaic.ValueIdx
open Idealize.ShloMosaic.StableHlo.Predicate
open scoped BigOperators

/-! ## One block: the one-hot product -/

/-- An id's distance to the first row of device `d`'s part is the column `l` just when the id is that row. -/
theorem word_hit {n d l : Nat} (hn : n < 65536) (hd : d < 32) (hl : l < 2048) :
    BitVec.ofNat 32 l = BitVec.ofNat 32 n - BitVec.ofNat 32 d * 2048#32 ↔ n = 2048 * d + l := by
  rw [← BitVec.toNat_inj]
  simp only [BitVec.toNat_sub, BitVec.toNat_mul, BitVec.toNat_ofNat]
  omega

/-- The bit of the one-hot matrix at column `l` of a row whose id is `n`. -/
theorem hot_bit {n d l : Nat} (hn : n < 65536) (hd : d < 32) (hl : l < 2048) :
    IntOp.andi (IntOp.cmpi .eq (BitVec.ofNat 32 l) (BitVec.ofNat 32 n - BitVec.ofNat 32 d * 2048#32))
      (IntOp.andi (IntOp.cmpi .sge (BitVec.ofNat 32 n - BitVec.ofNat 32 d * 2048#32) 0#32)
        (IntOp.cmpi .slt (BitVec.ofNat 32 n - BitVec.ofNat 32 d * 2048#32) 2048#32))
      = if n = 2048 * d + l then 1#1 else 0#1 := by
  by_cases h : n = 2048 * d + l
  · rw [if_pos h, ← (word_hit hn hd hl).2 h]
    have e1 : IntOp.cmpi .eq (BitVec.ofNat 32 l) (BitVec.ofNat 32 l) = 1#1 := cmpi_eq_iff.2 rfl
    have hb : (BitVec.ofNat 32 l).toNat = l := by rw [BitVec.toNat_ofNat]; omega
    have e2 : IntOp.cmpi .sge (BitVec.ofNat 32 l) 0#32 = 1#1 :=
      (sge_iff_toNat (by omega) (by decide)).2 (Nat.zero_le _)
    have e3 : IntOp.cmpi .slt (BitVec.ofNat 32 l) 2048#32 = 1#1 :=
      (slt_iff_toNat (by omega) (by decide)).2 (by rw [hb]; exact hl)
    rw [e1, e2, e3]; rfl
  · rw [if_neg h, eq_zero_of_ne_one (fun e => h ((word_hit hn hd hl).1 (cmpi_eq_iff.1 e)))]
    exact BitVec.zero_and

/-- A bit read as an exact number. -/
theorem bit_value (b : BitVec 1) : (((BitVec.setWidth 32 b).toInt : ℝ) : EReal) = if b = 1#1 then 1 else 0 := by
  rcases BitVec.eq_zero_or_eq_one b with h | h <;> subst h <;> simp

/-- A block's row is the part's row at the id, or zero where the id is in another part. -/
theorem blockVal_apply (d : Fin 32) (tab : Vec Ideal S2048x256 .f32) (ids : Vec Ideal S128x1 .i32) (r : Fin 128) (k : Fin 256)
    (n : Nat) (hn : n < 65536) (hid : ids (ix2 r (0 : Fin 1)) = BitVec.ofNat 32 n) :
    blockVal (F := Ideal) (BitVec.ofNat 32 d.val) tab ids (ix2 r k)
      = if n / 2048 = d.val then tab (ix2 (⟨n % 2048, Nat.mod_lt _ (by decide)⟩ : Fin 2048) k) else 0 := by
  have hd := d.isLt
  unfold blockVal
  simp only [shapeCast_self]
  show FloatOps.matmul (DotDims.plain 128 2048 256) none _ _ _ (ix2 r k) = _
  rw [Ideal.matmul_plain_apply]
  have hterm : ∀ l : Fin 2048, ∀ b : BitVec 1, b = (if n = 2048 * d.val + l.val then 1#1 else 0#1) →
      (((BitVec.setWidth 32 b).toInt : ℝ) : EReal) * tab (ix2 l k) = if n = 2048 * d.val + l.val then tab (ix2 l k) else 0 := by
    rintro l b rfl
    rw [bit_value]
    by_cases h : n = 2048 * d.val + l.val
    · simp [h]
    · simp [h]
  have hsum : ∀ f : Fin 2048 → EReal, (∀ l, f l = if n = 2048 * d.val + l.val then tab (ix2 l k) else 0) →
      ∑ l, f l = if n / 2048 = d.val then tab (ix2 (⟨n % 2048, Nat.mod_lt _ (by decide)⟩ : Fin 2048) k) else 0 := by
    intro f hf
    rw [Finset.sum_congr rfl fun l _ => hf l]
    by_cases h : n / 2048 = d.val
    · rw [if_pos h, Finset.sum_eq_single (⟨n % 2048, Nat.mod_lt _ (by decide)⟩ : Fin 2048)]
      · rw [if_pos (by show n = 2048 * d.val + n % 2048; omega)]
      · intro l _ hl
        refine if_neg fun e => hl (Fin.ext ?_)
        show l.val = n % 2048
        omega
      · exact fun e => absurd (Finset.mem_univ _) e
    · rw [if_neg h]
      exact Finset.sum_eq_zero fun l _ => if_neg fun e => h (by have := l.isLt; omega)
  rw [show ∀ x : EReal, (constant (F := Ideal) S128x256 .f32 0x00000000#32) (ix2 r k) + x = x from fun x => by
    rw [ValueIdx.constant_apply, Ideal.ofBits_zero_f32, zero_add]]
  refine hsum _ fun l => hterm l _ ?_
  rw [← hot_bit hn hd l.isLt, ← hid]
  show IntOp.andi (IntOp.cmpi .eq (iota .tc S128x2048 32 [1] iota_S128x2048_d1_w32 (ix2 r l)) (broadcastTo S128x2048 _ broadcasts_S128x1_S128x2048 (ix2 r l)))
    (broadcastTo S128x2048 _ broadcasts_S128x1_S128x2048 (ix2 r l)) = _
  rw [iota_single_apply, broadcastTo_apply _ _ _ (ix2 r (0 : Fin 1)) (fun a => by fin_cases a <;> rfl),
    broadcastTo_apply _ _ _ (ix2 r (0 : Fin 1)) (fun a => by fin_cases a <;> rfl)]
  rfl

/-! ## The tree of sums -/

/-- One level of the tree keeps the sum at every index. -/
theorem pairUp_sum (l : List (FVec Ideal S16x256 .f32)) (x : S16x256.Idx) :
    ((pairUp l).map fun v => (v x : EReal)).sum = (l.map fun v => (v x : EReal)).sum := by
  induction l using pairUp.induct with
  | case1 a b l ih =>
    rw [pairUp, List.map_cons, List.sum_cons, ih, List.map_cons, List.sum_cons, List.map_cons, List.sum_cons, ← add_assoc]
    rfl
  | case2 l h => rw [pairUp]; exact h

/-- Five levels that end in one sum end in the sum of the leaves. -/
theorem tree_one (l : List (FVec Ideal S16x256 .f32)) (h : pairUp (pairUp (pairUp (pairUp (pairUp l)))) = [treeSum l]) (x : S16x256.Idx) :
    (treeSum l x : EReal) = (l.map fun v => (v x : EReal)).sum := by
  have h3 := congrArg (fun l : List (FVec Ideal S16x256 .f32) => (l.map fun v => (v x : EReal)).sum) h
  rw [pairUp_sum, pairUp_sum, pairUp_sum, pairUp_sum, pairUp_sum, List.map_cons, List.map_nil, List.sum_cons, List.sum_nil, add_zero] at h3
  exact h3.symm

/-- The tree over 32 leaves is their sum. -/
theorem tree_sum (f : Fin 32 → FVec Ideal S16x256 .f32) (x : S16x256.Idx) :
    (treeSum (slots.map f) x : EReal) = ∑ j, (f j x : EReal) := by
  refine (tree_one (slots.map f) rfl x).trans ?_
  rw [show slots = List.finRange 32 by decide, List.map_map, Fin.sum_univ_def]
  rfl

/-! ## The chunks and the total -/

variable (X : Ins Ideal)

/-- A device's part of the table, as exact numbers by index. -/
def tabAt (d : Dev nD) : S2048x256.Idx → EReal := X.tab d

/-- A device's ids, by index. -/
def idxAt (d : Dev nD) : IVec S1024x1 32 := X.idx d

/-- Row `p` of chunk `j` of a device's partial rows is row `16 (j mod 8) + p` of block `j / 8`. -/
theorem chunkVal_apply (d : Dev nD) (j : Fin 32) (p : Fin 16) (k : Fin 256) :
    chunkVal X d j (ix2 p k) = parBlk X d (⟨j.val / 8, by omega⟩ : Fin 4) (ix2 (⟨16 * (j.val % 8) + p.val, by omega⟩ : Fin 128) k) := by
  rw [← read_parFinal]
  show parFinal X d _ = parFinal X d _
  refine congrArg (parFinal X d) (funext fun a => Fin.ext ?_)
  fin_cases a
  · show 16 * j.val + 1 * p.val = 128 * (j.val / 8) + 1 * (16 * (j.val % 8) + p.val)
    omega
  · rfl

/-- The id of row `r` of block `b` on device `d`. -/
theorem idsBlk_apply (d : Dev nD) (b : Fin 4) (r : Fin 128) :
    idsBlk X d b (ix2 r (0 : Fin 1)) = idxAt X d (ix2 (⟨16 * d.val + 128 * b.val + r.val, by have := d.isLt; have : d.val < 32 := d.isLt; omega⟩ : Fin 1024) (0 : Fin 1)) := by
  show X.idx d _ = X.idx d _
  refine congrArg (X.idx d) (funext fun a => Fin.ext ?_)
  fin_cases a
  · show 16 * d.val + 128 * b.val + 1 * r.val = 16 * d.val + 128 * b.val + r.val
    omega
  · rfl

/-- Every device's ids name rows of the table, `N i` at row `i` of the result, twice over. -/
def IdsAre (N : Fin 512 → Nat) : Prop :=
  ∀ (d : Dev nD) (q : Fin 1024), N (⟨q.val % 512, Nat.mod_lt _ (by decide)⟩ : Fin 512) < 65536 ∧
    idxAt X d (ix2 q (0 : Fin 1)) = BitVec.ofNat 32 (N (⟨q.val % 512, Nat.mod_lt _ (by decide)⟩ : Fin 512))

/-- Subtraction around the ring. -/
theorem ring_sub (e j : Fin 32) : (e - j : Fin 32).val + j.val = e.val ∨ (e - j : Fin 32).val + j.val = e.val + 32 := by
  revert e j; decide +kernel

variable {X} {N : Fin 512 → Nat} (hX : IdsAre X N)
include hX

/-- The chunk that device `e - j` sends to device `e`, at a row: the table's row if it is in that device's part. -/
theorem chunk_hit (e j : Fin 32) (p : Fin 16) (k : Fin 256) :
    (chunkVal X (e - j : Fin 32) j (ix2 p k) : EReal)
      = if N ⟨16 * e.val + p.val, by omega⟩ / 2048 = (e - j : Fin 32).val
        then tabAt X (e - j : Fin 32) (ix2 (⟨N ⟨16 * e.val + p.val, by omega⟩ % 2048, Nat.mod_lt _ (by decide)⟩ : Fin 2048) k) else 0 := by
  rw [chunkVal_apply]
  unfold parBlk
  rw [myW_eq]
  have hr := ring_sub e j
  generalize (e - j : Fin 32) = d at hr ⊢
  have hd := d.isLt
  have hq : 16 * d.val + 128 * (j.val / 8) + (16 * (j.val % 8) + p.val) < 1024 := by omega
  have hi := hX d ⟨16 * d.val + 128 * (j.val / 8) + (16 * (j.val % 8) + p.val), hq⟩
  have hm : (16 * d.val + 128 * (j.val / 8) + (16 * (j.val % 8) + p.val)) % 512 = 16 * e.val + p.val := by omega
  simp only [hm] at hi
  exact blockVal_apply d (X.tab d) (idsBlk X d (⟨j.val / 8, by omega⟩ : Fin 4)) (⟨16 * (j.val % 8) + p.val, by omega⟩ : Fin 128) k _ hi.1
    ((idsBlk_apply X d _ _).trans hi.2)

/-- Device `e`'s sum at a row is the table's row at the row's id. -/
theorem total_apply (e : Fin 32) (p : Fin 16) (k : Fin 256) (d : Dev nD)
    (hd : N ⟨16 * e.val + p.val, by omega⟩ / 2048 = d.val) :
    (total X e (ix2 p k) : EReal) = tabAt X d (ix2 (⟨N ⟨16 * e.val + p.val, by omega⟩ % 2048, Nat.mod_lt _ (by decide)⟩ : Fin 2048) k) := by
  unfold total
  rw [tree_sum, Finset.sum_congr rfl fun j _ => chunk_hit hX e j p k, Finset.sum_eq_single (e - d : Fin 32)]
  · have h : (e - (e - d : Fin 32) : Fin 32) = d := sub_sub_cancel e d
    rw [h, if_pos hd]
  · intro j _ hj
    refine if_neg fun h => hj ?_
    have h' : (e - j : Fin 32) = d := Fin.ext (h.symm.trans hd)
    rw [← h']
    exact (sub_sub_cancel e j).symm
  · exact fun h => absurd (Finset.mem_univ _) h

/-- The result at a row is the table's row at the row's id. -/
theorem outFinal_apply (i : Fin 512) (k : Fin 256) (d : Dev nD) (hd : N i / 2048 = d.val) :
    (outFinal X (ix2 i k) : EReal) = tabAt X d (ix2 (⟨N i % 2048, Nat.mod_lt _ (by decide)⟩ : Fin 2048) k) := by
  have hi := i.isLt
  have hs : (⟨16 * (i.val / 16) + i.val % 16, by omega⟩ : Fin 512) = i := Fin.ext (by show 16 * (i.val / 16) + i.val % 16 = i.val; omega)
  have h := total_apply hX (⟨i.val / 16, by omega⟩ : Fin 32) (⟨i.val % 16, by omega⟩ : Fin 16) k d (by simp only [hs]; exact hd)
  simp only [hs] at h
  rw [← h, ← read_outFinal]
  show outFinal X _ = outFinal X _
  refine congrArg (outFinal X) (funext fun a => Fin.ext ?_)
  fin_cases a
  · show i.val = 16 * (i.val / 16) + 1 * (i.val % 16)
    omega
  · show k.val = 0 + 1 * k.val
    omega

end Cert.KProof

end
-- ==== Proof.Exact.lean ====
/-
# The kernel against the reference

At the exact reading, with the ids as the call takes them, every device's result is the reference's: the table's row at
each id.
-/
module

public import proofs.«01_k».proof.Defs
public import proofs.«01_k».proof.Proof.Frames
public import proofs.«01_k».proof.Proof.Value
public import proofs.«01_k».proof.Proof.Gen.Pre_ids_in_table_KernelIdeal
public import proofs.«01_k».proof.Proof.Gen.Pre_ids_in_table_ReferenceIdeal
public import Idealize.ShloMosaic.Lib.ReduceAll
public import Idealize.ShloMosaic.Lib.WordArith

@[expose] public section

set_option maxRecDepth 16384

noncomputable section

namespace Cert.KProof

open Idealize.ShloMosaic Idealize.ShloMosaic.TcCoe Idealize.ShloMosaic.ValueIdx Idealize.SL.Sem
open Idealize.ShloMosaic.StableHlo.Predicate

attribute [local instance] Cert.KernelIdeal.Gen.facts Cert.ReferenceIdeal.Gen.facts
  Cert.Pre_ids_in_table_KernelIdeal.Gen.facts

/-! ## The reference's gather -/

/-- The conditions on the gather of whole rows. -/
abbrev RowsWF (M C B : Nat) : Prop := GatherDims.WF ⟨2, ![M, C]⟩ ⟨2, ![B, 1]⟩ ⟨2, ![B, C]⟩ [1] [0] [] [0] [] 1 ![1, C]

/-- The gather of whole rows of an `M` by `C` table, one for each of `B` row numbers. -/
abbrev rowsDims {M C B : Nat} (wf : RowsWF M C B) : GatherDims ⟨2, ![M, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- The gather of rows at an index: the table at the row number there, if it is the number of a row. -/
theorem gather_rows {M C B : Nat} {α : Type} (wf : RowsWF M C B) (x : (⟨2, ![M, C]⟩ : Shape).Idx → α) (idx : IVec ⟨2, ![B, 1]⟩ 32)
    (i : Fin B) (k : Fin C) (n : Fin M) (hn : (idx (ix2 i (0 : Fin 1))).toInt = n.val) :
    Host.gather (rowsDims wf) x idx (ix2 i k) = x (ix2 n k) := by
  unfold Host.gather
  refine congrArg x (funext fun a => Fin.ext ?_)
  show (rowsDims wf).start (ix2 i k) idx a + (rowsDims wf).batchCoord (ix2 i k) a + (rowsDims wf).offCoord (ix2 i k) a = _
  rw [GatherDims.batchCoord_eq_zero _ _ _ List.not_mem_nil, Nat.add_zero]
  fin_cases a
  · have h0 : (0 : Fin 2) ∈ (rowsDims wf).startIndexMap := List.mem_singleton.mpr rfl
    show (rowsDims wf).start (ix2 i k) idx (0 : Fin 2) + (rowsDims wf).offCoord (ix2 i k) (0 : Fin 2) = n.val
    rw [GatherDims.offCoord_eq_zero _ _ _ (fun h => ((GatherDims.mem_sKept _ _).mp h).1 (List.mem_singleton.mpr rfl)), Nat.add_zero]
    unfold GatherDims.start
    rw [dif_pos h0]
    have hs : (rowsDims wf).siIdx (ix2 i k) ⟨List.idxOf (0 : Fin 2) (rowsDims wf).startIndexMap, List.idxOf_lt_length_iff.2 h0⟩
        = ix2 i (0 : Fin 1) := by
      funext b
      refine Fin.ext ?_
      fin_cases b <;> rfl
    rw [hs, hn]
    show min (n.val : Int).toNat (M - 1) = n.val
    have := n.isLt
    omega
  · have h1 : (1 : Fin 2) ∉ (rowsDims wf).startIndexMap := fun h => absurd (congrArg Fin.val (List.mem_singleton.mp h)) Nat.one_ne_zero
    show (rowsDims wf).start (ix2 i k) idx (1 : Fin 2) + (rowsDims wf).offCoord (ix2 i k) (1 : Fin 2) = k.val
    unfold GatherDims.start
    rw [dif_neg h1, Nat.zero_add]
    rfl

/-- The number a row of the result is looked up at: the id's, as it is not negative. -/
theorem ref_id (v : IVec ⟨2, ![1024, 1]⟩ 32) (i : Fin 512) (n : Nat) (hn : n < 65536)
    (hv : v (ix2 (⟨i.val, by omega⟩ : Fin 1024) (0 : Fin 1)) = BitVec.ofNat 32 n) :
    let w : IVec Cert.ReferenceIdeal.S512 32 := shapeCast Cert.ReferenceIdeal.S512 (extractStridedSlice Cert.ReferenceIdeal.S512x1 ![0, 0] v Cert.ReferenceIdeal.Facts₀.slices_S1024x1_S512x1_0_0) Cert.ReferenceIdeal.Facts₀.shapeCasts_S512x1_S512
    (broadcastInDim Cert.ReferenceIdeal.S512x1 ![0] Cert.ReferenceIdeal.Facts₀.bcast_S512_S512x1_0
      (select (cmpi .slt w (broadcastInDim Cert.ReferenceIdeal.S512 ![] Cert.ReferenceIdeal.Facts₀.bcast_S_S512 (constantI Cert.ReferenceIdeal.S_ 32 0#32)))
        (addi w (broadcastInDim Cert.ReferenceIdeal.S512 ![] Cert.ReferenceIdeal.Facts₀.bcast_S_S512 (constantI Cert.ReferenceIdeal.S_ 32 65536#32))) w)
      (ix2 i (0 : Fin 1))).toInt = n := by
  intro w
  have hw : w (ix1 i) = BitVec.ofNat 32 n := by
    refine (shapeCast_apply (s := Cert.ReferenceIdeal.S512x1) (t := Cert.ReferenceIdeal.S512) _ _ (ix1 i) (ix2 i (0 : Fin 1)) ?_).trans ?_
    · rw [Shape.rowMajor_val_two, Shape.rowMajor_val_one]
      show i.val * 1 + 0 = i.val
      omega
    · exact (extractStridedSlice_apply _ _ _ _ (ix2 (⟨i.val, by omega⟩ : Fin 1024) (0 : Fin 1))
        (fun a => by fin_cases a <;> first | rfl | exact (Nat.zero_add _).symm)).trans hv
  rw [broadcastInDim_apply _ _ _ _ (ix1 i) (fun a => by fin_cases a; rfl), select_apply]
  have hc : cmpi .slt w (broadcastInDim Cert.ReferenceIdeal.S512 ![] Cert.ReferenceIdeal.Facts₀.bcast_S_S512 (constantI Cert.ReferenceIdeal.S_ 32 0#32)) (ix1 i) = 0#1 := by
    refine eq_zero_of_ne_one fun h => ?_
    have h' : IntOp.cmpi .slt (w (ix1 i)) 0#32 = 1#1 := h
    rw [hw] at h'
    exact absurd ((slt_iff_toNat (by rw [BitVec.toNat_ofNat]; omega) (by decide)).1 h') (Nat.not_lt_zero _)
  rw [hc, select_zero, hw, toInt_ofNat_small n (by omega)]

/-! ## The precondition, read -/

/-- The ids as the call takes them: numbers of rows, the second half the first again. -/
theorem pre_read (m : (ℓ : Loc Cert.KernelIdeal.nD Cert.KernelIdeal.τ Cert.KernelIdeal.sig) → Buf (Elt Ideal) ℓ)
    (h : Cert.Pre_KernelIdeal_ids_in_table_KernelIdeal m) (c : Dev Cert.KernelIdeal.nD) :
    let v : IVec ⟨2, ![1024, 1]⟩ 32 := m ((c.tc : Thread Cert.KernelIdeal.nD Cert.KernelIdeal.τ).loc Cert.KernelIdeal.main_arg1)
    (∀ q : Fin 1024, (v (ix2 q (0 : Fin 1))).toNat < 65536)
      ∧ ∀ i : Fin 512, v (ix2 (⟨i.val, by omega⟩ : Fin 1024) (0 : Fin 1)) = v (ix2 (⟨512 + i.val, by omega⟩ : Fin 1024) (0 : Fin 1)) := by
  intro v
  have e : IntOp.andi _ _ = 1#1 := congrFun (h c) (Shape.Idx.first Cert.Pre_ids_in_table_KernelIdeal.Facts.h_S_)
  have e2 : ∀ a b : BitVec 1, IntOp.andi a b = 1#1 → a = 1#1 ∧ b = 1#1 := by decide
  have hsub : Subsingleton Cert.Pre_ids_in_table_KernelIdeal.S_.Idx := ⟨fun a b => funext fun x => x.elim0⟩
  obtain ⟨ea, eb⟩ := e2 _ _ e
  constructor
  · intro q
    have h1 := Host.reduce_andi_all _ _ _ _ _ ea (ix2 q (0 : Fin 1))
    obtain ⟨h2, h3⟩ := e2 _ _ h1
    exact WordArith.toNat_lt_of_zero_sle_of_slt_ofNat _ 65536 (by decide) ((ofBool_eq_one_iff _).1 h2) ((ofBool_eq_one_iff _).1 h3)
  · intro i
    have h1 := cmpi_eq_iff.1 (Host.reduce_andi_all _ _ _ _ _ eb (ix2 i (0 : Fin 1)))
    refine ((extractStridedSlice_apply ![0, 0] v Cert.Pre_ids_in_table_KernelIdeal.Facts.slices_S1024x1_S512x1_0_0 (ix2 i (0 : Fin 1))
      (ix2 (⟨i.val, by omega⟩ : Fin 1024) (0 : Fin 1)) (fun a => ?_)).symm.trans h1).trans
      (extractStridedSlice_apply ![512, 0] v Cert.Pre_ids_in_table_KernelIdeal.Facts.slices_S1024x1_S512x1_512_0 (ix2 i (0 : Fin 1))
      (ix2 (⟨512 + i.val, by omega⟩ : Fin 1024) (0 : Fin 1)) (fun a => ?_))
    · fin_cases a
      · exact (Nat.zero_add _).symm
      · rfl
    · fin_cases a <;> rfl

/-! ## What the kernel reads -/

section
open Cert.KernelIdeal Cert.KernelIdeal.Gen
variable (m : (ℓ : Loc nD τ sig) → Buf (Elt Ideal) ℓ)

/-- The staged part of the table is the whole of the device's argument. -/
theorem tab_ins (c : Dev nD) (i : S2048x256.Idx) : tabAt (ins m) c i = m ((c : Thread nD τ).loc main_arg0) i := by
  show m ((c : Thread nD τ).loc main_arg0) _ = m ((c : Thread nD τ).loc main_arg0) _
  refine congrArg (m ((c : Thread nD τ).loc main_arg0)) (funext fun a => Fin.ext ?_)
  have h : ∀ a : Fin 2, win0_0.index t0_0 a * win0_0.size a = 0 := by decide +kernel
  show win0_0.index t0_0 a * win0_0.size a + 1 * (i a : Nat) = (i a : Nat)
  rw [h a, Nat.zero_add, Nat.one_mul]

/-- The staged ids are the whole of the device's argument. -/
theorem idx_ins (c : Dev nD) (i : S1024x1.Idx) : idxAt (ins m) c i = m ((c : Thread nD τ).loc main_arg1) i := by
  show m ((c : Thread nD τ).loc main_arg1) _ = m ((c : Thread nD τ).loc main_arg1) _
  refine congrArg (m ((c : Thread nD τ).loc main_arg1)) (funext fun a => Fin.ext ?_)
  have h : ∀ a : Fin 2, win0_1.index t0_0 a * win0_1.size a = 0 := by decide +kernel
  show win0_1.index t0_0 a * win0_1.size a + 1 * (i a : Nat) = (i a : Nat)
  rw [h a, Nat.zero_add, Nat.one_mul]

end

/-! ## The claim -/

/-- From the same table and ids every device's result is the reference's. -/
theorem exact_ideal : Cert.algebraic_KernelIdeal_ReferenceIdeal_pre_ids_in_table_KernelIdeal := by
  intro m g m' g' hpre hargs
  let T : (⟨2, ![65536, 256]⟩ : Shape).Idx → EReal :=
    m' (((0 : Dev Cert.ReferenceIdeal.nD).tc : Thread Cert.ReferenceIdeal.nD Cert.ReferenceIdeal.τ).loc Cert.ReferenceIdeal.main_arg0)
  let v : IVec ⟨2, ![1024, 1]⟩ 32 :=
    m' (((0 : Dev Cert.ReferenceIdeal.nD).tc : Thread Cert.ReferenceIdeal.nD Cert.ReferenceIdeal.τ).loc Cert.ReferenceIdeal.main_arg1)
  let N : Fin 512 → Nat := fun i => (v (ix2 (⟨i.val, by omega⟩ : Fin 1024) (0 : Fin 1))).toNat
  have hv := pre_read m hpre (0 : Dev Cert.KernelIdeal.nD)
  rw [(hargs (0 : Dev Cert.KernelIdeal.nD)).2] at hv
  obtain ⟨hlt, hdup⟩ := hv
  have hN : ∀ i, N i < 65536 := fun i => hlt _
  have hX : IdsAre (ins m) N := by
    intro d q
    refine ⟨hN _, ?_⟩
    rw [idx_ins, (hargs d).2]
    show v (ix2 q (0 : Fin 1)) = BitVec.ofNat 32 (v (ix2 (⟨q.val % 512, by omega⟩ : Fin 1024) (0 : Fin 1))).toNat
    rw [BitVec.ofNat_toNat, BitVec.setWidth_eq]
    by_cases hq : q.val < 512
    · exact congrArg (fun q => v (ix2 q (0 : Fin 1))) (Fin.ext (Nat.mod_eq_of_lt hq).symm)
    · have h := hdup ⟨q.val - 512, by omega⟩
      have e1 : (⟨q.val % 512, by omega⟩ : Fin 1024) = ⟨q.val - 512, by omega⟩ := Fin.ext (by show q.val % 512 = q.val - 512; omega)
      have e2 : q = ⟨512 + (q.val - 512), by omega⟩ := Fin.ext (by show q.val = 512 + (q.val - 512); omega)
      rw [e1]
      exact (congrArg (fun q => v (ix2 q (0 : Fin 1))) e2).trans h.symm
  have hout : ∀ (i : Fin 512) (k : Fin 256), (outFinal (ins m) (ix2 i k) : EReal) = T (ix2 (⟨N i, hN i⟩ : Fin 65536) k) := by
    intro i k
    have hd : N i / 2048 < 32 := by have := hN i; omega
    rw [outFinal_apply hX i k (⟨N i / 2048, hd⟩ : Dev Cert.KernelIdeal.nD) rfl, tab_ins, (hargs _).1]
    refine congrArg T (funext fun a => Fin.ext ?_)
    fin_cases a
    · show N i / 2048 * 2048 + N i % 2048 = N i
      omega
    · rfl
  refine ⟨_, (θ_run _ _ _).mono (fun r h c => ?_) (run_main m g),
    (θ_run _ _ _).mono (fun r h => h (0 : Dev Cert.ReferenceIdeal.nD)) (Cert.ReferenceIdeal.Value.run m' g')⟩
  refine ⟨(read_final m g r h.1 c).1.trans ?_, (read_final m g r h.1 c).2⟩
  refine funext fun (y : (⟨2, ![512, 256]⟩ : Shape).Idx) => ?_
  obtain ⟨i, k, rfl⟩ : ∃ (i : Fin 512) (k : Fin 256), y = ix2 i k := ⟨y 0, y 1, eq_ix2 y⟩
  refine (hout i k).trans (gather_rows _ T _ i k _ (ref_id v i (N i) (hN i) ?_)).symm
  rw [BitVec.ofNat_toNat, BitVec.setWidth_eq]

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Exact
public import proofs.«01_k».proof.Proof.Gen.Pre_ids_in_table_KernelIdeal
public import proofs.«01_k».proof.Proof.Gen.Pre_ids_in_table_ReferenceIdeal
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts,
    Cert.Pre_ids_in_table_KernelIdeal.Gen.facts, Cert.Pre_ids_in_table_ReferenceIdeal.Gen.facts,
    Cert.KProof.frame_kernel, Cert.KProof.frame_ideal, fun m g _ => Cert.KProof.frame_ideal m g trivial,
    Cert.KProof.frame_reference, fun m g _ => Cert.KProof.frame_reference m g trivial, trivial, Cert.KProof.exact_ideal⟩

end Cert.Proof

end
